-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v891) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x25x3x84x84 : Shape := ⟨5, ![8, 25, 3, 84, 84]⟩
abbrev S8x5x5x5 : Shape := ⟨4, ![8, 5, 5, 5]⟩
abbrev S8x15x3x84x84 : Shape := ⟨5, ![8, 15, 3, 84, 84]⟩
abbrev S64x3x3x3 : Shape := ⟨4, ![64, 3, 3, 3]⟩
abbrev S64 : Shape := ⟨1, ![64]⟩
abbrev S64x64x3x3 : Shape := ⟨4, ![64, 64, 3, 3]⟩
abbrev S_ : Shape := ⟨0, ![]⟩

class Facts : Prop where
  bcast_S_S8x25x3x84x84 : S_.BroadcastsInDim S8x25x3x84x84 (![] : Fin 0 → Fin S8x25x3x84x84.rank)
  bcast_S_S8x15x3x84x84 : S_.BroadcastsInDim S8x15x3x84x84 (![] : Fin 0 → Fin S8x15x3x84x84.rank)
  bcast_S_S64x3x3x3 : S_.BroadcastsInDim S64x3x3x3 (![] : Fin 0 → Fin S64x3x3x3.rank)
  bcast_S_S64x64x3x3 : S_.BroadcastsInDim S64x64x3x3 (![] : Fin 0 → Fin S64x64x3x3.rank)
  bcast_S_S64 : S_.BroadcastsInDim S64 (![] : Fin 0 → Fin S64.rank)

variable [Facts]

def fn_part3 {F : FTy → Type} [FloatOps F] (main_arg17 : FVec F S64 .f32) (main_arg18 : FVec F S64 .f32) (main_v2 : IVec S8x25x3x84x84 1) (main_v5 : IVec S8x15x3x84x84 1) (main_v8 : IVec S64x3x3x3 1) (main_v19 : IVec S64x64x3x3 1) (main_v54 : IVec S64 1) (main_v55 : FVec F S64 .f32) (main_cst_14 : FVec F S_ .f32) : IVec S8x25x3x84x84 1 × IVec S8x15x3x84x84 1 × IVec S64x3x3x3 1 × IVec S64x64x3x3 1 × IVec S64 1 :=
  let main_v56 : FVec F S64 .f32 := broadcastInDim S64 ![] bcast_S_S64 main_cst_14
  let main_v57 : IVec S64 1 := cmpf .olt main_v55 main_v56
  let main_v58 : IVec S64 1 := andi main_v54 main_v57
  let main_v59 : FVec F S64 .f32 := Host.absf main_arg17
  let main_cst_15 : FVec F S_ .f32 := constant S_ .f32 0x7F800000#32
  let main_v60 : FVec F S64 .f32 := broadcastInDim S64 ![] bcast_S_S64 main_cst_15
  let main_v61 : IVec S64 1 := cmpf .olt main_v59 main_v60
  let main_v62 : IVec S64 1 := andi main_v58 main_v61
  let main_v63 : FVec F S64 .f32 := Host.absf main_arg18
  let main_cst_16 : FVec F S_ .f32 := constant S_ .f32 0x7F800000#32
  let main_v64 : FVec F S64 .f32 := broadcastInDim S64 ![] bcast_S_S64 main_cst_16
  let main_v65 : IVec S64 1 := cmpf .olt main_v63 main_v64
  let main_v66 : IVec S64 1 := andi main_v62 main_v65
  (main_v2, main_v5, main_v8, main_v19, main_v66)

def fn_part2 {F : FTy → Type} [FloatOps F] (main_arg10 : FVec F S64 .f32) (main_arg12 : FVec F S64 .f32) (main_arg13 : FVec F S64 .f32) (main_arg14 : FVec F S64 .f32) (main_arg16 : FVec F S64 .f32) (main_arg17 : FVec F S64 .f32) (main_arg18 : FVec F S64 .f32) (main_v2 : IVec S8x25x3x84x84 1) (main_v5 : IVec S8x15x3x84x84 1) (main_v8 : IVec S64x3x3x3 1) (main_v19 : IVec S64x64x3x3 1) (main_v34 : IVec S64 1) (main_v35 : FVec F S64 .f32) (main_v36 : FVec F S64 .f32) : IVec S8x25x3x84x84 1 × IVec S8x15x3x84x84 1 × IVec S64x3x3x3 1 × IVec S64x64x3x3 1 × IVec S64 1 :=
  let main_v37 : IVec S64 1 := cmpf .olt main_v35 main_v36
  let main_v38 : IVec S64 1 := andi main_v34 main_v37
  let main_v39 : FVec F S64 .f32 := Host.absf main_arg10
  let main_cst_10 : FVec F S_ .f32 := constant S_ .f32 0x7F800000#32
  let main_v40 : FVec F S64 .f32 := broadcastInDim S64 ![] bcast_S_S64 main_cst_10
  let main_v41 : IVec S64 1 := cmpf .olt main_v39 main_v40
  let main_v42 : IVec S64 1 := andi main_v38 main_v41
  let main_v43 : FVec F S64 .f32 := Host.absf main_arg12
  let main_cst_11 : FVec F S_ .f32 := constant S_ .f32 0x7F800000#32
  let main_v44 : FVec F S64 .f32 := broadcastInDim S64 ![] bcast_S_S64 main_cst_11
  let main_v45 : IVec S64 1 := cmpf .olt main_v43 main_v44
  let main_v46 : IVec S64 1 := andi main_v42 main_v45
  let main_v47 : FVec F S64 .f32 := Host.absf main_arg13
  let main_cst_12 : FVec F S_ .f32 := constant S_ .f32 0x7F800000#32
  let main_v48 : FVec F S64 .f32 := broadcastInDim S64 ![] bcast_S_S64 main_cst_12
  let main_v49 : IVec S64 1 := cmpf .olt main_v47 main_v48
  let main_v50 : IVec S64 1 := andi main_v46 main_v49
  let main_v51 : FVec F S64 .f32 := Host.absf main_arg14
  let main_cst_13 : FVec F S_ .f32 := constant S_ .f32 0x7F800000#32
  let main_v52 : FVec F S64 .f32 := broadcastInDim S64 ![] bcast_S_S64 main_cst_13
  let main_v53 : IVec S64 1 := cmpf .olt main_v51 main_v52
  let main_v54 : IVec S64 1 := andi main_v50 main_v53
  let main_v55 : FVec F S64 .f32 := Host.absf main_arg16
  let main_cst_14 : FVec F S_ .f32 := constant S_ .f32 0x7F800000#32
  fn_part3 (F := F) main_arg17 main_arg18 main_v2 main_v5 main_v8 main_v19 main_v54 main_v55 main_cst_14

def fn_part1 {F : FTy → Type} [FloatOps F] (main_arg4 : FVec F S64 .f32) (main_arg5 : FVec F S64 .f32) (main_arg6 : FVec F S64 .f32) (main_arg8 : FVec F S64 .f32) (main_arg9 : FVec F S64 .f32) (main_arg10 : FVec F S64 .f32) (main_arg12 : FVec F S64 .f32) (main_arg13 : FVec F S64 .f32) (main_arg14 : FVec F S64 .f32) (main_arg16 : FVec F S64 .f32) (main_arg17 : FVec F S64 .f32) (main_arg18 : FVec F S64 .f32) (main_v2 : IVec S8x25x3x84x84 1) (main_v5 : IVec S8x15x3x84x84 1) (main_v8 : IVec S64x3x3x3 1) (main_v15 : IVec S64x64x3x3 1) (main_v16 : FVec F S64x64x3x3 .f32) (main_v17 : FVec F S64x64x3x3 .f32) : IVec S8x25x3x84x84 1 × IVec S8x15x3x84x84 1 × IVec S64x3x3x3 1 × IVec S64x64x3x3 1 × IVec S64 1 :=
  let main_v18 : IVec S64x64x3x3 1 := cmpf .olt main_v16 main_v17
  let main_v19 : IVec S64x64x3x3 1 := andi main_v15 main_v18
  let main_v20 : FVec F S64 .f32 := Host.absf main_arg4
  let main_cst_5 : FVec F S_ .f32 := constant S_ .f32 0x7F800000#32
  let main_v21 : FVec F S64 .f32 := broadcastInDim S64 ![] bcast_S_S64 main_cst_5
  let main_v22 : IVec S64 1 := cmpf .olt main_v20 main_v21
  let main_v23 : FVec F S64 .f32 := Host.absf main_arg5
  let main_cst_6 : FVec F S_ .f32 := constant S_ .f32 0x7F800000#32
  let main_v24 : FVec F S64 .f32 := broadcastInDim S64 ![] bcast_S_S64 main_cst_6
  let main_v25 : IVec S64 1 := cmpf .olt main_v23 main_v24
  let main_v26 : IVec S64 1 := andi main_v22 main_v25
  let main_v27 : FVec F S64 .f32 := Host.absf main_arg6
  let main_cst_7 : FVec F S_ .f32 := constant S_ .f32 0x7F800000#32
  let main_v28 : FVec F S64 .f32 := broadcastInDim S64 ![] bcast_S_S64 main_cst_7
  let main_v29 : IVec S64 1 := cmpf .olt main_v27 main_v28
  let main_v30 : IVec S64 1 := andi main_v26 main_v29
  let main_v31 : FVec F S64 .f32 := Host.absf main_arg8
  let main_cst_8 : FVec F S_ .f32 := constant S_ .f32 0x7F800000#32
  let main_v32 : FVec F S64 .f32 := broadcastInDim S64 ![] bcast_S_S64 main_cst_8
  let main_v33 : IVec S64 1 := cmpf .olt main_v31 main_v32
  let main_v34 : IVec S64 1 := andi main_v30 main_v33
  let main_v35 : FVec F S64 .f32 := Host.absf main_arg9
  let main_cst_9 : FVec F S_ .f32 := constant S_ .f32 0x7F800000#32
  let main_v36 : FVec F S64 .f32 := broadcastInDim S64 ![] bcast_S_S64 main_cst_9
  fn_part2 (F := F) main_arg10 main_arg12 main_arg13 main_arg14 main_arg16 main_arg17 main_arg18 main_v2 main_v5 main_v8 main_v19 main_v34 main_v35 main_v36

def fn {F : FTy → Type} [FloatOps F] (main_arg0 : FVec F S8x25x3x84x84 .f32) (main_arg1 : FVec F S8x5x5x5 .f32) (main_arg2 : FVec F S8x15x3x84x84 .f32) (main_arg3 : FVec F S64x3x3x3 .f32) (main_arg4 : FVec F S64 .f32) (main_arg5 : FVec F S64 .f32) (main_arg6 : FVec F S64 .f32) (main_arg7 : FVec F S64x64x3x3 .f32) (main_arg8 : FVec F S64 .f32) (main_arg9 : FVec F S64 .f32) (main_arg10 : FVec F S64 .f32) (main_arg11 : FVec F S64x64x3x3 .f32) (main_arg12 : FVec F S64 .f32) (main_arg13 : FVec F S64 .f32) (main_arg14 : FVec F S64 .f32) (main_arg15 : FVec F S64x64x3x3 .f32) (main_arg16 : FVec F S64 .f32) (main_arg17 : FVec F S64 .f32) (main_arg18 : FVec F S64 .f32) : IVec S8x25x3x84x84 1 × IVec S8x15x3x84x84 1 × IVec S64x3x3x3 1 × IVec S64x64x3x3 1 × IVec S64 1 :=
  let main_v0 : FVec F S8x25x3x84x84 .f32 := Host.absf main_arg0
  let main_cst : FVec F S_ .f32 := constant S_ .f32 0x7F800000#32
  let main_v1 : FVec F S8x25x3x84x84 .f32 := broadcastInDim S8x25x3x84x84 ![] bcast_S_S8x25x3x84x84 main_cst
  let main_v2 : IVec S8x25x3x84x84 1 := cmpf .olt main_v0 main_v1
  let main_v3 : FVec F S8x15x3x84x84 .f32 := Host.absf main_arg2
  let main_cst_0 : FVec F S_ .f32 := constant S_ .f32 0x7F800000#32
  let main_v4 : FVec F S8x15x3x84x84 .f32 := broadcastInDim S8x15x3x84x84 ![] bcast_S_S8x15x3x84x84 main_cst_0
  let main_v5 : IVec S8x15x3x84x84 1 := cmpf .olt main_v3 main_v4
  let main_v6 : FVec F S64x3x3x3 .f32 := Host.absf main_arg3
  let main_cst_1 : FVec F S_ .f32 := constant S_ .f32 0x7F800000#32
  let main_v7 : FVec F S64x3x3x3 .f32 := broadcastInDim S64x3x3x3 ![] bcast_S_S64x3x3x3 main_cst_1
  let main_v8 : IVec S64x3x3x3 1 := cmpf .olt main_v6 main_v7
  let main_v9 : FVec F S64x64x3x3 .f32 := Host.absf main_arg7
  let main_cst_2 : FVec F S_ .f32 := constant S_ .f32 0x7F800000#32
  let main_v10 : FVec F S64x64x3x3 .f32 := broadcastInDim S64x64x3x3 ![] bcast_S_S64x64x3x3 main_cst_2
  let main_v11 : IVec S64x64x3x3 1 := cmpf .olt main_v9 main_v10
  let main_v12 : FVec F S64x64x3x3 .f32 := Host.absf main_arg11
  let main_cst_3 : FVec F S_ .f32 := constant S_ .f32 0x7F800000#32
  let main_v13 : FVec F S64x64x3x3 .f32 := broadcastInDim S64x64x3x3 ![] bcast_S_S64x64x3x3 main_cst_3
  let main_v14 : IVec S64x64x3x3 1 := cmpf .olt main_v12 main_v13
  let main_v15 : IVec S64x64x3x3 1 := andi main_v11 main_v14
  let main_v16 : FVec F S64x64x3x3 .f32 := Host.absf main_arg15
  let main_cst_4 : FVec F S_ .f32 := constant S_ .f32 0x7F800000#32
  let main_v17 : FVec F S64x64x3x3 .f32 := broadcastInDim S64x64x3x3 ![] bcast_S_S64x64x3x3 main_cst_4
  fn_part1 (F := F) main_arg4 main_arg5 main_arg6 main_arg8 main_arg9 main_arg10 main_arg12 main_arg13 main_arg14 main_arg16 main_arg17 main_arg18 main_v2 main_v5 main_v8 main_v15 main_v16 main_v17
-- ==== Kernel.lean ====
abbrev S8x25x3x84x84 : Shape := ⟨5, ![8, 25, 3, 84, 84]⟩
abbrev S8x5x5x5 : Shape := ⟨4, ![8, 5, 5, 5]⟩
abbrev S8x15x3x84x84 : Shape := ⟨5, ![8, 15, 3, 84, 84]⟩
abbrev S64x3x3x3 : Shape := ⟨4, ![64, 3, 3, 3]⟩
abbrev S64 : Shape := ⟨1, ![64]⟩
abbrev S64x64x3x3 : Shape := ⟨4, ![64, 64, 3, 3]⟩
abbrev S3x3x3x64 : Shape := ⟨4, ![3, 3, 3, 64]⟩
abbrev S_ : Shape := ⟨0, ![]⟩
abbrev S3x3x8x64 : Shape := ⟨4, ![3, 3, 8, 64]⟩
abbrev S72x64 : Shape := ⟨2, ![72, 64]⟩
abbrev S3x3x64x64 : Shape := ⟨4, ![3, 3, 64, 64]⟩
abbrev S576x64 : Shape := ⟨2, ![576, 64]⟩
abbrev S1x64 : Shape := ⟨2, ![1, 64]⟩
abbrev S200x3x84x84 : Shape := ⟨4, ![200, 3, 84, 84]⟩
abbrev S120x3x84x84 : Shape := ⟨4, ![120, 3, 84, 84]⟩
abbrev S200x8x86x86 : Shape := ⟨4, ![200, 8, 86, 86]⟩
abbrev S200x8x7396 : Shape := ⟨3, ![200, 8, 7396]⟩
abbrev S200x8x7680 : Shape := ⟨3, ![200, 8, 7680]⟩
abbrev S200x84x84x64 : Shape := ⟨4, ![200, 84, 84, 64]⟩
abbrev S200x2x64 : Shape := ⟨3, ![200, 2, 64]⟩
abbrev S1x8x7680 : Shape := ⟨3, ![1, 8, 7680]⟩
abbrev S1x84x84x64 : Shape := ⟨4, ![1, 84, 84, 64]⟩
abbrev S1x2x64 : Shape := ⟨3, ![1, 2, 64]⟩
abbrev S72x7424 : Shape := ⟨2, ![72, 7424]⟩
abbrev S86x86x64 : Shape := ⟨3, ![86, 86, 64]⟩
abbrev S1x8x7424 : Shape := ⟨3, ![1, 8, 7424]⟩
abbrev S8x7424 : Shape := ⟨2, ![8, 7424]⟩
abbrev S64x7424 : Shape := ⟨2, ![64, 7424]⟩
abbrev S64x1 : Shape := ⟨2, ![64, 1]⟩
abbrev S7424x64 : Shape := ⟨2, ![7424, 64]⟩
abbrev S7396x64 : Shape := ⟨2, ![7396, 64]⟩
abbrev S84x84x64 : Shape := ⟨3, ![84, 84, 64]⟩
abbrev S2x64 : Shape := ⟨2, ![2, 64]⟩
abbrev S200x42x42x64 : Shape := ⟨4, ![200, 42, 42, 64]⟩
abbrev S1x42x42x64 : Shape := ⟨4, ![1, 42, 42, 64]⟩
abbrev S44x44x64 : Shape := ⟨3, ![44, 44, 64]⟩
abbrev S1764x576 : Shape := ⟨2, ![1764, 576]⟩
abbrev S42x42x64 : Shape := ⟨3, ![42, 42, 64]⟩
abbrev S1x1x64 : Shape := ⟨3, ![1, 1, 64]⟩
abbrev S44x64 : Shape := ⟨2, ![44, 64]⟩
abbrev S1x44x64 : Shape := ⟨3, ![1, 44, 64]⟩
abbrev S44x1x64 : Shape := ⟨3, ![44, 1, 64]⟩
abbrev S1764x64 : Shape := ⟨2, ![1764, 64]⟩
abbrev S200x21x21x64 : Shape := ⟨4, ![200, 21, 21, 64]⟩
abbrev S1x21x21x64 : Shape := ⟨4, ![1, 21, 21, 64]⟩
abbrev S23x23x64 : Shape := ⟨3, ![23, 23, 64]⟩
abbrev S441x576 : Shape := ⟨2, ![441, 576]⟩
abbrev S21x21x64 : Shape := ⟨3, ![21, 21, 64]⟩
abbrev S23x64 : Shape := ⟨2, ![23, 64]⟩
abbrev S1x23x64 : Shape := ⟨3, ![1, 23, 64]⟩
abbrev S23x1x64 : Shape := ⟨3, ![23, 1, 64]⟩
abbrev S441x64 : Shape := ⟨2, ![441, 64]⟩
abbrev S200x10x10x64 : Shape := ⟨4, ![200, 10, 10, 64]⟩
abbrev S1x10x10x64 : Shape := ⟨4, ![1, 10, 10, 64]⟩
abbrev S12x12x64 : Shape := ⟨3, ![12, 12, 64]⟩
abbrev S100x576 : Shape := ⟨2, ![100, 576]⟩
abbrev S10x10x64 : Shape := ⟨3, ![10, 10, 64]⟩
abbrev S12x64 : Shape := ⟨2, ![12, 64]⟩
abbrev S1x12x64 : Shape := ⟨3, ![1, 12, 64]⟩
abbrev S12x1x64 : Shape := ⟨3, ![12, 1, 64]⟩
abbrev S100x64 : Shape := ⟨2, ![100, 64]⟩
abbrev S200x25x64 : Shape := ⟨3, ![200, 25, 64]⟩
abbrev S1x25x64 : Shape := ⟨3, ![1, 25, 64]⟩
abbrev S1x5x5x64 : Shape := ⟨4, ![1, 5, 5, 64]⟩
abbrev S5x5x64 : Shape := ⟨3, ![5, 5, 64]⟩
abbrev S25x64 : Shape := ⟨2, ![25, 64]⟩
abbrev S120x8x86x86 : Shape := ⟨4, ![120, 8, 86, 86]⟩
abbrev S120x8x7396 : Shape := ⟨3, ![120, 8, 7396]⟩
abbrev S120x8x7680 : Shape := ⟨3, ![120, 8, 7680]⟩
abbrev S120x84x84x64 : Shape := ⟨4, ![120, 84, 84, 64]⟩
abbrev S120x2x64 : Shape := ⟨3, ![120, 2, 64]⟩
abbrev S120x42x42x64 : Shape := ⟨4, ![120, 42, 42, 64]⟩
abbrev S120x21x21x64 : Shape := ⟨4, ![120, 21, 21, 64]⟩
abbrev S120x10x10x64 : Shape := ⟨4, ![120, 10, 10, 64]⟩
abbrev S120x25x64 : Shape := ⟨3, ![120, 25, 64]⟩
abbrev S8x5x5x1600 : Shape := ⟨4, ![8, 5, 5, 1600]⟩
abbrev S8x25x1600 : Shape := ⟨3, ![8, 25, 1600]⟩
abbrev S8x15x1600 : Shape := ⟨3, ![8, 15, 1600]⟩
abbrev S8x15x5 : Shape := ⟨3, ![8, 15, 5]⟩
abbrev S1x25x1600 : Shape := ⟨3, ![1, 25, 1600]⟩
abbrev S1x15x1600 : Shape := ⟨3, ![1, 15, 1600]⟩
abbrev S1x15x5 : Shape := ⟨3, ![1, 15, 5]⟩
abbrev S25x1600 : Shape := ⟨2, ![25, 1600]⟩
abbrev S15x1600 : Shape := ⟨2, ![15, 1600]⟩
abbrev S5x1600 : Shape := ⟨2, ![5, 1600]⟩
abbrev S15x25 : Shape := ⟨2, ![15, 25]⟩
abbrev S15x5 : Shape := ⟨2, ![15, 5]⟩
abbrev S15 : Shape := ⟨1, ![15]⟩
abbrev S15x1 : Shape := ⟨2, ![15, 1]⟩
abbrev S5 : Shape := ⟨1, ![5]⟩
abbrev S1x5 : Shape := ⟨2, ![1, 5]⟩

abbrev nBuf : Space → Nat
  | .hbm => 81
  | .vmem => 118
  | .smem => 0
  | _ => 0

abbrev bufTy : (tb : Table) → Fin (tcTables nBuf tb) → BufTy
  | .hbm, ⟨0, _⟩ => ⟨S8x25x3x84x84, .f32⟩
  | .hbm, ⟨1, _⟩ => ⟨S8x5x5x5, .f32⟩
  | .hbm, ⟨2, _⟩ => ⟨S8x15x3x84x84, .f32⟩
  | .hbm, ⟨3, _⟩ => ⟨S64x3x3x3, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64x3x3, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x64x3x3, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x64x3x3, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S3x3x3x64, .f32⟩
  | .hbm, ⟨20, _⟩ => ⟨S_, .i32⟩
  | .hbm, ⟨21, _⟩ => ⟨S_, .f32⟩
  | .hbm, ⟨22, _⟩ => ⟨S3x3x8x64, .f32⟩
  | .hbm, ⟨23, _⟩ => ⟨S72x64, .f32⟩
  | .hbm, ⟨24, _⟩ => ⟨S3x3x64x64, .f32⟩
  | .hbm, ⟨25, _⟩ => ⟨S576x64, .f32⟩
  | .hbm, ⟨26, _⟩ => ⟨S3x3x64x64, .f32⟩
  | .hbm, ⟨27, _⟩ => ⟨S576x64, .f32⟩
  | .hbm, ⟨28, _⟩ => ⟨S3x3x64x64, .f32⟩
  | .hbm, ⟨29, _⟩ => ⟨S576x64, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S200x3x84x84, .f32⟩
  | .hbm, ⟨43, _⟩ => ⟨S120x3x84x84, .f32⟩
  | .hbm, ⟨44, _⟩ => ⟨S_, .i32⟩
  | .hbm, ⟨45, _⟩ => ⟨S_, .f32⟩
  | .hbm, ⟨46, _⟩ => ⟨S200x8x86x86, .f32⟩
  | .hbm, ⟨47, _⟩ => ⟨S200x8x7396, .f32⟩
  | .hbm, ⟨48, _⟩ => ⟨S_, .i32⟩
  | .hbm, ⟨49, _⟩ => ⟨S_, .f32⟩
  | .hbm, ⟨50, _⟩ => ⟨S200x8x7680, .f32⟩
  | .hbm, ⟨51, _⟩ => ⟨S200x84x84x64, .f32⟩
  | .hbm, ⟨52, _⟩ => ⟨S200x2x64, .f32⟩
  | .hbm, ⟨53, _⟩ => ⟨S200x42x42x64, .f32⟩
  | .hbm, ⟨54, _⟩ => ⟨S200x2x64, .f32⟩
  | .hbm, ⟨55, _⟩ => ⟨S200x21x21x64, .f32⟩
  | .hbm, ⟨56, _⟩ => ⟨S200x2x64, .f32⟩
  | .hbm, ⟨57, _⟩ => ⟨S200x10x10x64, .f32⟩
  | .hbm, ⟨58, _⟩ => ⟨S200x2x64, .f32⟩
  | .hbm, ⟨59, _⟩ => ⟨S200x25x64, .f32⟩
  | .hbm, ⟨60, _⟩ => ⟨S_, .i32⟩
  | .hbm, ⟨61, _⟩ => ⟨S_, .f32⟩
  | .hbm, ⟨62, _⟩ => ⟨S120x8x86x86, .f32⟩
  | .hbm, ⟨63, _⟩ => ⟨S120x8x7396, .f32⟩
  | .hbm, ⟨64, _⟩ => ⟨S_, .i32⟩
  | .hbm, ⟨65, _⟩ => ⟨S_, .f32⟩
  | .hbm, ⟨66, _⟩ => ⟨S120x8x7680, .f32⟩
  | .hbm, ⟨67, _⟩ => ⟨S120x84x84x64, .f32⟩
  | .hbm, ⟨68, _⟩ => ⟨S120x2x64, .f32⟩
  | .hbm, ⟨69, _⟩ => ⟨S120x42x42x64, .f32⟩
  | .hbm, ⟨70, _⟩ => ⟨S120x2x64, .f32⟩
  | .hbm, ⟨71, _⟩ => ⟨S120x21x21x64, .f32⟩
  | .hbm, ⟨72, _⟩ => ⟨S120x2x64, .f32⟩
  | .hbm, ⟨73, _⟩ => ⟨S120x10x10x64, .f32⟩
  | .hbm, ⟨74, _⟩ => ⟨S120x2x64, .f32⟩
  | .hbm, ⟨75, _⟩ => ⟨S120x25x64, .f32⟩
  | .hbm, ⟨76, _⟩ => ⟨S8x5x5x1600, .f32⟩
  | .hbm, ⟨77, _⟩ => ⟨S8x5x5x1600, .f32⟩
  | .hbm, ⟨78, _⟩ => ⟨S8x25x1600, .f32⟩
  | .hbm, ⟨79, _⟩ => ⟨S8x15x1600, .f32⟩
  | .hbm, ⟨80, _⟩ => ⟨S8x15x5, .f32⟩
  | .local _ .vmem, ⟨0, _⟩ => ⟨S1x8x7680, .f32⟩
  | .local _ .vmem, ⟨1, _⟩ => ⟨S1x8x7680, .f32⟩
  | .local _ .vmem, ⟨2, _⟩ => ⟨S72x64, .f32⟩
  | .local _ .vmem, ⟨3, _⟩ => ⟨S1x64, .f32⟩
  | .local _ .vmem, ⟨4, _⟩ => ⟨S1x84x84x64, .f32⟩
  | .local _ .vmem, ⟨5, _⟩ => ⟨S1x84x84x64, .f32⟩
  | .local _ .vmem, ⟨6, _⟩ => ⟨S1x2x64, .f32⟩
  | .local _ .vmem, ⟨7, _⟩ => ⟨S1x2x64, .f32⟩
  | .local _ .vmem, ⟨8, _⟩ => ⟨S72x7424, .f32⟩
  | .local _ .vmem, ⟨9, _⟩ => ⟨S86x86x64, .f32⟩
  | .local _ .vmem, ⟨10, _⟩ => ⟨S1x84x84x64, .f32⟩
  | .local _ .vmem, ⟨11, _⟩ => ⟨S1x84x84x64, .f32⟩
  | .local _ .vmem, ⟨12, _⟩ => ⟨S200x2x64, .f32⟩
  | .local _ .vmem, ⟨13, _⟩ => ⟨S576x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x42x42x64, .f32⟩
  | .local _ .vmem, ⟨18, _⟩ => ⟨S1x42x42x64, .f32⟩
  | .local _ .vmem, ⟨19, _⟩ => ⟨S1x2x64, .f32⟩
  | .local _ .vmem, ⟨20, _⟩ => ⟨S1x2x64, .f32⟩
  | .local _ .vmem, ⟨21, _⟩ => ⟨S44x44x64, .f32⟩
  | .local _ .vmem, ⟨22, _⟩ => ⟨S1764x576, .f32⟩
  | .local _ .vmem, ⟨23, _⟩ => ⟨S1x42x42x64, .f32⟩
  | .local _ .vmem, ⟨24, _⟩ => ⟨S1x42x42x64, .f32⟩
  | .local _ .vmem, ⟨25, _⟩ => ⟨S200x2x64, .f32⟩
  | .local _ .vmem, ⟨26, _⟩ => ⟨S576x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x21x21x64, .f32⟩
  | .local _ .vmem, ⟨31, _⟩ => ⟨S1x21x21x64, .f32⟩
  | .local _ .vmem, ⟨32, _⟩ => ⟨S1x2x64, .f32⟩
  | .local _ .vmem, ⟨33, _⟩ => ⟨S1x2x64, .f32⟩
  | .local _ .vmem, ⟨34, _⟩ => ⟨S23x23x64, .f32⟩
  | .local _ .vmem, ⟨35, _⟩ => ⟨S441x576, .f32⟩
  | .local _ .vmem, ⟨36, _⟩ => ⟨S1x21x21x64, .f32⟩
  | .local _ .vmem, ⟨37, _⟩ => ⟨S1x21x21x64, .f32⟩
  | .local _ .vmem, ⟨38, _⟩ => ⟨S200x2x64, .f32⟩
  | .local _ .vmem, ⟨39, _⟩ => ⟨S576x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S1x10x10x64, .f32⟩
  | .local _ .vmem, ⟨44, _⟩ => ⟨S1x10x10x64, .f32⟩
  | .local _ .vmem, ⟨45, _⟩ => ⟨S1x2x64, .f32⟩
  | .local _ .vmem, ⟨46, _⟩ => ⟨S1x2x64, .f32⟩
  | .local _ .vmem, ⟨47, _⟩ => ⟨S12x12x64, .f32⟩
  | .local _ .vmem, ⟨48, _⟩ => ⟨S100x576, .f32⟩
  | .local _ .vmem, ⟨49, _⟩ => ⟨S1x10x10x64, .f32⟩
  | .local _ .vmem, ⟨50, _⟩ => ⟨S1x10x10x64, .f32⟩
  | .local _ .vmem, ⟨51, _⟩ => ⟨S200x2x64, .f32⟩
  | .local _ .vmem, ⟨52, _⟩ => ⟨S1x64, .f32⟩
  | .local _ .vmem, ⟨53, _⟩ => ⟨S1x64, .f32⟩
  | .local _ .vmem, ⟨54, _⟩ => ⟨S1x25x64, .f32⟩
  | .local _ .vmem, ⟨55, _⟩ => ⟨S1x25x64, .f32⟩
  | .local _ .vmem, ⟨56, _⟩ => ⟨S1x8x7680, .f32⟩
  | .local _ .vmem, ⟨57, _⟩ => ⟨S1x8x7680, .f32⟩
  | .local _ .vmem, ⟨58, _⟩ => ⟨S72x64, .f32⟩
  | .local _ .vmem, ⟨59, _⟩ => ⟨S1x64, .f32⟩
  | .local _ .vmem, ⟨60, _⟩ => ⟨S1x84x84x64, .f32⟩
  | .local _ .vmem, ⟨61, _⟩ => ⟨S1x84x84x64, .f32⟩
  | .local _ .vmem, ⟨62, _⟩ => ⟨S1x2x64, .f32⟩
  | .local _ .vmem, ⟨63, _⟩ => ⟨S1x2x64, .f32⟩
  | .local _ .vmem, ⟨64, _⟩ => ⟨S72x7424, .f32⟩
  | .local _ .vmem, ⟨65, _⟩ => ⟨S86x86x64, .f32⟩
  | .local _ .vmem, ⟨66, _⟩ => ⟨S1x84x84x64, .f32⟩
  | .local _ .vmem, ⟨67, _⟩ => ⟨S1x84x84x64, .f32⟩
  | .local _ .vmem, ⟨68, _⟩ => ⟨S120x2x64, .f32⟩
  | .local _ .vmem, ⟨69, _⟩ => ⟨S576x64, .f32⟩
  | .local _ .vmem, ⟨70, _⟩ => ⟨S1x64, .f32⟩
  | .local _ .vmem, ⟨71, _⟩ => ⟨S1x64, .f32⟩
  | .local _ .vmem, ⟨72, _⟩ => ⟨S1x64, .f32⟩
  | .local _ .vmem, ⟨73, _⟩ => ⟨S1x42x42x64, .f32⟩
  | .local _ .vmem, ⟨74, _⟩ => ⟨S1x42x42x64, .f32⟩
  | .local _ .vmem, ⟨75, _⟩ => ⟨S1x2x64, .f32⟩
  | .local _ .vmem, ⟨76, _⟩ => ⟨S1x2x64, .f32⟩
  | .local _ .vmem, ⟨77, _⟩ => ⟨S44x44x64, .f32⟩
  | .local _ .vmem, ⟨78, _⟩ => ⟨S1764x576, .f32⟩
  | .local _ .vmem, ⟨79, _⟩ => ⟨S1x42x42x64, .f32⟩
  | .local _ .vmem, ⟨80, _⟩ => ⟨S1x42x42x64, .f32⟩
  | .local _ .vmem, ⟨81, _⟩ => ⟨S120x2x64, .f32⟩
  | .local _ .vmem, ⟨82, _⟩ => ⟨S576x64, .f32⟩
  | .local _ .vmem, ⟨83, _⟩ => ⟨S1x64, .f32⟩
  | .local _ .vmem, ⟨84, _⟩ => ⟨S1x64, .f32⟩
  | .local _ .vmem, ⟨85, _⟩ => ⟨S1x64, .f32⟩
  | .local _ .vmem, ⟨86, _⟩ => ⟨S1x21x21x64, .f32⟩
  | .local _ .vmem, ⟨87, _⟩ => ⟨S1x21x21x64, .f32⟩
  | .local _ .vmem, ⟨88, _⟩ => ⟨S1x2x64, .f32⟩
  | .local _ .vmem, ⟨89, _⟩ => ⟨S1x2x64, .f32⟩
  | .local _ .vmem, ⟨90, _⟩ => ⟨S23x23x64, .f32⟩
  | .local _ .vmem, ⟨91, _⟩ => ⟨S441x576, .f32⟩
  | .local _ .vmem, ⟨92, _⟩ => ⟨S1x21x21x64, .f32⟩
  | .local _ .vmem, ⟨93, _⟩ => ⟨S1x21x21x64, .f32⟩
  | .local _ .vmem, ⟨94, _⟩ => ⟨S120x2x64, .f32⟩
  | .local _ .vmem, ⟨95, _⟩ => ⟨S576x64, .f32⟩
  | .local _ .vmem, ⟨96, _⟩ => ⟨S1x64, .f32⟩
  | .local _ .vmem, ⟨97, _⟩ => ⟨S1x64, .f32⟩
  | .local _ .vmem, ⟨98, _⟩ => ⟨S1x64, .f32⟩
  | .local _ .vmem, ⟨99, _⟩ => ⟨S1x10x10x64, .f32⟩
  | .local _ .vmem, ⟨100, _⟩ => ⟨S1x10x10x64, .f32⟩
  | .local _ .vmem, ⟨101, _⟩ => ⟨S1x2x64, .f32⟩
  | .local _ .vmem, ⟨102, _⟩ => ⟨S1x2x64, .f32⟩
  | .local _ .vmem, ⟨103, _⟩ => ⟨S12x12x64, .f32⟩
  | .local _ .vmem, ⟨104, _⟩ => ⟨S100x576, .f32⟩
  | .local _ .vmem, ⟨105, _⟩ => ⟨S1x10x10x64, .f32⟩
  | .local _ .vmem, ⟨106, _⟩ => ⟨S1x10x10x64, .f32⟩
  | .local _ .vmem, ⟨107, _⟩ => ⟨S120x2x64, .f32⟩
  | .local _ .vmem, ⟨108, _⟩ => ⟨S1x64, .f32⟩
  | .local _ .vmem, ⟨109, _⟩ => ⟨S1x64, .f32⟩
  | .local _ .vmem, ⟨110, _⟩ => ⟨S1x25x64, .f32⟩
  | .local _ .vmem, ⟨111, _⟩ => ⟨S1x25x64, .f32⟩
  | .local _ .vmem, ⟨112, _⟩ => ⟨S1x25x1600, .f32⟩
  | .local _ .vmem, ⟨113, _⟩ => ⟨S1x25x1600, .f32⟩
  | .local _ .vmem, ⟨114, _⟩ => ⟨S1x15x1600, .f32⟩
  | .local _ .vmem, ⟨115, _⟩ => ⟨S1x15x1600, .f32⟩
  | .local _ .vmem, ⟨116, _⟩ => ⟨S1x15x5, .f32⟩
  | .local _ .vmem, ⟨117, _⟩ => ⟨S1x15x5, .f32⟩
  | _, _ => ⟨S8x25x3x84x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | _, _ => false

abbrev semScoped : Fin 0 → Bool
  | ⟨_, h⟩ => absurd h (Nat.not_lt_zero _)

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  ofTc nBuf bufTy 0 102 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_0 : Ref sig .tc := ⟨.hbm, 44, rfl⟩
abbrev main_call1_v0 : Ref sig .tc := ⟨.hbm, 45, rfl⟩
abbrev main_v23 : Ref sig .tc := ⟨.hbm, 46, rfl⟩
abbrev main_v24 : Ref sig .tc := ⟨.hbm, 47, rfl⟩
abbrev main_c_1 : Ref sig .tc := ⟨.hbm, 48, rfl⟩
abbrev main_call2_v0 : Ref sig .tc := ⟨.hbm, 49, rfl⟩
abbrev main_v25 : Ref sig .tc := ⟨.hbm, 50, rfl⟩
abbrev main_v26_0 : Ref sig .tc := ⟨.hbm, 51, rfl⟩
abbrev main_v26_1 : Ref sig .tc := ⟨.hbm, 52, rfl⟩
abbrev main_v27_0 : Ref sig .tc := ⟨.hbm, 53, rfl⟩
abbrev main_v27_1 : Ref sig .tc := ⟨.hbm, 54, rfl⟩
abbrev main_v28_0 : Ref sig .tc := ⟨.hbm, 55, rfl⟩
abbrev main_v28_1 : Ref sig .tc := ⟨.hbm, 56, rfl⟩
abbrev main_v29_0 : Ref sig .tc := ⟨.hbm, 57, rfl⟩
abbrev main_v29_1 : Ref sig .tc := ⟨.hbm, 58, rfl⟩
abbrev main_v30 : Ref sig .tc := ⟨.hbm, 59, rfl⟩
abbrev main_c_2 : Ref sig .tc := ⟨.hbm, 60, rfl⟩
abbrev main_call3_v0 : Ref sig .tc := ⟨.hbm, 61, rfl⟩
abbrev main_v31 : Ref sig .tc := ⟨.hbm, 62, rfl⟩
abbrev main_v32 : Ref sig .tc := ⟨.hbm, 63, rfl⟩
abbrev main_c_3 : Ref sig .tc := ⟨.hbm, 64, rfl⟩
abbrev main_call4_v0 : Ref sig .tc := ⟨.hbm, 65, rfl⟩
abbrev main_v33 : Ref sig .tc := ⟨.hbm, 66, rfl⟩
abbrev main_v34_0 : Ref sig .tc := ⟨.hbm, 67, rfl⟩
abbrev main_v34_1 : Ref sig .tc := ⟨.hbm, 68, rfl⟩
abbrev main_v35_0 : Ref sig .tc := ⟨.hbm, 69, rfl⟩
abbrev main_v35_1 : Ref sig .tc := ⟨.hbm, 70, rfl⟩
abbrev main_v36_0 : Ref sig .tc := ⟨.hbm, 71, rfl⟩
abbrev main_v36_1 : Ref sig .tc := ⟨.hbm, 72, rfl⟩
abbrev main_v37_0 : Ref sig .tc := ⟨.hbm, 73, rfl⟩
abbrev main_v37_1 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg6_1 : Ref sig .tc := ⟨.vmem, 44, rfl⟩
abbrev cc3_stg7_0 : Ref sig .tc := ⟨.vmem, 45, rfl⟩
abbrev cc3_stg7_1 : Ref sig .tc := ⟨.vmem, 46, rfl⟩
abbrev cc3_scratch0 : Ref sig .tc := ⟨.vmem, 47, rfl⟩
abbrev cc3_scratch1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg4_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg3_1 : Ref sig .tc := ⟨.vmem, 61, rfl⟩
abbrev cc5_stg4_0 : Ref sig .tc := ⟨.vmem, 62, rfl⟩
abbrev cc5_stg4_1 : Ref sig .tc := ⟨.vmem, 63, rfl⟩
abbrev cc5_scratch0 : Ref sig .tc := ⟨.vmem, 64, rfl⟩
abbrev cc5_scratch1 : Ref sig .tc := ⟨.vmem, 65, rfl⟩
abbrev cc6_stg0_0 : Ref sig .tc := ⟨.vmem, 66, rfl⟩
abbrev cc6_stg0_1 : Ref sig .tc := ⟨.vmem, 67, rfl⟩
abbrev cc6_stg1_0 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg6_1 : Ref sig .tc := ⟨.vmem, 74, rfl⟩
abbrev cc6_stg7_0 : Ref sig .tc := ⟨.vmem, 75, rfl⟩
abbrev cc6_stg7_1 : Ref sig .tc := ⟨.vmem, 76, rfl⟩
abbrev cc6_scratch0 : Ref sig .tc := ⟨.vmem, 77, rfl⟩
abbrev cc6_scratch1 : Ref sig .tc := ⟨.vmem, 78, rfl⟩
abbrev cc7_stg0_0 : Ref sig .tc := ⟨.vmem, 79, rfl⟩
abbrev cc7_stg0_1 : Ref sig .tc := ⟨.vmem, 80, rfl⟩
abbrev cc7_stg1_0 : Ref sig .tc := ⟨.vmem, 81, rfl⟩
abbrev cc7_stg2_0 : Ref sig .tc := ⟨.vmem, 82, rfl⟩
abbrev cc7_stg3_0 : Ref sig .tc := ⟨.vmem, 83, rfl⟩
abbrev cc7_stg4_0 : Ref sig .tc := ⟨.vmem, 84, rfl⟩
abbrev cc7_stg5_0 : Ref sig .tc := ⟨.vmem, 85, rfl⟩
abbrev cc7_stg6_0 : Ref sig .tc := ⟨.vmem, 86, rfl⟩
abbrev cc7_stg6_1 : Ref sig .tc := ⟨.vmem, 87, rfl⟩
abbrev cc7_stg7_0 : Ref sig .tc := ⟨.vmem, 88, rfl⟩
abbrev cc7_stg7_1 : Ref sig .tc := ⟨.vmem, 89, rfl⟩
abbrev cc7_scratch0 : Ref sig .tc := ⟨.vmem, 90, rfl⟩
abbrev cc7_scratch1 : Ref sig .tc := ⟨.vmem, 91, rfl⟩
abbrev cc8_stg0_0 : Ref sig .tc := ⟨.vmem, 92, rfl⟩
abbrev cc8_stg0_1 : Ref sig .tc := ⟨.vmem, 93, rfl⟩
abbrev cc8_stg1_0 : Ref sig .tc := ⟨.vmem, 94, rfl⟩
abbrev cc8_stg2_0 : Ref sig .tc := ⟨.vmem, 95, rfl⟩
abbrev cc8_stg3_0 : Ref sig .tc := ⟨.vmem, 96, rfl⟩
abbrev cc8_stg4_0 : Ref sig .tc := ⟨.vmem, 97, rfl⟩
abbrev cc8_stg5_0 : Ref sig .tc := ⟨.vmem, 98, rfl⟩
abbrev cc8_stg6_0 : Ref sig .tc := ⟨.vmem, 99, rfl⟩
abbrev cc8_stg6_1 : Ref sig .tc := ⟨.vmem, 100, rfl⟩
abbrev cc8_stg7_0 : Ref sig .tc := ⟨.vmem, 101, rfl⟩
abbrev cc8_stg7_1 : Ref sig .tc := ⟨.vmem, 102, rfl⟩
abbrev cc8_scratch0 : Ref sig .tc := ⟨.vmem, 103, rfl⟩
abbrev cc8_scratch1 : Ref sig .tc := ⟨.vmem, 104, rfl⟩
abbrev cc9_stg0_0 : Ref sig .tc := ⟨.vmem, 105, rfl⟩
abbrev cc9_stg0_1 : Ref sig .tc := ⟨.vmem, 106, rfl⟩
abbrev cc9_stg1_0 : Ref sig .tc := ⟨.vmem, 107, rfl⟩
abbrev cc9_stg2_0 : Ref sig .tc := ⟨.vmem, 108, rfl⟩
abbrev cc9_stg3_0 : Ref sig .tc := ⟨.vmem, 109, rfl⟩
abbrev cc9_stg4_0 : Ref sig .tc := ⟨.vmem, 110, rfl⟩
abbrev cc9_stg4_1 : Ref sig .tc := ⟨.vmem, 111, rfl⟩
abbrev cc10_stg0_0 : Ref sig .tc := ⟨.vmem, 112, rfl⟩
abbrev cc10_stg0_1 : Ref sig .tc := ⟨.vmem, 113, rfl⟩
abbrev cc10_stg1_0 : Ref sig .tc := ⟨.vmem, 114, rfl⟩
abbrev cc10_stg1_1 : Ref sig .tc := ⟨.vmem, 115, rfl⟩
abbrev cc10_stg2_0 : Ref sig .tc := ⟨.vmem, 116, rfl⟩
abbrev cc10_stg2_1 : Ref sig .tc := ⟨.vmem, 117, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38
abbrev cc3_sem7_0 : DmaSem sig := 39
abbrev cc3_sem7_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem4_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem3_0 : DmaSem sig := 52
abbrev cc5_sem3_1 : DmaSem sig := 53
abbrev cc5_sem4_0 : DmaSem sig := 54
abbrev cc5_sem4_1 : DmaSem sig := 55
abbrev cc6_sem0_0 : DmaSem sig := 56
abbrev cc6_sem0_1 : DmaSem sig := 57
abbrev cc6_sem1_0 : DmaSem sig := 58
abbrev cc6_sem2_0 : DmaSem sig := 59
abbrev cc6_sem3_0 : DmaSem sig := 60
abbrev cc6_sem4_0 : DmaSem sig := 61
abbrev cc6_sem5_0 : DmaSem sig := 62
abbrev cc6_sem6_0 : DmaSem sig := 63
abbrev cc6_sem6_1 : DmaSem sig := 64
abbrev cc6_sem7_0 : DmaSem sig := 65
abbrev cc6_sem7_1 : DmaSem sig := 66
abbrev cc7_sem0_0 : DmaSem sig := 67
abbrev cc7_sem0_1 : DmaSem sig := 68
abbrev cc7_sem1_0 : DmaSem sig := 69
abbrev cc7_sem2_0 : DmaSem sig := 70
abbrev cc7_sem3_0 : DmaSem sig := 71
abbrev cc7_sem4_0 : DmaSem sig := 72
abbrev cc7_sem5_0 : DmaSem sig := 73
abbrev cc7_sem6_0 : DmaSem sig := 74
abbrev cc7_sem6_1 : DmaSem sig := 75
abbrev cc7_sem7_0 : DmaSem sig := 76
abbrev cc7_sem7_1 : DmaSem sig := 77
abbrev cc8_sem0_0 : DmaSem sig := 78
abbrev cc8_sem0_1 : DmaSem sig := 79
abbrev cc8_sem1_0 : DmaSem sig := 80
abbrev cc8_sem2_0 : DmaSem sig := 81
abbrev cc8_sem3_0 : DmaSem sig := 82
abbrev cc8_sem4_0 : DmaSem sig := 83
abbrev cc8_sem5_0 : DmaSem sig := 84
abbrev cc8_sem6_0 : DmaSem sig := 85
abbrev cc8_sem6_1 : DmaSem sig := 86
abbrev cc8_sem7_0 : DmaSem sig := 87
abbrev cc8_sem7_1 : DmaSem sig := 88
abbrev cc9_sem0_0 : DmaSem sig := 89
abbrev cc9_sem0_1 : DmaSem sig := 90
abbrev cc9_sem1_0 : DmaSem sig := 91
abbrev cc9_sem2_0 : DmaSem sig := 92
abbrev cc9_sem3_0 : DmaSem sig := 93
abbrev cc9_sem4_0 : DmaSem sig := 94
abbrev cc9_sem4_1 : DmaSem sig := 95
abbrev cc10_sem0_0 : DmaSem sig := 96
abbrev cc10_sem0_1 : DmaSem sig := 97
abbrev cc10_sem1_0 : DmaSem sig := 98
abbrev cc10_sem1_1 : DmaSem sig := 99
abbrev cc10_sem2_0 : DmaSem sig := 100
abbrev cc10_sem2_1 : DmaSem sig := 101

abbrev nD : Nat := 1
abbrev τ : Topo := Topo.v7x

variable {F : FTy → Type} [FloatOps F]

abbrev grid0 : Pipeline.Grid := ⟨1, ![200], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x7680 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S72x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x84x84x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x84x84x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S200x2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S576x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x42x42x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![200], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x42x42x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S200x2x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S576x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x21x21x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x2x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![200], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x21x21x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S200x2x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S576x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x10x10x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x2x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![200], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x10x10x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S200x2x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1x25x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![120], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x8x7680 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S72x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x84x84x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x2x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![120], ![false]⟩

def cc6_transform_0 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x84x84x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S120x2x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S576x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S1x42x42x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x2x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![120], ![false]⟩

def cc7_transform_0 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc7_transform_7 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x42x42x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S120x2x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S576x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S1x21x21x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S1x2x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![120], ![false]⟩

def cc8_transform_0 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_1 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc8_transform_7 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x21x21x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S120x2x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S576x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S1x10x10x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S1x2x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![120], ![false]⟩

def cc9_transform_0 (i : grid9.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc9_transform_1 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x10x10x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S120x2x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1x25x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![8], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x25x1600 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x15x1600 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S1x15x5 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]
-- ==== ReferenceIdeal.lean ====
abbrev S8x25x3x84x84 : Shape := ⟨5, ![8, 25, 3, 84, 84]⟩
abbrev S8x5x5x5 : Shape := ⟨4, ![8, 5, 5, 5]⟩
abbrev S8x15x3x84x84 : Shape := ⟨5, ![8, 15, 3, 84, 84]⟩
abbrev S64x3x3x3 : Shape := ⟨4, ![64, 3, 3, 3]⟩
abbrev S64 : Shape := ⟨1, ![64]⟩
abbrev S64x64x3x3 : Shape := ⟨4, ![64, 64, 3, 3]⟩
abbrev S200x3x84x84 : Shape := ⟨4, ![200, 3, 84, 84]⟩
abbrev S_ : Shape := ⟨0, ![]⟩
abbrev S200x3x86x86 : Shape := ⟨4, ![200, 3, 86, 86]⟩
abbrev S64x3x1x1 : Shape := ⟨4, ![64, 3, 1, 1]⟩
abbrev S64x3 : Shape := ⟨2, ![64, 3]⟩
abbrev S64x200x84x84 : Shape := ⟨4, ![64, 200, 84, 84]⟩
abbrev S200x64x84x84 : Shape := ⟨4, ![200, 64, 84, 84]⟩
abbrev S1x64x1x1 : Shape := ⟨4, ![1, 64, 1, 1]⟩
abbrev S200x64x42x42 : Shape := ⟨4, ![200, 64, 42, 42]⟩
abbrev S200x64x44x44 : Shape := ⟨4, ![200, 64, 44, 44]⟩
abbrev S64x64x1x1 : Shape := ⟨4, ![64, 64, 1, 1]⟩
abbrev S64x64 : Shape := ⟨2, ![64, 64]⟩
abbrev S64x200x42x42 : Shape := ⟨4, ![64, 200, 42, 42]⟩
abbrev S200x64x21x21 : Shape := ⟨4, ![200, 64, 21, 21]⟩
abbrev S200x64x23x23 : Shape := ⟨4, ![200, 64, 23, 23]⟩
abbrev S64x200x21x21 : Shape := ⟨4, ![64, 200, 21, 21]⟩
abbrev S200x64x10x10 : Shape := ⟨4, ![200, 64, 10, 10]⟩
abbrev S200x64x12x12 : Shape := ⟨4, ![200, 64, 12, 12]⟩
abbrev S64x200x10x10 : Shape := ⟨4, ![64, 200, 10, 10]⟩
abbrev S200x64x5x5 : Shape := ⟨4, ![200, 64, 5, 5]⟩
abbrev S200x1600 : Shape := ⟨2, ![200, 1600]⟩
abbrev S8x25x1600 : Shape := ⟨3, ![8, 25, 1600]⟩
abbrev S120x3x84x84 : Shape := ⟨4, ![120, 3, 84, 84]⟩
abbrev S120x3x86x86 : Shape := ⟨4, ![120, 3, 86, 86]⟩
abbrev S64x120x84x84 : Shape := ⟨4, ![64, 120, 84, 84]⟩
abbrev S120x64x84x84 : Shape := ⟨4, ![120, 64, 84, 84]⟩
abbrev S120x64x42x42 : Shape := ⟨4, ![120, 64, 42, 42]⟩
abbrev S120x64x44x44 : Shape := ⟨4, ![120, 64, 44, 44]⟩
abbrev S64x120x42x42 : Shape := ⟨4, ![64, 120, 42, 42]⟩
abbrev S120x64x21x21 : Shape := ⟨4, ![120, 64, 21, 21]⟩
abbrev S120x64x23x23 : Shape := ⟨4, ![120, 64, 23, 23]⟩
abbrev S64x120x21x21 : Shape := ⟨4, ![64, 120, 21, 21]⟩
abbrev S120x64x10x10 : Shape := ⟨4, ![120, 64, 10, 10]⟩
abbrev S120x64x12x12 : Shape := ⟨4, ![120, 64, 12, 12]⟩
abbrev S64x120x10x10 : Shape := ⟨4, ![64, 120, 10, 10]⟩
abbrev S120x64x5x5 : Shape := ⟨4, ![120, 64, 5, 5]⟩
abbrev S120x1600 : Shape := ⟨2, ![120, 1600]⟩
abbrev S8x15x1600 : Shape := ⟨3, ![8, 15, 1600]⟩
abbrev S40x5x1600 : Shape := ⟨3, ![40, 5, 1600]⟩
abbrev S40x4x1600 : Shape := ⟨3, ![40, 4, 1600]⟩
abbrev S40x1x1600 : Shape := ⟨3, ![40, 1, 1600]⟩
abbrev S40x4x4 : Shape := ⟨3, ![40, 4, 4]⟩
abbrev S40x1x1 : Shape := ⟨3, ![40, 1, 1]⟩
abbrev S40 : Shape := ⟨1, ![40]⟩
abbrev S8x5 : Shape := ⟨2, ![8, 5]⟩
abbrev S8x1x25x1600 : Shape := ⟨4, ![8, 1, 25, 1600]⟩
abbrev S8x15x1x1600 : Shape := ⟨4, ![8, 15, 1, 1600]⟩
abbrev S8x15x25x1600 : Shape := ⟨4, ![8, 15, 25, 1600]⟩
abbrev S600x5x1600 : Shape := ⟨3, ![600, 5, 1600]⟩
abbrev S600x5x5 : Shape := ⟨3, ![600, 5, 5]⟩
abbrev S600x1x1 : Shape := ⟨3, ![600, 1, 1]⟩
abbrev S600 : Shape := ⟨1, ![600]⟩
abbrev S8x15x5 : Shape := ⟨3, ![8, 15, 5]⟩
abbrev S8x1x5 : Shape := ⟨3, ![8, 1, 5]⟩

abbrev nBuf : Space → Nat
  | .hbm => 975
  | .vmem => 0
  | .smem => 0
  | _ => 0

abbrev hbmTy0_0 (i : Nat) : BufTy := match i % 128 with
  | 0 => ⟨S8x25x3x84x84, .f32⟩
  | 1 => ⟨S8x5x5x5, .f32⟩
  | 2 => ⟨S8x15x3x84x84, .f32⟩
  | 3 => ⟨S64x3x3x3, .f32⟩
  | 4 => ⟨S64, .f32⟩
  | 5 => ⟨S64, .f32⟩
  | 6 => ⟨S64, .f32⟩
  | 7 => ⟨S64x64x3x3, .f32⟩
  | 8 => ⟨S64, .f32⟩
  | 9 => ⟨S64, .f32⟩
  | 10 => ⟨S64, .f32⟩
  | 11 => ⟨S64x64x3x3, .f32⟩
  | 12 => ⟨S64, .f32⟩
  | 13 => ⟨S64, .f32⟩
  | 14 => ⟨S64, .f32⟩
  | 15 => ⟨S64x64x3x3, .f32⟩
  | 16 => ⟨S64, .f32⟩
  | 17 => ⟨S64, .f32⟩
  | 18 => ⟨S64, .f32⟩
  | 19 => ⟨S200x3x84x84, .f32⟩
  | 20 => ⟨S_, .f32⟩
  | 21 => ⟨S200x3x86x86, .f32⟩
  | 22 => ⟨S64x3x1x1, .f32⟩
  | 23 => ⟨S64x3, .f32⟩
  | 24 => ⟨S200x3x84x84, .f32⟩
  | 25 => ⟨S64x200x84x84, .f32⟩
  | 26 => ⟨S64x3x1x1, .f32⟩
  | 27 => ⟨S64x3, .f32⟩
  | 28 => ⟨S200x3x84x84, .f32⟩
  | 29 => ⟨S64x200x84x84, .f32⟩
  | 30 => ⟨S64x3x1x1, .f32⟩
  | 31 => ⟨S64x3, .f32⟩
  | 32 => ⟨S200x3x84x84, .f32⟩
  | 33 => ⟨S64x200x84x84, .f32⟩
  | 34 => ⟨S64x3x1x1, .f32⟩
  | 35 => ⟨S64x3, .f32⟩
  | 36 => ⟨S200x3x84x84, .f32⟩
  | 37 => ⟨S64x200x84x84, .f32⟩
  | 38 => ⟨S64x3x1x1, .f32⟩
  | 39 => ⟨S64x3, .f32⟩
  | 40 => ⟨S200x3x84x84, .f32⟩
  | 41 => ⟨S64x200x84x84, .f32⟩
  | 42 => ⟨S64x3x1x1, .f32⟩
  | 43 => ⟨S64x3, .f32⟩
  | 44 => ⟨S200x3x84x84, .f32⟩
  | 45 => ⟨S64x200x84x84, .f32⟩
  | 46 => ⟨S64x3x1x1, .f32⟩
  | 47 => ⟨S64x3, .f32⟩
  | 48 => ⟨S200x3x84x84, .f32⟩
  | 49 => ⟨S64x200x84x84, .f32⟩
  | 50 => ⟨S64x3x1x1, .f32⟩
  | 51 => ⟨S64x3, .f32⟩
  | 52 => ⟨S200x3x84x84, .f32⟩
  | 53 => ⟨S64x200x84x84, .f32⟩
  | 54 => ⟨S64x3x1x1, .f32⟩
  | 55 => ⟨S64x3, .f32⟩
  | 56 => ⟨S200x3x84x84, .f32⟩
  | 57 => ⟨S64x200x84x84, .f32⟩
  | 58 => ⟨S64x200x84x84, .f32⟩
  | 59 => ⟨S64x200x84x84, .f32⟩
  | 60 => ⟨S64x200x84x84, .f32⟩
  | 61 => ⟨S64x200x84x84, .f32⟩
  | 62 => ⟨S64x200x84x84, .f32⟩
  | 63 => ⟨S64x200x84x84, .f32⟩
  | 64 => ⟨S64x200x84x84, .f32⟩
  | 65 => ⟨S64x200x84x84, .f32⟩
  | 66 => ⟨S200x64x84x84, .f32⟩
  | 67 => ⟨S1x64x1x1, .f32⟩
  | 68 => ⟨S200x64x84x84, .f32⟩
  | 69 => ⟨S200x64x84x84, .f32⟩
  | 70 => ⟨S_, .f32⟩
  | 71 => ⟨S200x64x84x84, .f32⟩
  | 72 => ⟨S200x64x84x84, .f32⟩
  | 73 => ⟨S_, .f32⟩
  | 74 => ⟨S64, .f32⟩
  | 75 => ⟨S1x64x1x1, .f32⟩
  | 76 => ⟨S_, .f32⟩
  | 77 => ⟨S1x64x1x1, .f32⟩
  | 78 => ⟨S1x64x1x1, .f32⟩
  | 79 => ⟨S200x64x84x84, .f32⟩
  | 80 => ⟨S200x64x84x84, .f32⟩
  | 81 => ⟨S200x64x84x84, .f32⟩
  | 82 => ⟨S_, .f32⟩
  | 83 => ⟨S64, .f32⟩
  | 84 => ⟨S1x64x1x1, .f32⟩
  | 85 => ⟨S_, .f32⟩
  | 86 => ⟨S1x64x1x1, .f32⟩
  | 87 => ⟨S1x64x1x1, .f32⟩
  | 88 => ⟨S200x64x84x84, .f32⟩
  | 89 => ⟨S200x64x84x84, .f32⟩
  | 90 => ⟨S_, .f32⟩
  | 91 => ⟨S1x64x1x1, .f32⟩
  | 92 => ⟨S1x64x1x1, .f32⟩
  | 93 => ⟨S1x64x1x1, .f32⟩
  | 94 => ⟨S200x64x84x84, .f32⟩
  | 95 => ⟨S200x64x84x84, .f32⟩
  | 96 => ⟨S1x64x1x1, .f32⟩
  | 97 => ⟨S200x64x84x84, .f32⟩
  | 98 => ⟨S200x64x84x84, .f32⟩
  | 99 => ⟨S1x64x1x1, .f32⟩
  | 100 => ⟨S200x64x84x84, .f32⟩
  | 101 => ⟨S200x64x84x84, .f32⟩
  | 102 => ⟨S_, .f32⟩
  | 103 => ⟨S_, .f32⟩
  | 104 => ⟨S200x64x42x42, .f32⟩
  | 105 => ⟨S_, .f32⟩
  | 106 => ⟨S200x64x44x44, .f32⟩
  | 107 => ⟨S64x64x1x1, .f32⟩
  | 108 => ⟨S64x64, .f32⟩
  | 109 => ⟨S200x64x42x42, .f32⟩
  | 110 => ⟨S64x200x42x42, .f32⟩
  | 111 => ⟨S64x64x1x1, .f32⟩
  | 112 => ⟨S64x64, .f32⟩
  | 113 => ⟨S200x64x42x42, .f32⟩
  | 114 => ⟨S64x200x42x42, .f32⟩
  | 115 => ⟨S64x64x1x1, .f32⟩
  | 116 => ⟨S64x64, .f32⟩
  | 117 => ⟨S200x64x42x42, .f32⟩
  | 118 => ⟨S64x200x42x42, .f32⟩
  | 119 => ⟨S64x64x1x1, .f32⟩
  | 120 => ⟨S64x64, .f32⟩
  | 121 => ⟨S200x64x42x42, .f32⟩
  | 122 => ⟨S64x200x42x42, .f32⟩
  | 123 => ⟨S64x64x1x1, .f32⟩
  | 124 => ⟨S64x64, .f32⟩
  | 125 => ⟨S200x64x42x42, .f32⟩
  | 126 => ⟨S64x200x42x42, .f32⟩
  | 127 => ⟨S64x64x1x1, .f32⟩
  | _ => ⟨S8x25x3x84x84, .f32⟩

abbrev hbmTy0_1 (i : Nat) : BufTy := match i % 128 with
  | 0 => ⟨S64x64, .f32⟩
  | 1 => ⟨S200x64x42x42, .f32⟩
  | 2 => ⟨S64x200x42x42, .f32⟩
  | 3 => ⟨S64x64x1x1, .f32⟩
  | 4 => ⟨S64x64, .f32⟩
  | 5 => ⟨S200x64x42x42, .f32⟩
  | 6 => ⟨S64x200x42x42, .f32⟩
  | 7 => ⟨S64x64x1x1, .f32⟩
  | 8 => ⟨S64x64, .f32⟩
  | 9 => ⟨S200x64x42x42, .f32⟩
  | 10 => ⟨S64x200x42x42, .f32⟩
  | 11 => ⟨S64x64x1x1, .f32⟩
  | 12 => ⟨S64x64, .f32⟩
  | 13 => ⟨S200x64x42x42, .f32⟩
  | 14 => ⟨S64x200x42x42, .f32⟩
  | 15 => ⟨S64x200x42x42, .f32⟩
  | 16 => ⟨S64x200x42x42, .f32⟩
  | 17 => ⟨S64x200x42x42, .f32⟩
  | 18 => ⟨S64x200x42x42, .f32⟩
  | 19 => ⟨S64x200x42x42, .f32⟩
  | 20 => ⟨S64x200x42x42, .f32⟩
  | 21 => ⟨S64x200x42x42, .f32⟩
  | 22 => ⟨S64x200x42x42, .f32⟩
  | 23 => ⟨S200x64x42x42, .f32⟩
  | 24 => ⟨S1x64x1x1, .f32⟩
  | 25 => ⟨S200x64x42x42, .f32⟩
  | 26 => ⟨S200x64x42x42, .f32⟩
  | 27 => ⟨S_, .f32⟩
  | 28 => ⟨S200x64x42x42, .f32⟩
  | 29 => ⟨S200x64x42x42, .f32⟩
  | 30 => ⟨S_, .f32⟩
  | 31 => ⟨S64, .f32⟩
  | 32 => ⟨S1x64x1x1, .f32⟩
  | 33 => ⟨S_, .f32⟩
  | 34 => ⟨S1x64x1x1, .f32⟩
  | 35 => ⟨S1x64x1x1, .f32⟩
  | 36 => ⟨S200x64x42x42, .f32⟩
  | 37 => ⟨S200x64x42x42, .f32⟩
  | 38 => ⟨S200x64x42x42, .f32⟩
  | 39 => ⟨S_, .f32⟩
  | 40 => ⟨S64, .f32⟩
  | 41 => ⟨S1x64x1x1, .f32⟩
  | 42 => ⟨S_, .f32⟩
  | 43 => ⟨S1x64x1x1, .f32⟩
  | 44 => ⟨S1x64x1x1, .f32⟩
  | 45 => ⟨S200x64x42x42, .f32⟩
  | 46 => ⟨S200x64x42x42, .f32⟩
  | 47 => ⟨S_, .f32⟩
  | 48 => ⟨S1x64x1x1, .f32⟩
  | 49 => ⟨S1x64x1x1, .f32⟩
  | 50 => ⟨S1x64x1x1, .f32⟩
  | 51 => ⟨S200x64x42x42, .f32⟩
  | 52 => ⟨S200x64x42x42, .f32⟩
  | 53 => ⟨S1x64x1x1, .f32⟩
  | 54 => ⟨S200x64x42x42, .f32⟩
  | 55 => ⟨S200x64x42x42, .f32⟩
  | 56 => ⟨S1x64x1x1, .f32⟩
  | 57 => ⟨S200x64x42x42, .f32⟩
  | 58 => ⟨S200x64x42x42, .f32⟩
  | 59 => ⟨S_, .f32⟩
  | 60 => ⟨S_, .f32⟩
  | 61 => ⟨S200x64x21x21, .f32⟩
  | 62 => ⟨S_, .f32⟩
  | 63 => ⟨S200x64x23x23, .f32⟩
  | 64 => ⟨S64x64x1x1, .f32⟩
  | 65 => ⟨S64x64, .f32⟩
  | 66 => ⟨S200x64x21x21, .f32⟩
  | 67 => ⟨S64x200x21x21, .f32⟩
  | 68 => ⟨S64x64x1x1, .f32⟩
  | 69 => ⟨S64x64, .f32⟩
  | 70 => ⟨S200x64x21x21, .f32⟩
  | 71 => ⟨S64x200x21x21, .f32⟩
  | 72 => ⟨S64x64x1x1, .f32⟩
  | 73 => ⟨S64x64, .f32⟩
  | 74 => ⟨S200x64x21x21, .f32⟩
  | 75 => ⟨S64x200x21x21, .f32⟩
  | 76 => ⟨S64x64x1x1, .f32⟩
  | 77 => ⟨S64x64, .f32⟩
  | 78 => ⟨S200x64x21x21, .f32⟩
  | 79 => ⟨S64x200x21x21, .f32⟩
  | 80 => ⟨S64x64x1x1, .f32⟩
  | 81 => ⟨S64x64, .f32⟩
  | 82 => ⟨S200x64x21x21, .f32⟩
  | 83 => ⟨S64x200x21x21, .f32⟩
  | 84 => ⟨S64x64x1x1, .f32⟩
  | 85 => ⟨S64x64, .f32⟩
  | 86 => ⟨S200x64x21x21, .f32⟩
  | 87 => ⟨S64x200x21x21, .f32⟩
  | 88 => ⟨S64x64x1x1, .f32⟩
  | 89 => ⟨S64x64, .f32⟩
  | 90 => ⟨S200x64x21x21, .f32⟩
  | 91 => ⟨S64x200x21x21, .f32⟩
  | 92 => ⟨S64x64x1x1, .f32⟩
  | 93 => ⟨S64x64, .f32⟩
  | 94 => ⟨S200x64x21x21, .f32⟩
  | 95 => ⟨S64x200x21x21, .f32⟩
  | 96 => ⟨S64x64x1x1, .f32⟩
  | 97 => ⟨S64x64, .f32⟩
  | 98 => ⟨S200x64x21x21, .f32⟩
  | 99 => ⟨S64x200x21x21, .f32⟩
  | 100 => ⟨S64x200x21x21, .f32⟩
  | 101 => ⟨S64x200x21x21, .f32⟩
  | 102 => ⟨S64x200x21x21, .f32⟩
  | 103 => ⟨S64x200x21x21, .f32⟩
  | 104 => ⟨S64x200x21x21, .f32⟩
  | 105 => ⟨S64x200x21x21, .f32⟩
  | 106 => ⟨S64x200x21x21, .f32⟩
  | 107 => ⟨S64x200x21x21, .f32⟩
  | 108 => ⟨S200x64x21x21, .f32⟩
  | 109 => ⟨S1x64x1x1, .f32⟩
  | 110 => ⟨S200x64x21x21, .f32⟩
  | 111 => ⟨S200x64x21x21, .f32⟩
  | 112 => ⟨S_, .f32⟩
  | 113 => ⟨S200x64x21x21, .f32⟩
  | 114 => ⟨S200x64x21x21, .f32⟩
  | 115 => ⟨S_, .f32⟩
  | 116 => ⟨S64, .f32⟩
  | 117 => ⟨S1x64x1x1, .f32⟩
  | 118 => ⟨S_, .f32⟩
  | 119 => ⟨S1x64x1x1, .f32⟩
  | 120 => ⟨S1x64x1x1, .f32⟩
  | 121 => ⟨S200x64x21x21, .f32⟩
  | 122 => ⟨S200x64x21x21, .f32⟩
  | 123 => ⟨S200x64x21x21, .f32⟩
  | 124 => ⟨S_, .f32⟩
  | 125 => ⟨S64, .f32⟩
  | 126 => ⟨S1x64x1x1, .f32⟩
  | 127 => ⟨S_, .f32⟩
  | _ => ⟨S8x25x3x84x84, .f32⟩

abbrev hbmTy0_2 (i : Nat) : BufTy := match i % 128 with
  | 0 => ⟨S1x64x1x1, .f32⟩
  | 1 => ⟨S1x64x1x1, .f32⟩
  | 2 => ⟨S200x64x21x21, .f32⟩
  | 3 => ⟨S200x64x21x21, .f32⟩
  | 4 => ⟨S_, .f32⟩
  | 5 => ⟨S1x64x1x1, .f32⟩
  | 6 => ⟨S1x64x1x1, .f32⟩
  | 7 => ⟨S1x64x1x1, .f32⟩
  | 8 => ⟨S200x64x21x21, .f32⟩
  | 9 => ⟨S200x64x21x21, .f32⟩
  | 10 => ⟨S1x64x1x1, .f32⟩
  | 11 => ⟨S200x64x21x21, .f32⟩
  | 12 => ⟨S200x64x21x21, .f32⟩
  | 13 => ⟨S1x64x1x1, .f32⟩
  | 14 => ⟨S200x64x21x21, .f32⟩
  | 15 => ⟨S200x64x21x21, .f32⟩
  | 16 => ⟨S_, .f32⟩
  | 17 => ⟨S_, .f32⟩
  | 18 => ⟨S200x64x10x10, .f32⟩
  | 19 => ⟨S_, .f32⟩
  | 20 => ⟨S200x64x12x12, .f32⟩
  | 21 => ⟨S64x64x1x1, .f32⟩
  | 22 => ⟨S64x64, .f32⟩
  | 23 => ⟨S200x64x10x10, .f32⟩
  | 24 => ⟨S64x200x10x10, .f32⟩
  | 25 => ⟨S64x64x1x1, .f32⟩
  | 26 => ⟨S64x64, .f32⟩
  | 27 => ⟨S200x64x10x10, .f32⟩
  | 28 => ⟨S64x200x10x10, .f32⟩
  | 29 => ⟨S64x64x1x1, .f32⟩
  | 30 => ⟨S64x64, .f32⟩
  | 31 => ⟨S200x64x10x10, .f32⟩
  | 32 => ⟨S64x200x10x10, .f32⟩
  | 33 => ⟨S64x64x1x1, .f32⟩
  | 34 => ⟨S64x64, .f32⟩
  | 35 => ⟨S200x64x10x10, .f32⟩
  | 36 => ⟨S64x200x10x10, .f32⟩
  | 37 => ⟨S64x64x1x1, .f32⟩
  | 38 => ⟨S64x64, .f32⟩
  | 39 => ⟨S200x64x10x10, .f32⟩
  | 40 => ⟨S64x200x10x10, .f32⟩
  | 41 => ⟨S64x64x1x1, .f32⟩
  | 42 => ⟨S64x64, .f32⟩
  | 43 => ⟨S200x64x10x10, .f32⟩
  | 44 => ⟨S64x200x10x10, .f32⟩
  | 45 => ⟨S64x64x1x1, .f32⟩
  | 46 => ⟨S64x64, .f32⟩
  | 47 => ⟨S200x64x10x10, .f32⟩
  | 48 => ⟨S64x200x10x10, .f32⟩
  | 49 => ⟨S64x64x1x1, .f32⟩
  | 50 => ⟨S64x64, .f32⟩
  | 51 => ⟨S200x64x10x10, .f32⟩
  | 52 => ⟨S64x200x10x10, .f32⟩
  | 53 => ⟨S64x64x1x1, .f32⟩
  | 54 => ⟨S64x64, .f32⟩
  | 55 => ⟨S200x64x10x10, .f32⟩
  | 56 => ⟨S64x200x10x10, .f32⟩
  | 57 => ⟨S64x200x10x10, .f32⟩
  | 58 => ⟨S64x200x10x10, .f32⟩
  | 59 => ⟨S64x200x10x10, .f32⟩
  | 60 => ⟨S64x200x10x10, .f32⟩
  | 61 => ⟨S64x200x10x10, .f32⟩
  | 62 => ⟨S64x200x10x10, .f32⟩
  | 63 => ⟨S64x200x10x10, .f32⟩
  | 64 => ⟨S64x200x10x10, .f32⟩
  | 65 => ⟨S200x64x10x10, .f32⟩
  | 66 => ⟨S1x64x1x1, .f32⟩
  | 67 => ⟨S200x64x10x10, .f32⟩
  | 68 => ⟨S200x64x10x10, .f32⟩
  | 69 => ⟨S_, .f32⟩
  | 70 => ⟨S200x64x10x10, .f32⟩
  | 71 => ⟨S200x64x10x10, .f32⟩
  | 72 => ⟨S_, .f32⟩
  | 73 => ⟨S64, .f32⟩
  | 74 => ⟨S1x64x1x1, .f32⟩
  | 75 => ⟨S_, .f32⟩
  | 76 => ⟨S1x64x1x1, .f32⟩
  | 77 => ⟨S1x64x1x1, .f32⟩
  | 78 => ⟨S200x64x10x10, .f32⟩
  | 79 => ⟨S200x64x10x10, .f32⟩
  | 80 => ⟨S200x64x10x10, .f32⟩
  | 81 => ⟨S_, .f32⟩
  | 82 => ⟨S64, .f32⟩
  | 83 => ⟨S1x64x1x1, .f32⟩
  | 84 => ⟨S_, .f32⟩
  | 85 => ⟨S1x64x1x1, .f32⟩
  | 86 => ⟨S1x64x1x1, .f32⟩
  | 87 => ⟨S200x64x10x10, .f32⟩
  | 88 => ⟨S200x64x10x10, .f32⟩
  | 89 => ⟨S_, .f32⟩
  | 90 => ⟨S1x64x1x1, .f32⟩
  | 91 => ⟨S1x64x1x1, .f32⟩
  | 92 => ⟨S1x64x1x1, .f32⟩
  | 93 => ⟨S200x64x10x10, .f32⟩
  | 94 => ⟨S200x64x10x10, .f32⟩
  | 95 => ⟨S1x64x1x1, .f32⟩
  | 96 => ⟨S200x64x10x10, .f32⟩
  | 97 => ⟨S200x64x10x10, .f32⟩
  | 98 => ⟨S1x64x1x1, .f32⟩
  | 99 => ⟨S200x64x10x10, .f32⟩
  | 100 => ⟨S200x64x10x10, .f32⟩
  | 101 => ⟨S_, .f32⟩
  | 102 => ⟨S_, .f32⟩
  | 103 => ⟨S200x64x5x5, .f32⟩
  | 104 => ⟨S200x1600, .f32⟩
  | 105 => ⟨S8x25x1600, .f32⟩
  | 106 => ⟨S120x3x84x84, .f32⟩
  | 107 => ⟨S_, .f32⟩
  | 108 => ⟨S120x3x86x86, .f32⟩
  | 109 => ⟨S64x3x1x1, .f32⟩
  | 110 => ⟨S64x3, .f32⟩
  | 111 => ⟨S120x3x84x84, .f32⟩
  | 112 => ⟨S64x120x84x84, .f32⟩
  | 113 => ⟨S64x3x1x1, .f32⟩
  | 114 => ⟨S64x3, .f32⟩
  | 115 => ⟨S120x3x84x84, .f32⟩
  | 116 => ⟨S64x120x84x84, .f32⟩
  | 117 => ⟨S64x3x1x1, .f32⟩
  | 118 => ⟨S64x3, .f32⟩
  | 119 => ⟨S120x3x84x84, .f32⟩
  | 120 => ⟨S64x120x84x84, .f32⟩
  | 121 => ⟨S64x3x1x1, .f32⟩
  | 122 => ⟨S64x3, .f32⟩
  | 123 => ⟨S120x3x84x84, .f32⟩
  | 124 => ⟨S64x120x84x84, .f32⟩
  | 125 => ⟨S64x3x1x1, .f32⟩
  | 126 => ⟨S64x3, .f32⟩
  | 127 => ⟨S120x3x84x84, .f32⟩
  | _ => ⟨S8x25x3x84x84, .f32⟩

abbrev hbmTy0_3 (i : Nat) : BufTy := match i % 128 with
  | 0 => ⟨S64x120x84x84, .f32⟩
  | 1 => ⟨S64x3x1x1, .f32⟩
  | 2 => ⟨S64x3, .f32⟩
  | 3 => ⟨S120x3x84x84, .f32⟩
  | 4 => ⟨S64x120x84x84, .f32⟩
  | 5 => ⟨S64x3x1x1, .f32⟩
  | 6 => ⟨S64x3, .f32⟩
  | 7 => ⟨S120x3x84x84, .f32⟩
  | 8 => ⟨S64x120x84x84, .f32⟩
  | 9 => ⟨S64x3x1x1, .f32⟩
  | 10 => ⟨S64x3, .f32⟩
  | 11 => ⟨S120x3x84x84, .f32⟩
  | 12 => ⟨S64x120x84x84, .f32⟩
  | 13 => ⟨S64x3x1x1, .f32⟩
  | 14 => ⟨S64x3, .f32⟩
  | 15 => ⟨S120x3x84x84, .f32⟩
  | 16 => ⟨S64x120x84x84, .f32⟩
  | 17 => ⟨S64x120x84x84, .f32⟩
  | 18 => ⟨S64x120x84x84, .f32⟩
  | 19 => ⟨S64x120x84x84, .f32⟩
  | 20 => ⟨S64x120x84x84, .f32⟩
  | 21 => ⟨S64x120x84x84, .f32⟩
  | 22 => ⟨S64x120x84x84, .f32⟩
  | 23 => ⟨S64x120x84x84, .f32⟩
  | 24 => ⟨S64x120x84x84, .f32⟩
  | 25 => ⟨S120x64x84x84, .f32⟩
  | 26 => ⟨S1x64x1x1, .f32⟩
  | 27 => ⟨S120x64x84x84, .f32⟩
  | 28 => ⟨S120x64x84x84, .f32⟩
  | 29 => ⟨S_, .f32⟩
  | 30 => ⟨S120x64x84x84, .f32⟩
  | 31 => ⟨S120x64x84x84, .f32⟩
  | 32 => ⟨S_, .f32⟩
  | 33 => ⟨S64, .f32⟩
  | 34 => ⟨S1x64x1x1, .f32⟩
  | 35 => ⟨S_, .f32⟩
  | 36 => ⟨S1x64x1x1, .f32⟩
  | 37 => ⟨S1x64x1x1, .f32⟩
  | 38 => ⟨S120x64x84x84, .f32⟩
  | 39 => ⟨S120x64x84x84, .f32⟩
  | 40 => ⟨S120x64x84x84, .f32⟩
  | 41 => ⟨S_, .f32⟩
  | 42 => ⟨S64, .f32⟩
  | 43 => ⟨S1x64x1x1, .f32⟩
  | 44 => ⟨S_, .f32⟩
  | 45 => ⟨S1x64x1x1, .f32⟩
  | 46 => ⟨S1x64x1x1, .f32⟩
  | 47 => ⟨S120x64x84x84, .f32⟩
  | 48 => ⟨S120x64x84x84, .f32⟩
  | 49 => ⟨S_, .f32⟩
  | 50 => ⟨S1x64x1x1, .f32⟩
  | 51 => ⟨S1x64x1x1, .f32⟩
  | 52 => ⟨S1x64x1x1, .f32⟩
  | 53 => ⟨S120x64x84x84, .f32⟩
  | 54 => ⟨S120x64x84x84, .f32⟩
  | 55 => ⟨S1x64x1x1, .f32⟩
  | 56 => ⟨S120x64x84x84, .f32⟩
  | 57 => ⟨S120x64x84x84, .f32⟩
  | 58 => ⟨S1x64x1x1, .f32⟩
  | 59 => ⟨S120x64x84x84, .f32⟩
  | 60 => ⟨S120x64x84x84, .f32⟩
  | 61 => ⟨S_, .f32⟩
  | 62 => ⟨S_, .f32⟩
  | 63 => ⟨S120x64x42x42, .f32⟩
  | 64 => ⟨S_, .f32⟩
  | 65 => ⟨S120x64x44x44, .f32⟩
  | 66 => ⟨S64x64x1x1, .f32⟩
  | 67 => ⟨S64x64, .f32⟩
  | 68 => ⟨S120x64x42x42, .f32⟩
  | 69 => ⟨S64x120x42x42, .f32⟩
  | 70 => ⟨S64x64x1x1, .f32⟩
  | 71 => ⟨S64x64, .f32⟩
  | 72 => ⟨S120x64x42x42, .f32⟩
  | 73 => ⟨S64x120x42x42, .f32⟩
  | 74 => ⟨S64x64x1x1, .f32⟩
  | 75 => ⟨S64x64, .f32⟩
  | 76 => ⟨S120x64x42x42, .f32⟩
  | 77 => ⟨S64x120x42x42, .f32⟩
  | 78 => ⟨S64x64x1x1, .f32⟩
  | 79 => ⟨S64x64, .f32⟩
  | 80 => ⟨S120x64x42x42, .f32⟩
  | 81 => ⟨S64x120x42x42, .f32⟩
  | 82 => ⟨S64x64x1x1, .f32⟩
  | 83 => ⟨S64x64, .f32⟩
  | 84 => ⟨S120x64x42x42, .f32⟩
  | 85 => ⟨S64x120x42x42, .f32⟩
  | 86 => ⟨S64x64x1x1, .f32⟩
  | 87 => ⟨S64x64, .f32⟩
  | 88 => ⟨S120x64x42x42, .f32⟩
  | 89 => ⟨S64x120x42x42, .f32⟩
  | 90 => ⟨S64x64x1x1, .f32⟩
  | 91 => ⟨S64x64, .f32⟩
  | 92 => ⟨S120x64x42x42, .f32⟩
  | 93 => ⟨S64x120x42x42, .f32⟩
  | 94 => ⟨S64x64x1x1, .f32⟩
  | 95 => ⟨S64x64, .f32⟩
  | 96 => ⟨S120x64x42x42, .f32⟩
  | 97 => ⟨S64x120x42x42, .f32⟩
  | 98 => ⟨S64x64x1x1, .f32⟩
  | 99 => ⟨S64x64, .f32⟩
  | 100 => ⟨S120x64x42x42, .f32⟩
  | 101 => ⟨S64x120x42x42, .f32⟩
  | 102 => ⟨S64x120x42x42, .f32⟩
  | 103 => ⟨S64x120x42x42, .f32⟩
  | 104 => ⟨S64x120x42x42, .f32⟩
  | 105 => ⟨S64x120x42x42, .f32⟩
  | 106 => ⟨S64x120x42x42, .f32⟩
  | 107 => ⟨S64x120x42x42, .f32⟩
  | 108 => ⟨S64x120x42x42, .f32⟩
  | 109 => ⟨S64x120x42x42, .f32⟩
  | 110 => ⟨S120x64x42x42, .f32⟩
  | 111 => ⟨S1x64x1x1, .f32⟩
  | 112 => ⟨S120x64x42x42, .f32⟩
  | 113 => ⟨S120x64x42x42, .f32⟩
  | 114 => ⟨S_, .f32⟩
  | 115 => ⟨S120x64x42x42, .f32⟩
  | 116 => ⟨S120x64x42x42, .f32⟩
  | 117 => ⟨S_, .f32⟩
  | 118 => ⟨S64, .f32⟩
  | 119 => ⟨S1x64x1x1, .f32⟩
  | 120 => ⟨S_, .f32⟩
  | 121 => ⟨S1x64x1x1, .f32⟩
  | 122 => ⟨S1x64x1x1, .f32⟩
  | 123 => ⟨S120x64x42x42, .f32⟩
  | 124 => ⟨S120x64x42x42, .f32⟩
  | 125 => ⟨S120x64x42x42, .f32⟩
  | 126 => ⟨S_, .f32⟩
  | 127 => ⟨S64, .f32⟩
  | _ => ⟨S8x25x3x84x84, .f32⟩

abbrev hbmTy0_4 (i : Nat) : BufTy := match i % 128 with
  | 0 => ⟨S1x64x1x1, .f32⟩
  | 1 => ⟨S_, .f32⟩
  | 2 => ⟨S1x64x1x1, .f32⟩
  | 3 => ⟨S1x64x1x1, .f32⟩
  | 4 => ⟨S120x64x42x42, .f32⟩
  | 5 => ⟨S120x64x42x42, .f32⟩
  | 6 => ⟨S_, .f32⟩
  | 7 => ⟨S1x64x1x1, .f32⟩
  | 8 => ⟨S1x64x1x1, .f32⟩
  | 9 => ⟨S1x64x1x1, .f32⟩
  | 10 => ⟨S120x64x42x42, .f32⟩
  | 11 => ⟨S120x64x42x42, .f32⟩
  | 12 => ⟨S1x64x1x1, .f32⟩
  | 13 => ⟨S120x64x42x42, .f32⟩
  | 14 => ⟨S120x64x42x42, .f32⟩
  | 15 => ⟨S1x64x1x1, .f32⟩
  | 16 => ⟨S120x64x42x42, .f32⟩
  | 17 => ⟨S120x64x42x42, .f32⟩
  | 18 => ⟨S_, .f32⟩
  | 19 => ⟨S_, .f32⟩
  | 20 => ⟨S120x64x21x21, .f32⟩
  | 21 => ⟨S_, .f32⟩
  | 22 => ⟨S120x64x23x23, .f32⟩
  | 23 => ⟨S64x64x1x1, .f32⟩
  | 24 => ⟨S64x64, .f32⟩
  | 25 => ⟨S120x64x21x21, .f32⟩
  | 26 => ⟨S64x120x21x21, .f32⟩
  | 27 => ⟨S64x64x1x1, .f32⟩
  | 28 => ⟨S64x64, .f32⟩
  | 29 => ⟨S120x64x21x21, .f32⟩
  | 30 => ⟨S64x120x21x21, .f32⟩
  | 31 => ⟨S64x64x1x1, .f32⟩
  | 32 => ⟨S64x64, .f32⟩
  | 33 => ⟨S120x64x21x21, .f32⟩
  | 34 => ⟨S64x120x21x21, .f32⟩
  | 35 => ⟨S64x64x1x1, .f32⟩
  | 36 => ⟨S64x64, .f32⟩
  | 37 => ⟨S120x64x21x21, .f32⟩
  | 38 => ⟨S64x120x21x21, .f32⟩
  | 39 => ⟨S64x64x1x1, .f32⟩
  | 40 => ⟨S64x64, .f32⟩
  | 41 => ⟨S120x64x21x21, .f32⟩
  | 42 => ⟨S64x120x21x21, .f32⟩
  | 43 => ⟨S64x64x1x1, .f32⟩
  | 44 => ⟨S64x64, .f32⟩
  | 45 => ⟨S120x64x21x21, .f32⟩
  | 46 => ⟨S64x120x21x21, .f32⟩
  | 47 => ⟨S64x64x1x1, .f32⟩
  | 48 => ⟨S64x64, .f32⟩
  | 49 => ⟨S120x64x21x21, .f32⟩
  | 50 => ⟨S64x120x21x21, .f32⟩
  | 51 => ⟨S64x64x1x1, .f32⟩
  | 52 => ⟨S64x64, .f32⟩
  | 53 => ⟨S120x64x21x21, .f32⟩
  | 54 => ⟨S64x120x21x21, .f32⟩
  | 55 => ⟨S64x64x1x1, .f32⟩
  | 56 => ⟨S64x64, .f32⟩
  | 57 => ⟨S120x64x21x21, .f32⟩
  | 58 => ⟨S64x120x21x21, .f32⟩
  | 59 => ⟨S64x120x21x21, .f32⟩
  | 60 => ⟨S64x120x21x21, .f32⟩
  | 61 => ⟨S64x120x21x21, .f32⟩
  | 62 => ⟨S64x120x21x21, .f32⟩
  | 63 => ⟨S64x120x21x21, .f32⟩
  | 64 => ⟨S64x120x21x21, .f32⟩
  | 65 => ⟨S64x120x21x21, .f32⟩
  | 66 => ⟨S64x120x21x21, .f32⟩
  | 67 => ⟨S120x64x21x21, .f32⟩
  | 68 => ⟨S1x64x1x1, .f32⟩
  | 69 => ⟨S120x64x21x21, .f32⟩
  | 70 => ⟨S120x64x21x21, .f32⟩
  | 71 => ⟨S_, .f32⟩
  | 72 => ⟨S120x64x21x21, .f32⟩
  | 73 => ⟨S120x64x21x21, .f32⟩
  | 74 => ⟨S_, .f32⟩
  | 75 => ⟨S64, .f32⟩
  | 76 => ⟨S1x64x1x1, .f32⟩
  | 77 => ⟨S_, .f32⟩
  | 78 => ⟨S1x64x1x1, .f32⟩
  | 79 => ⟨S1x64x1x1, .f32⟩
  | 80 => ⟨S120x64x21x21, .f32⟩
  | 81 => ⟨S120x64x21x21, .f32⟩
  | 82 => ⟨S120x64x21x21, .f32⟩
  | 83 => ⟨S_, .f32⟩
  | 84 => ⟨S64, .f32⟩
  | 85 => ⟨S1x64x1x1, .f32⟩
  | 86 => ⟨S_, .f32⟩
  | 87 => ⟨S1x64x1x1, .f32⟩
  | 88 => ⟨S1x64x1x1, .f32⟩
  | 89 => ⟨S120x64x21x21, .f32⟩
  | 90 => ⟨S120x64x21x21, .f32⟩
  | 91 => ⟨S_, .f32⟩
  | 92 => ⟨S1x64x1x1, .f32⟩
  | 93 => ⟨S1x64x1x1, .f32⟩
  | 94 => ⟨S1x64x1x1, .f32⟩
  | 95 => ⟨S120x64x21x21, .f32⟩
  | 96 => ⟨S120x64x21x21, .f32⟩
  | 97 => ⟨S1x64x1x1, .f32⟩
  | 98 => ⟨S120x64x21x21, .f32⟩
  | 99 => ⟨S120x64x21x21, .f32⟩
  | 100 => ⟨S1x64x1x1, .f32⟩
  | 101 => ⟨S120x64x21x21, .f32⟩
  | 102 => ⟨S120x64x21x21, .f32⟩
  | 103 => ⟨S_, .f32⟩
  | 104 => ⟨S_, .f32⟩
  | 105 => ⟨S120x64x10x10, .f32⟩
  | 106 => ⟨S_, .f32⟩
  | 107 => ⟨S120x64x12x12, .f32⟩
  | 108 => ⟨S64x64x1x1, .f32⟩
  | 109 => ⟨S64x64, .f32⟩
  | 110 => ⟨S120x64x10x10, .f32⟩
  | 111 => ⟨S64x120x10x10, .f32⟩
  | 112 => ⟨S64x64x1x1, .f32⟩
  | 113 => ⟨S64x64, .f32⟩
  | 114 => ⟨S120x64x10x10, .f32⟩
  | 115 => ⟨S64x120x10x10, .f32⟩
  | 116 => ⟨S64x64x1x1, .f32⟩
  | 117 => ⟨S64x64, .f32⟩
  | 118 => ⟨S120x64x10x10, .f32⟩
  | 119 => ⟨S64x120x10x10, .f32⟩
  | 120 => ⟨S64x64x1x1, .f32⟩
  | 121 => ⟨S64x64, .f32⟩
  | 122 => ⟨S120x64x10x10, .f32⟩
  | 123 => ⟨S64x120x10x10, .f32⟩
  | 124 => ⟨S64x64x1x1, .f32⟩
  | 125 => ⟨S64x64, .f32⟩
  | 126 => ⟨S120x64x10x10, .f32⟩
  | 127 => ⟨S64x120x10x10, .f32⟩
  | _ => ⟨S8x25x3x84x84, .f32⟩

abbrev hbmTy0_5 (i : Nat) : BufTy := match i % 128 with
  | 0 => ⟨S64x64x1x1, .f32⟩
  | 1 => ⟨S64x64, .f32⟩
  | 2 => ⟨S120x64x10x10, .f32⟩
  | 3 => ⟨S64x120x10x10, .f32⟩
  | 4 => ⟨S64x64x1x1, .f32⟩
  | 5 => ⟨S64x64, .f32⟩
  | 6 => ⟨S120x64x10x10, .f32⟩
  | 7 => ⟨S64x120x10x10, .f32⟩
  | 8 => ⟨S64x64x1x1, .f32⟩
  | 9 => ⟨S64x64, .f32⟩
  | 10 => ⟨S120x64x10x10, .f32⟩
  | 11 => ⟨S64x120x10x10, .f32⟩
  | 12 => ⟨S64x64x1x1, .f32⟩
  | 13 => ⟨S64x64, .f32⟩
  | 14 => ⟨S120x64x10x10, .f32⟩
  | 15 => ⟨S64x120x10x10, .f32⟩
  | 16 => ⟨S64x120x10x10, .f32⟩
  | 17 => ⟨S64x120x10x10, .f32⟩
  | 18 => ⟨S64x120x10x10, .f32⟩
  | 19 => ⟨S64x120x10x10, .f32⟩
  | 20 => ⟨S64x120x10x10, .f32⟩
  | 21 => ⟨S64x120x10x10, .f32⟩
  | 22 => ⟨S64x120x10x10, .f32⟩
  | 23 => ⟨S64x120x10x10, .f32⟩
  | 24 => ⟨S120x64x10x10, .f32⟩
  | 25 => ⟨S1x64x1x1, .f32⟩
  | 26 => ⟨S120x64x10x10, .f32⟩
  | 27 => ⟨S120x64x10x10, .f32⟩
  | 28 => ⟨S_, .f32⟩
  | 29 => ⟨S120x64x10x10, .f32⟩
  | 30 => ⟨S120x64x10x10, .f32⟩
  | 31 => ⟨S_, .f32⟩
  | 32 => ⟨S64, .f32⟩
  | 33 => ⟨S1x64x1x1, .f32⟩
  | 34 => ⟨S_, .f32⟩
  | 35 => ⟨S1x64x1x1, .f32⟩
  | 36 => ⟨S1x64x1x1, .f32⟩
  | 37 => ⟨S120x64x10x10, .f32⟩
  | 38 => ⟨S120x64x10x10, .f32⟩
  | 39 => ⟨S120x64x10x10, .f32⟩
  | 40 => ⟨S_, .f32⟩
  | 41 => ⟨S64, .f32⟩
  | 42 => ⟨S1x64x1x1, .f32⟩
  | 43 => ⟨S_, .f32⟩
  | 44 => ⟨S1x64x1x1, .f32⟩
  | 45 => ⟨S1x64x1x1, .f32⟩
  | 46 => ⟨S120x64x10x10, .f32⟩
  | 47 => ⟨S120x64x10x10, .f32⟩
  | 48 => ⟨S_, .f32⟩
  | 49 => ⟨S1x64x1x1, .f32⟩
  | 50 => ⟨S1x64x1x1, .f32⟩
  | 51 => ⟨S1x64x1x1, .f32⟩
  | 52 => ⟨S120x64x10x10, .f32⟩
  | 53 => ⟨S120x64x10x10, .f32⟩
  | 54 => ⟨S1x64x1x1, .f32⟩
  | 55 => ⟨S120x64x10x10, .f32⟩
  | 56 => ⟨S120x64x10x10, .f32⟩
  | 57 => ⟨S1x64x1x1, .f32⟩
  | 58 => ⟨S120x64x10x10, .f32⟩
  | 59 => ⟨S120x64x10x10, .f32⟩
  | 60 => ⟨S_, .f32⟩
  | 61 => ⟨S_, .f32⟩
  | 62 => ⟨S120x64x5x5, .f32⟩
  | 63 => ⟨S120x1600, .f32⟩
  | 64 => ⟨S8x15x1600, .f32⟩
  | 65 => ⟨S40x5x1600, .f32⟩
  | 66 => ⟨S40x4x1600, .f32⟩
  | 67 => ⟨S40x1x1600, .f32⟩
  | 68 => ⟨S40x4x1600, .f32⟩
  | 69 => ⟨S40x4x1600, .f32⟩
  | 70 => ⟨S40x4x4, .f32⟩
  | 71 => ⟨S40x1x1, .f32⟩
  | 72 => ⟨S40, .f32⟩
  | 73 => ⟨S40x1x1, .f32⟩
  | 74 => ⟨S40, .f32⟩
  | 75 => ⟨S40x1x1, .f32⟩
  | 76 => ⟨S40, .f32⟩
  | 77 => ⟨S40x1x1, .f32⟩
  | 78 => ⟨S40, .f32⟩
  | 79 => ⟨S40x1x1, .f32⟩
  | 80 => ⟨S40, .f32⟩
  | 81 => ⟨S40x1x1, .f32⟩
  | 82 => ⟨S40, .f32⟩
  | 83 => ⟨S40x1x1, .f32⟩
  | 84 => ⟨S40, .f32⟩
  | 85 => ⟨S40x1x1, .f32⟩
  | 86 => ⟨S40, .f32⟩
  | 87 => ⟨S40x1x1, .f32⟩
  | 88 => ⟨S40, .f32⟩
  | 89 => ⟨S40x1x1, .f32⟩
  | 90 => ⟨S40, .f32⟩
  | 91 => ⟨S40x1x1, .f32⟩
  | 92 => ⟨S40, .f32⟩
  | 93 => ⟨S40x1x1, .f32⟩
  | 94 => ⟨S40, .f32⟩
  | 95 => ⟨S40x1x1, .f32⟩
  | 96 => ⟨S40, .f32⟩
  | 97 => ⟨S40x1x1, .f32⟩
  | 98 => ⟨S40, .f32⟩
  | 99 => ⟨S40x1x1, .f32⟩
  | 100 => ⟨S40, .f32⟩
  | 101 => ⟨S40x1x1, .f32⟩
  | 102 => ⟨S40, .f32⟩
  | 103 => ⟨S40, .f32⟩
  | 104 => ⟨S40, .f32⟩
  | 105 => ⟨S40, .f32⟩
  | 106 => ⟨S40, .f32⟩
  | 107 => ⟨S40, .f32⟩
  | 108 => ⟨S40, .f32⟩
  | 109 => ⟨S40, .f32⟩
  | 110 => ⟨S40, .f32⟩
  | 111 => ⟨S40, .f32⟩
  | 112 => ⟨S40, .f32⟩
  | 113 => ⟨S40, .f32⟩
  | 114 => ⟨S40, .f32⟩
  | 115 => ⟨S40, .f32⟩
  | 116 => ⟨S40, .f32⟩
  | 117 => ⟨S40, .f32⟩
  | 118 => ⟨S40, .f32⟩
  | 119 => ⟨S40, .f32⟩
  | 120 => ⟨S40, .f32⟩
  | 121 => ⟨S40, .f32⟩
  | 122 => ⟨S40, .f32⟩
  | 123 => ⟨S40, .f32⟩
  | 124 => ⟨S40, .f32⟩
  | 125 => ⟨S40, .f32⟩
  | 126 => ⟨S40, .f32⟩
  | 127 => ⟨S40, .f32⟩
  | _ => ⟨S8x25x3x84x84, .f32⟩

abbrev hbmTy0_6 (i : Nat) : BufTy := match i % 128 with
  | 0 => ⟨S40, .f32⟩
  | 1 => ⟨S40, .f32⟩
  | 2 => ⟨S40, .f32⟩
  | 3 => ⟨S40, .f32⟩
  | 4 => ⟨S40, .f32⟩
  | 5 => ⟨S40, .f32⟩
  | 6 => ⟨S40, .f32⟩
  | 7 => ⟨S40, .f32⟩
  | 8 => ⟨S40, .f32⟩
  | 9 => ⟨S40, .f32⟩
  | 10 => ⟨S40, .f32⟩
  | 11 => ⟨S40, .f32⟩
  | 12 => ⟨S40, .f32⟩
  | 13 => ⟨S40, .f32⟩
  | 14 => ⟨S40, .f32⟩
  | 15 => ⟨S40, .f32⟩
  | 16 => ⟨S40, .f32⟩
  | 17 => ⟨S40, .f32⟩
  | 18 => ⟨S40, .f32⟩
  | 19 => ⟨S40, .f32⟩
  | 20 => ⟨S8x5, .f32⟩
  | 21 => ⟨S8x1x25x1600, .f32⟩
  | 22 => ⟨S8x15x1x1600, .f32⟩
  | 23 => ⟨S8x15x25x1600, .f32⟩
  | 24 => ⟨S8x15x25x1600, .f32⟩
  | 25 => ⟨S8x15x25x1600, .f32⟩
  | 26 => ⟨S600x5x1600, .f32⟩
  | 27 => ⟨S600x5x5, .f32⟩
  | 28 => ⟨S600x1x1, .f32⟩
  | 29 => ⟨S600, .f32⟩
  | 30 => ⟨S600x1x1, .f32⟩
  | 31 => ⟨S600, .f32⟩
  | 32 => ⟨S600x1x1, .f32⟩
  | 33 => ⟨S600, .f32⟩
  | 34 => ⟨S600x1x1, .f32⟩
  | 35 => ⟨S600, .f32⟩
  | 36 => ⟨S600x1x1, .f32⟩
  | 37 => ⟨S600, .f32⟩
  | 38 => ⟨S600x1x1, .f32⟩
  | 39 => ⟨S600, .f32⟩
  | 40 => ⟨S600x1x1, .f32⟩
  | 41 => ⟨S600, .f32⟩
  | 42 => ⟨S600x1x1, .f32⟩
  | 43 => ⟨S600, .f32⟩
  | 44 => ⟨S600x1x1, .f32⟩
  | 45 => ⟨S600, .f32⟩
  | 46 => ⟨S600x1x1, .f32⟩
  | 47 => ⟨S600, .f32⟩
  | 48 => ⟨S600x1x1, .f32⟩
  | 49 => ⟨S600, .f32⟩
  | 50 => ⟨S600x1x1, .f32⟩
  | 51 => ⟨S600, .f32⟩
  | 52 => ⟨S600x1x1, .f32⟩
  | 53 => ⟨S600, .f32⟩
  | 54 => ⟨S600x1x1, .f32⟩
  | 55 => ⟨S600, .f32⟩
  | 56 => ⟨S600x1x1, .f32⟩
  | 57 => ⟨S600, .f32⟩
  | 58 => ⟨S600x1x1, .f32⟩
  | 59 => ⟨S600, .f32⟩
  | 60 => ⟨S600x1x1, .f32⟩
  | 61 => ⟨S600, .f32⟩
  | 62 => ⟨S600x1x1, .f32⟩
  | 63 => ⟨S600, .f32⟩
  | 64 => ⟨S600x1x1, .f32⟩
  | 65 => ⟨S600, .f32⟩
  | 66 => ⟨S600x1x1, .f32⟩
  | 67 => ⟨S600, .f32⟩
  | 68 => ⟨S600x1x1, .f32⟩
  | 69 => ⟨S600, .f32⟩
  | 70 => ⟨S600x1x1, .f32⟩
  | 71 => ⟨S600, .f32⟩
  | 72 => ⟨S600x1x1, .f32⟩
  | 73 => ⟨S600, .f32⟩
  | 74 => ⟨S600x1x1, .f32⟩
  | 75 => ⟨S600, .f32⟩
  | 76 => ⟨S600x1x1, .f32⟩
  | 77 => ⟨S600, .f32⟩
  | 78 => ⟨S600, .f32⟩
  | 79 => ⟨S600, .f32⟩
  | 80 => ⟨S600, .f32⟩
  | 81 => ⟨S600, .f32⟩
  | 82 => ⟨S600, .f32⟩
  | 83 => ⟨S600, .f32⟩
  | 84 => ⟨S600, .f32⟩
  | 85 => ⟨S600, .f32⟩
  | 86 => ⟨S600, .f32⟩
  | 87 => ⟨S600, .f32⟩
  | 88 => ⟨S600, .f32⟩
  | 89 => ⟨S600, .f32⟩
  | 90 => ⟨S600, .f32⟩
  | 91 => ⟨S600, .f32⟩
  | 92 => ⟨S600, .f32⟩
  | 93 => ⟨S600, .f32⟩
  | 94 => ⟨S600, .f32⟩
  | 95 => ⟨S600, .f32⟩
  | 96 => ⟨S600, .f32⟩
  | 97 => ⟨S600, .f32⟩
  | 98 => ⟨S600, .f32⟩
  | 99 => ⟨S600, .f32⟩
  | 100 => ⟨S600, .f32⟩
  | 101 => ⟨S600, .f32⟩
  | 102 => ⟨S600, .f32⟩
  | 103 => ⟨S600, .f32⟩
  | 104 => ⟨S600, .f32⟩
  | 105 => ⟨S600, .f32⟩
  | 106 => ⟨S600, .f32⟩
  | 107 => ⟨S600, .f32⟩
  | 108 => ⟨S600, .f32⟩
  | 109 => ⟨S600, .f32⟩
  | 110 => ⟨S600, .f32⟩
  | 111 => ⟨S600, .f32⟩
  | 112 => ⟨S600, .f32⟩
  | 113 => ⟨S600, .f32⟩
  | 114 => ⟨S600, .f32⟩
  | 115 => ⟨S600, .f32⟩
  | 116 => ⟨S600, .f32⟩
  | 117 => ⟨S600, .f32⟩
  | 118 => ⟨S600, .f32⟩
  | 119 => ⟨S600, .f32⟩
  | 120 => ⟨S600, .f32⟩
  | 121 => ⟨S600, .f32⟩
  | 122 => ⟨S600, .f32⟩
  | 123 => ⟨S600, .f32⟩
  | 124 => ⟨S600, .f32⟩
  | 125 => ⟨S600, .f32⟩
  | 126 => ⟨S600, .f32⟩
  | 127 => ⟨S600, .f32⟩
  | _ => ⟨S8x25x3x84x84, .f32⟩

abbrev hbmTy0_7 (i : Nat) : BufTy := match i % 128 with
  | 0 => ⟨S600, .f32⟩
  | 1 => ⟨S600, .f32⟩
  | 2 => ⟨S600, .f32⟩
  | 3 => ⟨S600, .f32⟩
  | 4 => ⟨S600, .f32⟩
  | 5 => ⟨S600, .f32⟩
  | 6 => ⟨S600, .f32⟩
  | 7 => ⟨S600, .f32⟩
  | 8 => ⟨S600, .f32⟩
  | 9 => ⟨S600, .f32⟩
  | 10 => ⟨S600, .f32⟩
  | 11 => ⟨S600, .f32⟩
  | 12 => ⟨S600, .f32⟩
  | 13 => ⟨S600, .f32⟩
  | 14 => ⟨S600, .f32⟩
  | 15 => ⟨S600, .f32⟩
  | 16 => ⟨S600, .f32⟩
  | 17 => ⟨S600, .f32⟩
  | 18 => ⟨S600, .f32⟩
  | 19 => ⟨S600, .f32⟩
  | 20 => ⟨S600, .f32⟩
  | 21 => ⟨S600, .f32⟩
  | 22 => ⟨S600, .f32⟩
  | 23 => ⟨S600, .f32⟩
  | 24 => ⟨S600, .f32⟩
  | 25 => ⟨S600, .f32⟩
  | 26 => ⟨S600, .f32⟩
  | 27 => ⟨S600, .f32⟩
  | 28 => ⟨S600, .f32⟩
  | 29 => ⟨S600, .f32⟩
  | 30 => ⟨S600, .f32⟩
  | 31 => ⟨S600, .f32⟩
  | 32 => ⟨S600, .f32⟩
  | 33 => ⟨S600, .f32⟩
  | 34 => ⟨S600, .f32⟩
  | 35 => ⟨S600, .f32⟩
  | 36 => ⟨S600, .f32⟩
  | 37 => ⟨S600, .f32⟩
  | 38 => ⟨S600, .f32⟩
  | 39 => ⟨S600, .f32⟩
  | 40 => ⟨S600, .f32⟩
  | 41 => ⟨S600, .f32⟩
  | 42 => ⟨S600, .f32⟩
  | 43 => ⟨S600, .f32⟩
  | 44 => ⟨S600, .f32⟩
  | 45 => ⟨S600, .f32⟩
  | 46 => ⟨S600, .f32⟩
  | 47 => ⟨S600, .f32⟩
  | 48 => ⟨S600, .f32⟩
  | 49 => ⟨S600, .f32⟩
  | 50 => ⟨S600, .f32⟩
  | 51 => ⟨S600, .f32⟩
  | 52 => ⟨S600, .f32⟩
  | 53 => ⟨S600, .f32⟩
  | 54 => ⟨S600, .f32⟩
  | 55 => ⟨S600, .f32⟩
  | 56 => ⟨S600, .f32⟩
  | 57 => ⟨S600, .f32⟩
  | 58 => ⟨S600, .f32⟩
  | 59 => ⟨S600, .f32⟩
  | 60 => ⟨S600, .f32⟩
  | 61 => ⟨S600, .f32⟩
  | 62 => ⟨S600, .f32⟩
  | 63 => ⟨S600, .f32⟩
  | 64 => ⟨S600, .f32⟩
  | 65 => ⟨S600, .f32⟩
  | 66 => ⟨S600, .f32⟩
  | 67 => ⟨S600, .f32⟩
  | 68 => ⟨S600, .f32⟩
  | 69 => ⟨S600, .f32⟩
  | 70 => ⟨S600, .f32⟩
  | 71 => ⟨S600, .f32⟩
  | 72 => ⟨S600, .f32⟩
  | 73 => ⟨S600, .f32⟩
  | 74 => ⟨S8x15x5, .f32⟩
  | 75 => ⟨S8x1x5, .f32⟩
  | 76 => ⟨S8x15x5, .f32⟩
  | 77 => ⟨S8x15x5, .f32⟩
  | 78 => ⟨S8x15x5, .f32⟩
  | _ => ⟨S8x25x3x84x84, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8x25x3x84x84, .f32⟩

abbrev bufTy : (tb : Table) → Fin (tcTables nBuf tb) → BufTy
  | .hbm, ⟨i, _⟩ => hbmTy i
  | _, _ => ⟨S8x25x3x84x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_0 : Ref sig .tc := ⟨.hbm, 70, rfl⟩
abbrev main_v50 : Ref sig .tc := ⟨.hbm, 71, rfl⟩
abbrev main_v51 : Ref sig .tc := ⟨.hbm, 72, rfl⟩
abbrev main_cst_1 : Ref sig .tc := ⟨.hbm, 73, rfl⟩
abbrev main_v52 : Ref sig .tc := ⟨.hbm, 74, rfl⟩
abbrev main_v53 : Ref sig .tc := ⟨.hbm, 75, rfl⟩
abbrev main_cst_2 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_3 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_5 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_6 : Ref sig .tc := ⟨.hbm, 102, rfl⟩
abbrev main_v76 : Ref sig .tc := ⟨.hbm, 103, rfl⟩
abbrev main_v77 : Ref sig .tc := ⟨.hbm, 104, rfl⟩
abbrev main_cst_7 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_8 : Ref sig .tc := ⟨.hbm, 155, rfl⟩
abbrev main_v127 : Ref sig .tc := ⟨.hbm, 156, rfl⟩
abbrev main_v128 : Ref sig .tc := ⟨.hbm, 157, rfl⟩
abbrev main_cst_9 : Ref sig .tc := ⟨.hbm, 158, rfl⟩
abbrev main_v129 : Ref sig .tc := ⟨.hbm, 159, rfl⟩
abbrev main_v130 : Ref sig .tc := ⟨.hbm, 160, rfl⟩
abbrev main_cst_10 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_cst_11 : Ref sig .tc := ⟨.hbm, 167, rfl⟩
abbrev main_v136 : Ref sig .tc := ⟨.hbm, 168, rfl⟩
abbrev main_v137 : Ref sig .tc := ⟨.hbm, 169, rfl⟩
abbrev main_cst_12 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_cst_13 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_14 : Ref sig .tc := ⟨.hbm, 187, rfl⟩
abbrev main_v153 : Ref sig .tc := ⟨.hbm, 188, rfl⟩
abbrev main_v154 : Ref sig .tc := ⟨.hbm, 189, rfl⟩
abbrev main_cst_15 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_cst_16 : Ref sig .tc := ⟨.hbm, 240, rfl⟩
abbrev main_v204 : Ref sig .tc := ⟨.hbm, 241, rfl⟩
abbrev main_v205 : Ref sig .tc := ⟨.hbm, 242, rfl⟩
abbrev main_cst_17 : Ref sig .tc := ⟨.hbm, 243, rfl⟩
abbrev main_v206 : Ref sig .tc := ⟨.hbm, 244, rfl⟩
abbrev main_v207 : Ref sig .tc := ⟨.hbm, 245, rfl⟩
abbrev main_cst_18 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_cst_19 : Ref sig .tc := ⟨.hbm, 252, rfl⟩
abbrev main_v213 : Ref sig .tc := ⟨.hbm, 253, rfl⟩
abbrev main_v214 : Ref sig .tc := ⟨.hbm, 254, rfl⟩
abbrev main_cst_20 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_cst_21 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_cst_22 : Ref sig .tc := ⟨.hbm, 272, rfl⟩
abbrev main_v230 : Ref sig .tc := ⟨.hbm, 273, rfl⟩
abbrev main_v231 : Ref sig .tc := ⟨.hbm, 274, rfl⟩
abbrev main_cst_23 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_v247 : Ref sig .tc := ⟨.hbm, 291, rfl⟩
abbrev main_v248 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_v252 : Ref sig .tc := ⟨.hbm, 296, rfl⟩
abbrev main_v253 : Ref sig .tc := ⟨.hbm, 297, rfl⟩
abbrev main_v254 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_cst_24 : Ref sig .tc := ⟨.hbm, 325, rfl⟩
abbrev main_v281 : Ref sig .tc := ⟨.hbm, 326, rfl⟩
abbrev main_v282 : Ref sig .tc := ⟨.hbm, 327, rfl⟩
abbrev main_cst_25 : Ref sig .tc := ⟨.hbm, 328, rfl⟩
abbrev main_v283 : Ref sig .tc := ⟨.hbm, 329, rfl⟩
abbrev main_v284 : Ref sig .tc := ⟨.hbm, 330, rfl⟩
abbrev main_cst_26 : Ref sig .tc := ⟨.hbm, 331, rfl⟩
abbrev main_v285 : Ref sig .tc := ⟨.hbm, 332, rfl⟩
abbrev main_v286 : Ref sig .tc := ⟨.hbm, 333, rfl⟩
abbrev main_v287 : Ref sig .tc := ⟨.hbm, 334, rfl⟩
abbrev main_v288 : Ref sig .tc := ⟨.hbm, 335, rfl⟩
abbrev main_v289 : Ref sig .tc := ⟨.hbm, 336, rfl⟩
abbrev main_cst_27 : Ref sig .tc := ⟨.hbm, 337, rfl⟩
abbrev main_v290 : Ref sig .tc := ⟨.hbm, 338, rfl⟩
abbrev main_v291 : Ref sig .tc := ⟨.hbm, 339, rfl⟩
abbrev main_cst_28 : Ref sig .tc := ⟨.hbm, 340, rfl⟩
abbrev main_v292 : Ref sig .tc := ⟨.hbm, 341, rfl⟩
abbrev main_v293 : Ref sig .tc := ⟨.hbm, 342, rfl⟩
abbrev main_v294 : Ref sig .tc := ⟨.hbm, 343, rfl⟩
abbrev main_v295 : Ref sig .tc := ⟨.hbm, 344, rfl⟩
abbrev main_cst_29 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩
abbrev main_cst_30 : Ref sig .tc := ⟨.hbm, 357, rfl⟩
abbrev main_v307 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_cst_31 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_v353 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_v357 : Ref sig .tc := ⟨.hbm, 409, rfl⟩
abbrev main_v358 : Ref sig .tc := ⟨.hbm, 410, rfl⟩
abbrev main_v359 : Ref sig .tc := ⟨.hbm, 411, rfl⟩
abbrev main_v360 : Ref sig .tc := ⟨.hbm, 412, rfl⟩
abbrev main_cst_32 : Ref sig .tc := ⟨.hbm, 413, rfl⟩
abbrev main_v361 : Ref sig .tc := ⟨.hbm, 414, rfl⟩
abbrev main_v362 : Ref sig .tc := ⟨.hbm, 415, rfl⟩
abbrev main_cst_33 : Ref sig .tc := ⟨.hbm, 416, rfl⟩
abbrev main_v363 : Ref sig .tc := ⟨.hbm, 417, rfl⟩
abbrev main_v364 : Ref sig .tc := ⟨.hbm, 418, rfl⟩
abbrev main_cst_34 : Ref sig .tc := ⟨.hbm, 419, rfl⟩
abbrev main_v365 : Ref sig .tc := ⟨.hbm, 420, rfl⟩
abbrev main_v366 : Ref sig .tc := ⟨.hbm, 421, rfl⟩
abbrev main_v367 : Ref sig .tc := ⟨.hbm, 422, rfl⟩
abbrev main_v368 : Ref sig .tc := ⟨.hbm, 423, rfl⟩
abbrev main_v369 : Ref sig .tc := ⟨.hbm, 424, rfl⟩
abbrev main_cst_35 : Ref sig .tc := ⟨.hbm, 425, rfl⟩
abbrev main_v370 : Ref sig .tc := ⟨.hbm, 426, rfl⟩
abbrev main_v371 : Ref sig .tc := ⟨.hbm, 427, rfl⟩
abbrev main_cst_36 : Ref sig .tc := ⟨.hbm, 428, rfl⟩
abbrev main_v372 : Ref sig .tc := ⟨.hbm, 429, rfl⟩
abbrev main_v373 : Ref sig .tc := ⟨.hbm, 430, rfl⟩
abbrev main_v374 : Ref sig .tc := ⟨.hbm, 431, rfl⟩
abbrev main_v375 : Ref sig .tc := ⟨.hbm, 432, rfl⟩
abbrev main_cst_37 : Ref sig .tc := ⟨.hbm, 433, rfl⟩
abbrev main_v376 : Ref sig .tc := ⟨.hbm, 434, rfl⟩
abbrev main_v377 : Ref sig .tc := ⟨.hbm, 435, rfl⟩
abbrev main_v378 : Ref sig .tc := ⟨.hbm, 436, rfl⟩
abbrev main_v379 : Ref sig .tc := ⟨.hbm, 437, rfl⟩
abbrev main_v380 : Ref sig .tc := ⟨.hbm, 438, rfl⟩
abbrev main_v381 : Ref sig .tc := ⟨.hbm, 439, rfl⟩
abbrev main_v382 : Ref sig .tc := ⟨.hbm, 440, rfl⟩
abbrev main_v383 : Ref sig .tc := ⟨.hbm, 441, rfl⟩
abbrev main_v384 : Ref sig .tc := ⟨.hbm, 442, rfl⟩
abbrev main_v385 : Ref sig .tc := ⟨.hbm, 443, rfl⟩
abbrev main_v386 : Ref sig .tc := ⟨.hbm, 444, rfl⟩
abbrev main_cst_38 : Ref sig .tc := ⟨.hbm, 445, rfl⟩
abbrev main_v387 : Ref sig .tc := ⟨.hbm, 446, rfl⟩
abbrev main_v388 : Ref sig .tc := ⟨.hbm, 447, rfl⟩
abbrev main_cst_39 : Ref sig .tc := ⟨.hbm, 448, rfl⟩
abbrev main_v389 : Ref sig .tc := ⟨.hbm, 449, rfl⟩
abbrev main_v390 : Ref sig .tc := ⟨.hbm, 450, rfl⟩
abbrev main_v391 : Ref sig .tc := ⟨.hbm, 451, rfl⟩
abbrev main_v392 : Ref sig .tc := ⟨.hbm, 452, rfl⟩
abbrev main_v393 : Ref sig .tc := ⟨.hbm, 453, rfl⟩
abbrev main_v394 : Ref sig .tc := ⟨.hbm, 454, rfl⟩
abbrev main_v395 : Ref sig .tc := ⟨.hbm, 455, rfl⟩
abbrev main_v396 : Ref sig .tc := ⟨.hbm, 456, rfl⟩
abbrev main_v397 : Ref sig .tc := ⟨.hbm, 457, rfl⟩
abbrev main_v398 : Ref sig .tc := ⟨.hbm, 458, rfl⟩
abbrev main_v399 : Ref sig .tc := ⟨.hbm, 459, rfl⟩
abbrev main_v400 : Ref sig .tc := ⟨.hbm, 460, rfl⟩
abbrev main_v401 : Ref sig .tc := ⟨.hbm, 461, rfl⟩
abbrev main_v402 : Ref sig .tc := ⟨.hbm, 462, rfl⟩
abbrev main_v403 : Ref sig .tc := ⟨.hbm, 463, rfl⟩
abbrev main_v404 : Ref sig .tc := ⟨.hbm, 464, rfl⟩
abbrev main_v405 : Ref sig .tc := ⟨.hbm, 465, rfl⟩
abbrev main_v406 : Ref sig .tc := ⟨.hbm, 466, rfl⟩
abbrev main_v407 : Ref sig .tc := ⟨.hbm, 467, rfl⟩
abbrev main_v408 : Ref sig .tc := ⟨.hbm, 468, rfl⟩
abbrev main_v409 : Ref sig .tc := ⟨.hbm, 469, rfl⟩
abbrev main_v410 : Ref sig .tc := ⟨.hbm, 470, rfl⟩
abbrev main_v411 : Ref sig .tc := ⟨.hbm, 471, rfl⟩
abbrev main_v412 : Ref sig .tc := ⟨.hbm, 472, rfl⟩
abbrev main_v413 : Ref sig .tc := ⟨.hbm, 473, rfl⟩
abbrev main_v414 : Ref sig .tc := ⟨.hbm, 474, rfl⟩
abbrev main_v415 : Ref sig .tc := ⟨.hbm, 475, rfl⟩
abbrev main_v416 : Ref sig .tc := ⟨.hbm, 476, rfl⟩
abbrev main_v417 : Ref sig .tc := ⟨.hbm, 477, rfl⟩
abbrev main_v418 : Ref sig .tc := ⟨.hbm, 478, rfl⟩
abbrev main_v419 : Ref sig .tc := ⟨.hbm, 479, rfl⟩
abbrev main_v420 : Ref sig .tc := ⟨.hbm, 480, rfl⟩
abbrev main_v421 : Ref sig .tc := ⟨.hbm, 481, rfl⟩
abbrev main_v422 : Ref sig .tc := ⟨.hbm, 482, rfl⟩
abbrev main_v423 : Ref sig .tc := ⟨.hbm, 483, rfl⟩
abbrev main_v424 : Ref sig .tc := ⟨.hbm, 484, rfl⟩
abbrev main_v425 : Ref sig .tc := ⟨.hbm, 485, rfl⟩
abbrev main_v426 : Ref sig .tc := ⟨.hbm, 486, rfl⟩
abbrev main_v427 : Ref sig .tc := ⟨.hbm, 487, rfl⟩
abbrev main_v428 : Ref sig .tc := ⟨.hbm, 488, rfl⟩
abbrev main_v429 : Ref sig .tc := ⟨.hbm, 489, rfl⟩
abbrev main_v430 : Ref sig .tc := ⟨.hbm, 490, rfl⟩
abbrev main_v431 : Ref sig .tc := ⟨.hbm, 491, rfl⟩
abbrev main_v432 : Ref sig .tc := ⟨.hbm, 492, rfl⟩
abbrev main_v433 : Ref sig .tc := ⟨.hbm, 493, rfl⟩
abbrev main_v434 : Ref sig .tc := ⟨.hbm, 494, rfl⟩
abbrev main_v435 : Ref sig .tc := ⟨.hbm, 495, rfl⟩
abbrev main_v436 : Ref sig .tc := ⟨.hbm, 496, rfl⟩
abbrev main_v437 : Ref sig .tc := ⟨.hbm, 497, rfl⟩
abbrev main_cst_40 : Ref sig .tc := ⟨.hbm, 498, rfl⟩
abbrev main_v438 : Ref sig .tc := ⟨.hbm, 499, rfl⟩
abbrev main_v439 : Ref sig .tc := ⟨.hbm, 500, rfl⟩
abbrev main_cst_41 : Ref sig .tc := ⟨.hbm, 501, rfl⟩
abbrev main_v440 : Ref sig .tc := ⟨.hbm, 502, rfl⟩
abbrev main_v441 : Ref sig .tc := ⟨.hbm, 503, rfl⟩
abbrev main_cst_42 : Ref sig .tc := ⟨.hbm, 504, rfl⟩
abbrev main_v442 : Ref sig .tc := ⟨.hbm, 505, rfl⟩
abbrev main_v443 : Ref sig .tc := ⟨.hbm, 506, rfl⟩
abbrev main_v444 : Ref sig .tc := ⟨.hbm, 507, rfl⟩
abbrev main_v445 : Ref sig .tc := ⟨.hbm, 508, rfl⟩
abbrev main_v446 : Ref sig .tc := ⟨.hbm, 509, rfl⟩
abbrev main_cst_43 : Ref sig .tc := ⟨.hbm, 510, rfl⟩
abbrev main_v447 : Ref sig .tc := ⟨.hbm, 511, rfl⟩
abbrev main_v448 : Ref sig .tc := ⟨.hbm, 512, rfl⟩
abbrev main_cst_44 : Ref sig .tc := ⟨.hbm, 513, rfl⟩
abbrev main_v449 : Ref sig .tc := ⟨.hbm, 514, rfl⟩
abbrev main_v450 : Ref sig .tc := ⟨.hbm, 515, rfl⟩
abbrev main_v451 : Ref sig .tc := ⟨.hbm, 516, rfl⟩
abbrev main_v452 : Ref sig .tc := ⟨.hbm, 517, rfl⟩
abbrev main_cst_45 : Ref sig .tc := ⟨.hbm, 518, rfl⟩
abbrev main_v453 : Ref sig .tc := ⟨.hbm, 519, rfl⟩
abbrev main_v454 : Ref sig .tc := ⟨.hbm, 520, rfl⟩
abbrev main_v455 : Ref sig .tc := ⟨.hbm, 521, rfl⟩
abbrev main_v456 : Ref sig .tc := ⟨.hbm, 522, rfl⟩
abbrev main_v457 : Ref sig .tc := ⟨.hbm, 523, rfl⟩
abbrev main_v458 : Ref sig .tc := ⟨.hbm, 524, rfl⟩
abbrev main_v459 : Ref sig .tc := ⟨.hbm, 525, rfl⟩
abbrev main_v460 : Ref sig .tc := ⟨.hbm, 526, rfl⟩
abbrev main_v461 : Ref sig .tc := ⟨.hbm, 527, rfl⟩
abbrev main_v462 : Ref sig .tc := ⟨.hbm, 528, rfl⟩
abbrev main_v463 : Ref sig .tc := ⟨.hbm, 529, rfl⟩
abbrev main_cst_46 : Ref sig .tc := ⟨.hbm, 530, rfl⟩
abbrev main_v464 : Ref sig .tc := ⟨.hbm, 531, rfl⟩
abbrev main_v465 : Ref sig .tc := ⟨.hbm, 532, rfl⟩
abbrev main_cst_47 : Ref sig .tc := ⟨.hbm, 533, rfl⟩
abbrev main_v466 : Ref sig .tc := ⟨.hbm, 534, rfl⟩
abbrev main_v467 : Ref sig .tc := ⟨.hbm, 535, rfl⟩
abbrev main_v468 : Ref sig .tc := ⟨.hbm, 536, rfl⟩
abbrev main_v469 : Ref sig .tc := ⟨.hbm, 537, rfl⟩
abbrev main_v470 : Ref sig .tc := ⟨.hbm, 538, rfl⟩
abbrev main_v471 : Ref sig .tc := ⟨.hbm, 539, rfl⟩
abbrev main_v472 : Ref sig .tc := ⟨.hbm, 540, rfl⟩
abbrev main_v473 : Ref sig .tc := ⟨.hbm, 541, rfl⟩
abbrev main_v474 : Ref sig .tc := ⟨.hbm, 542, rfl⟩
abbrev main_v475 : Ref sig .tc := ⟨.hbm, 543, rfl⟩
abbrev main_v476 : Ref sig .tc := ⟨.hbm, 544, rfl⟩
abbrev main_v477 : Ref sig .tc := ⟨.hbm, 545, rfl⟩
abbrev main_v478 : Ref sig .tc := ⟨.hbm, 546, rfl⟩
abbrev main_v479 : Ref sig .tc := ⟨.hbm, 547, rfl⟩
abbrev main_v480 : Ref sig .tc := ⟨.hbm, 548, rfl⟩
abbrev main_v481 : Ref sig .tc := ⟨.hbm, 549, rfl⟩
abbrev main_v482 : Ref sig .tc := ⟨.hbm, 550, rfl⟩
abbrev main_v483 : Ref sig .tc := ⟨.hbm, 551, rfl⟩
abbrev main_v484 : Ref sig .tc := ⟨.hbm, 552, rfl⟩
abbrev main_v485 : Ref sig .tc := ⟨.hbm, 553, rfl⟩
abbrev main_v486 : Ref sig .tc := ⟨.hbm, 554, rfl⟩
abbrev main_v487 : Ref sig .tc := ⟨.hbm, 555, rfl⟩
abbrev main_v488 : Ref sig .tc := ⟨.hbm, 556, rfl⟩
abbrev main_v489 : Ref sig .tc := ⟨.hbm, 557, rfl⟩
abbrev main_v490 : Ref sig .tc := ⟨.hbm, 558, rfl⟩
abbrev main_v491 : Ref sig .tc := ⟨.hbm, 559, rfl⟩
abbrev main_v492 : Ref sig .tc := ⟨.hbm, 560, rfl⟩
abbrev main_v493 : Ref sig .tc := ⟨.hbm, 561, rfl⟩
abbrev main_v494 : Ref sig .tc := ⟨.hbm, 562, rfl⟩
abbrev main_v495 : Ref sig .tc := ⟨.hbm, 563, rfl⟩
abbrev main_v496 : Ref sig .tc := ⟨.hbm, 564, rfl⟩
abbrev main_v497 : Ref sig .tc := ⟨.hbm, 565, rfl⟩
abbrev main_v498 : Ref sig .tc := ⟨.hbm, 566, rfl⟩
abbrev main_v499 : Ref sig .tc := ⟨.hbm, 567, rfl⟩
abbrev main_v500 : Ref sig .tc := ⟨.hbm, 568, rfl⟩
abbrev main_v501 : Ref sig .tc := ⟨.hbm, 569, rfl⟩
abbrev main_v502 : Ref sig .tc := ⟨.hbm, 570, rfl⟩
abbrev main_v503 : Ref sig .tc := ⟨.hbm, 571, rfl⟩
abbrev main_v504 : Ref sig .tc := ⟨.hbm, 572, rfl⟩
abbrev main_v505 : Ref sig .tc := ⟨.hbm, 573, rfl⟩
abbrev main_v506 : Ref sig .tc := ⟨.hbm, 574, rfl⟩
abbrev main_v507 : Ref sig .tc := ⟨.hbm, 575, rfl⟩
abbrev main_v508 : Ref sig .tc := ⟨.hbm, 576, rfl⟩
abbrev main_v509 : Ref sig .tc := ⟨.hbm, 577, rfl⟩
abbrev main_v510 : Ref sig .tc := ⟨.hbm, 578, rfl⟩
abbrev main_v511 : Ref sig .tc := ⟨.hbm, 579, rfl⟩
abbrev main_v512 : Ref sig .tc := ⟨.hbm, 580, rfl⟩
abbrev main_v513 : Ref sig .tc := ⟨.hbm, 581, rfl⟩
abbrev main_v514 : Ref sig .tc := ⟨.hbm, 582, rfl⟩
abbrev main_cst_48 : Ref sig .tc := ⟨.hbm, 583, rfl⟩
abbrev main_v515 : Ref sig .tc := ⟨.hbm, 584, rfl⟩
abbrev main_v516 : Ref sig .tc := ⟨.hbm, 585, rfl⟩
abbrev main_cst_49 : Ref sig .tc := ⟨.hbm, 586, rfl⟩
abbrev main_v517 : Ref sig .tc := ⟨.hbm, 587, rfl⟩
abbrev main_v518 : Ref sig .tc := ⟨.hbm, 588, rfl⟩
abbrev main_cst_50 : Ref sig .tc := ⟨.hbm, 589, rfl⟩
abbrev main_v519 : Ref sig .tc := ⟨.hbm, 590, rfl⟩
abbrev main_v520 : Ref sig .tc := ⟨.hbm, 591, rfl⟩
abbrev main_v521 : Ref sig .tc := ⟨.hbm, 592, rfl⟩
abbrev main_v522 : Ref sig .tc := ⟨.hbm, 593, rfl⟩
abbrev main_v523 : Ref sig .tc := ⟨.hbm, 594, rfl⟩
abbrev main_cst_51 : Ref sig .tc := ⟨.hbm, 595, rfl⟩
abbrev main_v524 : Ref sig .tc := ⟨.hbm, 596, rfl⟩
abbrev main_v525 : Ref sig .tc := ⟨.hbm, 597, rfl⟩
abbrev main_cst_52 : Ref sig .tc := ⟨.hbm, 598, rfl⟩
abbrev main_v526 : Ref sig .tc := ⟨.hbm, 599, rfl⟩
abbrev main_v527 : Ref sig .tc := ⟨.hbm, 600, rfl⟩
abbrev main_v528 : Ref sig .tc := ⟨.hbm, 601, rfl⟩
abbrev main_v529 : Ref sig .tc := ⟨.hbm, 602, rfl⟩
abbrev main_cst_53 : Ref sig .tc := ⟨.hbm, 603, rfl⟩
abbrev main_v530 : Ref sig .tc := ⟨.hbm, 604, rfl⟩
abbrev main_v531 : Ref sig .tc := ⟨.hbm, 605, rfl⟩
abbrev main_v532 : Ref sig .tc := ⟨.hbm, 606, rfl⟩
abbrev main_v533 : Ref sig .tc := ⟨.hbm, 607, rfl⟩
abbrev main_v534 : Ref sig .tc := ⟨.hbm, 608, rfl⟩
abbrev main_v535 : Ref sig .tc := ⟨.hbm, 609, rfl⟩
abbrev main_v536 : Ref sig .tc := ⟨.hbm, 610, rfl⟩
abbrev main_v537 : Ref sig .tc := ⟨.hbm, 611, rfl⟩
abbrev main_v538 : Ref sig .tc := ⟨.hbm, 612, rfl⟩
abbrev main_v539 : Ref sig .tc := ⟨.hbm, 613, rfl⟩
abbrev main_v540 : Ref sig .tc := ⟨.hbm, 614, rfl⟩
abbrev main_cst_54 : Ref sig .tc := ⟨.hbm, 615, rfl⟩
abbrev main_v541 : Ref sig .tc := ⟨.hbm, 616, rfl⟩
abbrev main_v542 : Ref sig .tc := ⟨.hbm, 617, rfl⟩
abbrev main_cst_55 : Ref sig .tc := ⟨.hbm, 618, rfl⟩
abbrev main_v543 : Ref sig .tc := ⟨.hbm, 619, rfl⟩
abbrev main_v544 : Ref sig .tc := ⟨.hbm, 620, rfl⟩
abbrev main_v545 : Ref sig .tc := ⟨.hbm, 621, rfl⟩
abbrev main_v546 : Ref sig .tc := ⟨.hbm, 622, rfl⟩
abbrev main_v547 : Ref sig .tc := ⟨.hbm, 623, rfl⟩
abbrev main_v548 : Ref sig .tc := ⟨.hbm, 624, rfl⟩
abbrev main_v549 : Ref sig .tc := ⟨.hbm, 625, rfl⟩
abbrev main_v550 : Ref sig .tc := ⟨.hbm, 626, rfl⟩
abbrev main_v551 : Ref sig .tc := ⟨.hbm, 627, rfl⟩
abbrev main_v552 : Ref sig .tc := ⟨.hbm, 628, rfl⟩
abbrev main_v553 : Ref sig .tc := ⟨.hbm, 629, rfl⟩
abbrev main_v554 : Ref sig .tc := ⟨.hbm, 630, rfl⟩
abbrev main_v555 : Ref sig .tc := ⟨.hbm, 631, rfl⟩
abbrev main_v556 : Ref sig .tc := ⟨.hbm, 632, rfl⟩
abbrev main_v557 : Ref sig .tc := ⟨.hbm, 633, rfl⟩
abbrev main_v558 : Ref sig .tc := ⟨.hbm, 634, rfl⟩
abbrev main_v559 : Ref sig .tc := ⟨.hbm, 635, rfl⟩
abbrev main_v560 : Ref sig .tc := ⟨.hbm, 636, rfl⟩
abbrev main_v561 : Ref sig .tc := ⟨.hbm, 637, rfl⟩
abbrev main_v562 : Ref sig .tc := ⟨.hbm, 638, rfl⟩
abbrev main_v563 : Ref sig .tc := ⟨.hbm, 639, rfl⟩
abbrev main_v564 : Ref sig .tc := ⟨.hbm, 640, rfl⟩
abbrev main_v565 : Ref sig .tc := ⟨.hbm, 641, rfl⟩
abbrev main_v566 : Ref sig .tc := ⟨.hbm, 642, rfl⟩
abbrev main_v567 : Ref sig .tc := ⟨.hbm, 643, rfl⟩
abbrev main_v568 : Ref sig .tc := ⟨.hbm, 644, rfl⟩
abbrev main_v569 : Ref sig .tc := ⟨.hbm, 645, rfl⟩
abbrev main_v570 : Ref sig .tc := ⟨.hbm, 646, rfl⟩
abbrev main_v571 : Ref sig .tc := ⟨.hbm, 647, rfl⟩
abbrev main_v572 : Ref sig .tc := ⟨.hbm, 648, rfl⟩
abbrev main_v573 : Ref sig .tc := ⟨.hbm, 649, rfl⟩
abbrev main_v574 : Ref sig .tc := ⟨.hbm, 650, rfl⟩
abbrev main_v575 : Ref sig .tc := ⟨.hbm, 651, rfl⟩
abbrev main_v576 : Ref sig .tc := ⟨.hbm, 652, rfl⟩
abbrev main_v577 : Ref sig .tc := ⟨.hbm, 653, rfl⟩
abbrev main_v578 : Ref sig .tc := ⟨.hbm, 654, rfl⟩
abbrev main_v579 : Ref sig .tc := ⟨.hbm, 655, rfl⟩
abbrev main_v580 : Ref sig .tc := ⟨.hbm, 656, rfl⟩
abbrev main_v581 : Ref sig .tc := ⟨.hbm, 657, rfl⟩
abbrev main_v582 : Ref sig .tc := ⟨.hbm, 658, rfl⟩
abbrev main_v583 : Ref sig .tc := ⟨.hbm, 659, rfl⟩
abbrev main_v584 : Ref sig .tc := ⟨.hbm, 660, rfl⟩
abbrev main_v585 : Ref sig .tc := ⟨.hbm, 661, rfl⟩
abbrev main_v586 : Ref sig .tc := ⟨.hbm, 662, rfl⟩
abbrev main_v587 : Ref sig .tc := ⟨.hbm, 663, rfl⟩
abbrev main_v588 : Ref sig .tc := ⟨.hbm, 664, rfl⟩
abbrev main_v589 : Ref sig .tc := ⟨.hbm, 665, rfl⟩
abbrev main_v590 : Ref sig .tc := ⟨.hbm, 666, rfl⟩
abbrev main_v591 : Ref sig .tc := ⟨.hbm, 667, rfl⟩
abbrev main_cst_56 : Ref sig .tc := ⟨.hbm, 668, rfl⟩
abbrev main_v592 : Ref sig .tc := ⟨.hbm, 669, rfl⟩
abbrev main_v593 : Ref sig .tc := ⟨.hbm, 670, rfl⟩
abbrev main_cst_57 : Ref sig .tc := ⟨.hbm, 671, rfl⟩
abbrev main_v594 : Ref sig .tc := ⟨.hbm, 672, rfl⟩
abbrev main_v595 : Ref sig .tc := ⟨.hbm, 673, rfl⟩
abbrev main_cst_58 : Ref sig .tc := ⟨.hbm, 674, rfl⟩
abbrev main_v596 : Ref sig .tc := ⟨.hbm, 675, rfl⟩
abbrev main_v597 : Ref sig .tc := ⟨.hbm, 676, rfl⟩
abbrev main_v598 : Ref sig .tc := ⟨.hbm, 677, rfl⟩
abbrev main_v599 : Ref sig .tc := ⟨.hbm, 678, rfl⟩
abbrev main_v600 : Ref sig .tc := ⟨.hbm, 679, rfl⟩
abbrev main_cst_59 : Ref sig .tc := ⟨.hbm, 680, rfl⟩
abbrev main_v601 : Ref sig .tc := ⟨.hbm, 681, rfl⟩
abbrev main_v602 : Ref sig .tc := ⟨.hbm, 682, rfl⟩
abbrev main_cst_60 : Ref sig .tc := ⟨.hbm, 683, rfl⟩
abbrev main_v603 : Ref sig .tc := ⟨.hbm, 684, rfl⟩
abbrev main_v604 : Ref sig .tc := ⟨.hbm, 685, rfl⟩
abbrev main_v605 : Ref sig .tc := ⟨.hbm, 686, rfl⟩
abbrev main_v606 : Ref sig .tc := ⟨.hbm, 687, rfl⟩
abbrev main_cst_61 : Ref sig .tc := ⟨.hbm, 688, rfl⟩
abbrev main_v607 : Ref sig .tc := ⟨.hbm, 689, rfl⟩
abbrev main_v608 : Ref sig .tc := ⟨.hbm, 690, rfl⟩
abbrev main_v609 : Ref sig .tc := ⟨.hbm, 691, rfl⟩
abbrev main_v610 : Ref sig .tc := ⟨.hbm, 692, rfl⟩
abbrev main_v611 : Ref sig .tc := ⟨.hbm, 693, rfl⟩
abbrev main_v612 : Ref sig .tc := ⟨.hbm, 694, rfl⟩
abbrev main_v613 : Ref sig .tc := ⟨.hbm, 695, rfl⟩
abbrev main_v614 : Ref sig .tc := ⟨.hbm, 696, rfl⟩
abbrev main_v615 : Ref sig .tc := ⟨.hbm, 697, rfl⟩
abbrev main_v616 : Ref sig .tc := ⟨.hbm, 698, rfl⟩
abbrev main_v617 : Ref sig .tc := ⟨.hbm, 699, rfl⟩
abbrev main_cst_62 : Ref sig .tc := ⟨.hbm, 700, rfl⟩
abbrev main_v618 : Ref sig .tc := ⟨.hbm, 701, rfl⟩
abbrev main_v619 : Ref sig .tc := ⟨.hbm, 702, rfl⟩
abbrev main_v620 : Ref sig .tc := ⟨.hbm, 703, rfl⟩
abbrev main_v621 : Ref sig .tc := ⟨.hbm, 704, rfl⟩
abbrev main_v622 : Ref sig .tc := ⟨.hbm, 705, rfl⟩
abbrev main_v623 : Ref sig .tc := ⟨.hbm, 706, rfl⟩
abbrev main_v624 : Ref sig .tc := ⟨.hbm, 707, rfl⟩
abbrev main_v625 : Ref sig .tc := ⟨.hbm, 708, rfl⟩
abbrev main_v626 : Ref sig .tc := ⟨.hbm, 709, rfl⟩
abbrev main_v627 : Ref sig .tc := ⟨.hbm, 710, rfl⟩
abbrev main_v628 : Ref sig .tc := ⟨.hbm, 711, rfl⟩
abbrev main_v629 : Ref sig .tc := ⟨.hbm, 712, rfl⟩
abbrev main_v630 : Ref sig .tc := ⟨.hbm, 713, rfl⟩
abbrev main_v631 : Ref sig .tc := ⟨.hbm, 714, rfl⟩
abbrev main_v632 : Ref sig .tc := ⟨.hbm, 715, rfl⟩
abbrev main_v633 : Ref sig .tc := ⟨.hbm, 716, rfl⟩
abbrev main_v634 : Ref sig .tc := ⟨.hbm, 717, rfl⟩
abbrev main_v635 : Ref sig .tc := ⟨.hbm, 718, rfl⟩
abbrev main_v636 : Ref sig .tc := ⟨.hbm, 719, rfl⟩
abbrev main_v637 : Ref sig .tc := ⟨.hbm, 720, rfl⟩
abbrev main_v638 : Ref sig .tc := ⟨.hbm, 721, rfl⟩
abbrev main_v639 : Ref sig .tc := ⟨.hbm, 722, rfl⟩
abbrev main_v640 : Ref sig .tc := ⟨.hbm, 723, rfl⟩
abbrev main_v641 : Ref sig .tc := ⟨.hbm, 724, rfl⟩
abbrev main_v642 : Ref sig .tc := ⟨.hbm, 725, rfl⟩
abbrev main_v643 : Ref sig .tc := ⟨.hbm, 726, rfl⟩
abbrev main_v644 : Ref sig .tc := ⟨.hbm, 727, rfl⟩
abbrev main_v645 : Ref sig .tc := ⟨.hbm, 728, rfl⟩
abbrev main_v646 : Ref sig .tc := ⟨.hbm, 729, rfl⟩
abbrev main_v647 : Ref sig .tc := ⟨.hbm, 730, rfl⟩
abbrev main_v648 : Ref sig .tc := ⟨.hbm, 731, rfl⟩
abbrev main_v649 : Ref sig .tc := ⟨.hbm, 732, rfl⟩
abbrev main_v650 : Ref sig .tc := ⟨.hbm, 733, rfl⟩
abbrev main_v651 : Ref sig .tc := ⟨.hbm, 734, rfl⟩
abbrev main_v652 : Ref sig .tc := ⟨.hbm, 735, rfl⟩
abbrev main_v653 : Ref sig .tc := ⟨.hbm, 736, rfl⟩
abbrev main_v654 : Ref sig .tc := ⟨.hbm, 737, rfl⟩
abbrev main_v655 : Ref sig .tc := ⟨.hbm, 738, rfl⟩
abbrev main_v656 : Ref sig .tc := ⟨.hbm, 739, rfl⟩
abbrev main_v657 : Ref sig .tc := ⟨.hbm, 740, rfl⟩
abbrev main_v658 : Ref sig .tc := ⟨.hbm, 741, rfl⟩
abbrev main_v659 : Ref sig .tc := ⟨.hbm, 742, rfl⟩
abbrev main_v660 : Ref sig .tc := ⟨.hbm, 743, rfl⟩
abbrev main_v661 : Ref sig .tc := ⟨.hbm, 744, rfl⟩
abbrev main_v662 : Ref sig .tc := ⟨.hbm, 745, rfl⟩
abbrev main_v663 : Ref sig .tc := ⟨.hbm, 746, rfl⟩
abbrev main_v664 : Ref sig .tc := ⟨.hbm, 747, rfl⟩
abbrev main_v665 : Ref sig .tc := ⟨.hbm, 748, rfl⟩
abbrev main_v666 : Ref sig .tc := ⟨.hbm, 749, rfl⟩
abbrev main_v667 : Ref sig .tc := ⟨.hbm, 750, rfl⟩
abbrev main_v668 : Ref sig .tc := ⟨.hbm, 751, rfl⟩
abbrev main_v669 : Ref sig .tc := ⟨.hbm, 752, rfl⟩
abbrev main_v670 : Ref sig .tc := ⟨.hbm, 753, rfl⟩
abbrev main_v671 : Ref sig .tc := ⟨.hbm, 754, rfl⟩
abbrev main_v672 : Ref sig .tc := ⟨.hbm, 755, rfl⟩
abbrev main_v673 : Ref sig .tc := ⟨.hbm, 756, rfl⟩
abbrev main_v674 : Ref sig .tc := ⟨.hbm, 757, rfl⟩
abbrev main_v675 : Ref sig .tc := ⟨.hbm, 758, rfl⟩
abbrev main_v676 : Ref sig .tc := ⟨.hbm, 759, rfl⟩
abbrev main_v677 : Ref sig .tc := ⟨.hbm, 760, rfl⟩
abbrev main_v678 : Ref sig .tc := ⟨.hbm, 761, rfl⟩
abbrev main_v679 : Ref sig .tc := ⟨.hbm, 762, rfl⟩
abbrev main_v680 : Ref sig .tc := ⟨.hbm, 763, rfl⟩
abbrev main_v681 : Ref sig .tc := ⟨.hbm, 764, rfl⟩
abbrev main_v682 : Ref sig .tc := ⟨.hbm, 765, rfl⟩
abbrev main_v683 : Ref sig .tc := ⟨.hbm, 766, rfl⟩
abbrev main_v684 : Ref sig .tc := ⟨.hbm, 767, rfl⟩
abbrev main_v685 : Ref sig .tc := ⟨.hbm, 768, rfl⟩
abbrev main_v686 : Ref sig .tc := ⟨.hbm, 769, rfl⟩
abbrev main_v687 : Ref sig .tc := ⟨.hbm, 770, rfl⟩
abbrev main_v688 : Ref sig .tc := ⟨.hbm, 771, rfl⟩
abbrev main_v689 : Ref sig .tc := ⟨.hbm, 772, rfl⟩
abbrev main_v690 : Ref sig .tc := ⟨.hbm, 773, rfl⟩
abbrev main_v691 : Ref sig .tc := ⟨.hbm, 774, rfl⟩
abbrev main_v692 : Ref sig .tc := ⟨.hbm, 775, rfl⟩
abbrev main_v693 : Ref sig .tc := ⟨.hbm, 776, rfl⟩
abbrev main_v694 : Ref sig .tc := ⟨.hbm, 777, rfl⟩
abbrev main_v695 : Ref sig .tc := ⟨.hbm, 778, rfl⟩
abbrev main_v696 : Ref sig .tc := ⟨.hbm, 779, rfl⟩
abbrev main_v697 : Ref sig .tc := ⟨.hbm, 780, rfl⟩
abbrev main_v698 : Ref sig .tc := ⟨.hbm, 781, rfl⟩
abbrev main_v699 : Ref sig .tc := ⟨.hbm, 782, rfl⟩
abbrev main_v700 : Ref sig .tc := ⟨.hbm, 783, rfl⟩
abbrev main_v701 : Ref sig .tc := ⟨.hbm, 784, rfl⟩
abbrev main_v702 : Ref sig .tc := ⟨.hbm, 785, rfl⟩
abbrev main_v703 : Ref sig .tc := ⟨.hbm, 786, rfl⟩
abbrev main_v704 : Ref sig .tc := ⟨.hbm, 787, rfl⟩
abbrev main_v705 : Ref sig .tc := ⟨.hbm, 788, rfl⟩
abbrev main_v706 : Ref sig .tc := ⟨.hbm, 789, rfl⟩
abbrev main_v707 : Ref sig .tc := ⟨.hbm, 790, rfl⟩
abbrev main_v708 : Ref sig .tc := ⟨.hbm, 791, rfl⟩
abbrev main_v709 : Ref sig .tc := ⟨.hbm, 792, rfl⟩
abbrev main_v710 : Ref sig .tc := ⟨.hbm, 793, rfl⟩
abbrev main_v711 : Ref sig .tc := ⟨.hbm, 794, rfl⟩
abbrev main_v712 : Ref sig .tc := ⟨.hbm, 795, rfl⟩
abbrev main_v713 : Ref sig .tc := ⟨.hbm, 796, rfl⟩
abbrev main_v714 : Ref sig .tc := ⟨.hbm, 797, rfl⟩
abbrev main_v715 : Ref sig .tc := ⟨.hbm, 798, rfl⟩
abbrev main_v716 : Ref sig .tc := ⟨.hbm, 799, rfl⟩
abbrev main_v717 : Ref sig .tc := ⟨.hbm, 800, rfl⟩
abbrev main_v718 : Ref sig .tc := ⟨.hbm, 801, rfl⟩
abbrev main_v719 : Ref sig .tc := ⟨.hbm, 802, rfl⟩
abbrev main_v720 : Ref sig .tc := ⟨.hbm, 803, rfl⟩
abbrev main_v721 : Ref sig .tc := ⟨.hbm, 804, rfl⟩
abbrev main_v722 : Ref sig .tc := ⟨.hbm, 805, rfl⟩
abbrev main_v723 : Ref sig .tc := ⟨.hbm, 806, rfl⟩
abbrev main_v724 : Ref sig .tc := ⟨.hbm, 807, rfl⟩
abbrev main_v725 : Ref sig .tc := ⟨.hbm, 808, rfl⟩
abbrev main_v726 : Ref sig .tc := ⟨.hbm, 809, rfl⟩
abbrev main_v727 : Ref sig .tc := ⟨.hbm, 810, rfl⟩
abbrev main_v728 : Ref sig .tc := ⟨.hbm, 811, rfl⟩
abbrev main_v729 : Ref sig .tc := ⟨.hbm, 812, rfl⟩
abbrev main_v730 : Ref sig .tc := ⟨.hbm, 813, rfl⟩
abbrev main_v731 : Ref sig .tc := ⟨.hbm, 814, rfl⟩
abbrev main_v732 : Ref sig .tc := ⟨.hbm, 815, rfl⟩
abbrev main_v733 : Ref sig .tc := ⟨.hbm, 816, rfl⟩
abbrev main_v734 : Ref sig .tc := ⟨.hbm, 817, rfl⟩
abbrev main_v735 : Ref sig .tc := ⟨.hbm, 818, rfl⟩
abbrev main_v736 : Ref sig .tc := ⟨.hbm, 819, rfl⟩
abbrev main_v737 : Ref sig .tc := ⟨.hbm, 820, rfl⟩
abbrev main_v738 : Ref sig .tc := ⟨.hbm, 821, rfl⟩
abbrev main_v739 : Ref sig .tc := ⟨.hbm, 822, rfl⟩
abbrev main_v740 : Ref sig .tc := ⟨.hbm, 823, rfl⟩
abbrev main_v741 : Ref sig .tc := ⟨.hbm, 824, rfl⟩
abbrev main_v742 : Ref sig .tc := ⟨.hbm, 825, rfl⟩
abbrev main_v743 : Ref sig .tc := ⟨.hbm, 826, rfl⟩
abbrev main_v744 : Ref sig .tc := ⟨.hbm, 827, rfl⟩
abbrev main_v745 : Ref sig .tc := ⟨.hbm, 828, rfl⟩
abbrev main_v746 : Ref sig .tc := ⟨.hbm, 829, rfl⟩
abbrev main_v747 : Ref sig .tc := ⟨.hbm, 830, rfl⟩
abbrev main_v748 : Ref sig .tc := ⟨.hbm, 831, rfl⟩
abbrev main_v749 : Ref sig .tc := ⟨.hbm, 832, rfl⟩
abbrev main_v750 : Ref sig .tc := ⟨.hbm, 833, rfl⟩
abbrev main_v751 : Ref sig .tc := ⟨.hbm, 834, rfl⟩
abbrev main_v752 : Ref sig .tc := ⟨.hbm, 835, rfl⟩
abbrev main_v753 : Ref sig .tc := ⟨.hbm, 836, rfl⟩
abbrev main_v754 : Ref sig .tc := ⟨.hbm, 837, rfl⟩
abbrev main_v755 : Ref sig .tc := ⟨.hbm, 838, rfl⟩
abbrev main_v756 : Ref sig .tc := ⟨.hbm, 839, rfl⟩
abbrev main_v757 : Ref sig .tc := ⟨.hbm, 840, rfl⟩
abbrev main_v758 : Ref sig .tc := ⟨.hbm, 841, rfl⟩
abbrev main_v759 : Ref sig .tc := ⟨.hbm, 842, rfl⟩
abbrev main_v760 : Ref sig .tc := ⟨.hbm, 843, rfl⟩
abbrev main_v761 : Ref sig .tc := ⟨.hbm, 844, rfl⟩
abbrev main_v762 : Ref sig .tc := ⟨.hbm, 845, rfl⟩
abbrev main_v763 : Ref sig .tc := ⟨.hbm, 846, rfl⟩
abbrev main_v764 : Ref sig .tc := ⟨.hbm, 847, rfl⟩
abbrev main_v765 : Ref sig .tc := ⟨.hbm, 848, rfl⟩
abbrev main_v766 : Ref sig .tc := ⟨.hbm, 849, rfl⟩
abbrev main_v767 : Ref sig .tc := ⟨.hbm, 850, rfl⟩
abbrev main_v768 : Ref sig .tc := ⟨.hbm, 851, rfl⟩
abbrev main_v769 : Ref sig .tc := ⟨.hbm, 852, rfl⟩
abbrev main_v770 : Ref sig .tc := ⟨.hbm, 853, rfl⟩
abbrev main_v771 : Ref sig .tc := ⟨.hbm, 854, rfl⟩
abbrev main_v772 : Ref sig .tc := ⟨.hbm, 855, rfl⟩
abbrev main_v773 : Ref sig .tc := ⟨.hbm, 856, rfl⟩
abbrev main_v774 : Ref sig .tc := ⟨.hbm, 857, rfl⟩
abbrev main_v775 : Ref sig .tc := ⟨.hbm, 858, rfl⟩
abbrev main_v776 : Ref sig .tc := ⟨.hbm, 859, rfl⟩
abbrev main_v777 : Ref sig .tc := ⟨.hbm, 860, rfl⟩
abbrev main_v778 : Ref sig .tc := ⟨.hbm, 861, rfl⟩
abbrev main_v779 : Ref sig .tc := ⟨.hbm, 862, rfl⟩
abbrev main_v780 : Ref sig .tc := ⟨.hbm, 863, rfl⟩
abbrev main_v781 : Ref sig .tc := ⟨.hbm, 864, rfl⟩
abbrev main_v782 : Ref sig .tc := ⟨.hbm, 865, rfl⟩
abbrev main_v783 : Ref sig .tc := ⟨.hbm, 866, rfl⟩
abbrev main_v784 : Ref sig .tc := ⟨.hbm, 867, rfl⟩
abbrev main_v785 : Ref sig .tc := ⟨.hbm, 868, rfl⟩
abbrev main_v786 : Ref sig .tc := ⟨.hbm, 869, rfl⟩
abbrev main_v787 : Ref sig .tc := ⟨.hbm, 870, rfl⟩
abbrev main_v788 : Ref sig .tc := ⟨.hbm, 871, rfl⟩
abbrev main_v789 : Ref sig .tc := ⟨.hbm, 872, rfl⟩
abbrev main_v790 : Ref sig .tc := ⟨.hbm, 873, rfl⟩
abbrev main_v791 : Ref sig .tc := ⟨.hbm, 874, rfl⟩
abbrev main_v792 : Ref sig .tc := ⟨.hbm, 875, rfl⟩
abbrev main_v793 : Ref sig .tc := ⟨.hbm, 876, rfl⟩
abbrev main_v794 : Ref sig .tc := ⟨.hbm, 877, rfl⟩
abbrev main_v795 : Ref sig .tc := ⟨.hbm, 878, rfl⟩
abbrev main_v796 : Ref sig .tc := ⟨.hbm, 879, rfl⟩
abbrev main_v797 : Ref sig .tc := ⟨.hbm, 880, rfl⟩
abbrev main_v798 : Ref sig .tc := ⟨.hbm, 881, rfl⟩
abbrev main_v799 : Ref sig .tc := ⟨.hbm, 882, rfl⟩
abbrev main_v800 : Ref sig .tc := ⟨.hbm, 883, rfl⟩
abbrev main_v801 : Ref sig .tc := ⟨.hbm, 884, rfl⟩
abbrev main_v802 : Ref sig .tc := ⟨.hbm, 885, rfl⟩
abbrev main_v803 : Ref sig .tc := ⟨.hbm, 886, rfl⟩
abbrev main_v804 : Ref sig .tc := ⟨.hbm, 887, rfl⟩
abbrev main_v805 : Ref sig .tc := ⟨.hbm, 888, rfl⟩
abbrev main_v806 : Ref sig .tc := ⟨.hbm, 889, rfl⟩
abbrev main_v807 : Ref sig .tc := ⟨.hbm, 890, rfl⟩
abbrev main_v808 : Ref sig .tc := ⟨.hbm, 891, rfl⟩
abbrev main_v809 : Ref sig .tc := ⟨.hbm, 892, rfl⟩
abbrev main_v810 : Ref sig .tc := ⟨.hbm, 893, rfl⟩
abbrev main_v811 : Ref sig .tc := ⟨.hbm, 894, rfl⟩
abbrev main_v812 : Ref sig .tc := ⟨.hbm, 895, rfl⟩
abbrev main_v813 : Ref sig .tc := ⟨.hbm, 896, rfl⟩
abbrev main_v814 : Ref sig .tc := ⟨.hbm, 897, rfl⟩
abbrev main_v815 : Ref sig .tc := ⟨.hbm, 898, rfl⟩
abbrev main_v816 : Ref sig .tc := ⟨.hbm, 899, rfl⟩
abbrev main_v817 : Ref sig .tc := ⟨.hbm, 900, rfl⟩
abbrev main_v818 : Ref sig .tc := ⟨.hbm, 901, rfl⟩
abbrev main_v819 : Ref sig .tc := ⟨.hbm, 902, rfl⟩
abbrev main_v820 : Ref sig .tc := ⟨.hbm, 903, rfl⟩
abbrev main_v821 : Ref sig .tc := ⟨.hbm, 904, rfl⟩
abbrev main_v822 : Ref sig .tc := ⟨.hbm, 905, rfl⟩
abbrev main_v823 : Ref sig .tc := ⟨.hbm, 906, rfl⟩
abbrev main_v824 : Ref sig .tc := ⟨.hbm, 907, rfl⟩
abbrev main_v825 : Ref sig .tc := ⟨.hbm, 908, rfl⟩
abbrev main_v826 : Ref sig .tc := ⟨.hbm, 909, rfl⟩
abbrev main_v827 : Ref sig .tc := ⟨.hbm, 910, rfl⟩
abbrev main_v828 : Ref sig .tc := ⟨.hbm, 911, rfl⟩
abbrev main_v829 : Ref sig .tc := ⟨.hbm, 912, rfl⟩
abbrev main_v830 : Ref sig .tc := ⟨.hbm, 913, rfl⟩
abbrev main_v831 : Ref sig .tc := ⟨.hbm, 914, rfl⟩
abbrev main_v832 : Ref sig .tc := ⟨.hbm, 915, rfl⟩
abbrev main_v833 : Ref sig .tc := ⟨.hbm, 916, rfl⟩
abbrev main_v834 : Ref sig .tc := ⟨.hbm, 917, rfl⟩
abbrev main_v835 : Ref sig .tc := ⟨.hbm, 918, rfl⟩
abbrev main_v836 : Ref sig .tc := ⟨.hbm, 919, rfl⟩
abbrev main_v837 : Ref sig .tc := ⟨.hbm, 920, rfl⟩
abbrev main_v838 : Ref sig .tc := ⟨.hbm, 921, rfl⟩
abbrev main_v839 : Ref sig .tc := ⟨.hbm, 922, rfl⟩
abbrev main_v840 : Ref sig .tc := ⟨.hbm, 923, rfl⟩
abbrev main_v841 : Ref sig .tc := ⟨.hbm, 924, rfl⟩
abbrev main_v842 : Ref sig .tc := ⟨.hbm, 925, rfl⟩
abbrev main_v843 : Ref sig .tc := ⟨.hbm, 926, rfl⟩
abbrev main_v844 : Ref sig .tc := ⟨.hbm, 927, rfl⟩
abbrev main_v845 : Ref sig .tc := ⟨.hbm, 928, rfl⟩
abbrev main_v846 : Ref sig .tc := ⟨.hbm, 929, rfl⟩
abbrev main_v847 : Ref sig .tc := ⟨.hbm, 930, rfl⟩
abbrev main_v848 : Ref sig .tc := ⟨.hbm, 931, rfl⟩
abbrev main_v849 : Ref sig .tc := ⟨.hbm, 932, rfl⟩
abbrev main_v850 : Ref sig .tc := ⟨.hbm, 933, rfl⟩
abbrev main_v851 : Ref sig .tc := ⟨.hbm, 934, rfl⟩
abbrev main_v852 : Ref sig .tc := ⟨.hbm, 935, rfl⟩
abbrev main_v853 : Ref sig .tc := ⟨.hbm, 936, rfl⟩
abbrev main_v854 : Ref sig .tc := ⟨.hbm, 937, rfl⟩
abbrev main_v855 : Ref sig .tc := ⟨.hbm, 938, rfl⟩
abbrev main_v856 : Ref sig .tc := ⟨.hbm, 939, rfl⟩
abbrev main_v857 : Ref sig .tc := ⟨.hbm, 940, rfl⟩
abbrev main_v858 : Ref sig .tc := ⟨.hbm, 941, rfl⟩
abbrev main_v859 : Ref sig .tc := ⟨.hbm, 942, rfl⟩
abbrev main_v860 : Ref sig .tc := ⟨.hbm, 943, rfl⟩
abbrev main_v861 : Ref sig .tc := ⟨.hbm, 944, rfl⟩
abbrev main_v862 : Ref sig .tc := ⟨.hbm, 945, rfl⟩
abbrev main_v863 : Ref sig .tc := ⟨.hbm, 946, rfl⟩
abbrev main_v864 : Ref sig .tc := ⟨.hbm, 947, rfl⟩
abbrev main_v865 : Ref sig .tc := ⟨.hbm, 948, rfl⟩
abbrev main_v866 : Ref sig .tc := ⟨.hbm, 949, rfl⟩
abbrev main_v867 : Ref sig .tc := ⟨.hbm, 950, rfl⟩
abbrev main_v868 : Ref sig .tc := ⟨.hbm, 951, rfl⟩
abbrev main_v869 : Ref sig .tc := ⟨.hbm, 952, rfl⟩
abbrev main_v870 : Ref sig .tc := ⟨.hbm, 953, rfl⟩
abbrev main_v871 : Ref sig .tc := ⟨.hbm, 954, rfl⟩
abbrev main_v872 : Ref sig .tc := ⟨.hbm, 955, rfl⟩
abbrev main_v873 : Ref sig .tc := ⟨.hbm, 956, rfl⟩
abbrev main_v874 : Ref sig .tc := ⟨.hbm, 957, rfl⟩
abbrev main_v875 : Ref sig .tc := ⟨.hbm, 958, rfl⟩
abbrev main_v876 : Ref sig .tc := ⟨.hbm, 959, rfl⟩
abbrev main_v877 : Ref sig .tc := ⟨.hbm, 960, rfl⟩
abbrev main_v878 : Ref sig .tc := ⟨.hbm, 961, rfl⟩
abbrev main_v879 : Ref sig .tc := ⟨.hbm, 962, rfl⟩
abbrev main_v880 : Ref sig .tc := ⟨.hbm, 963, rfl⟩
abbrev main_v881 : Ref sig .tc := ⟨.hbm, 964, rfl⟩
abbrev main_v882 : Ref sig .tc := ⟨.hbm, 965, rfl⟩
abbrev main_v883 : Ref sig .tc := ⟨.hbm, 966, rfl⟩
abbrev main_v884 : Ref sig .tc := ⟨.hbm, 967, rfl⟩
abbrev main_v885 : Ref sig .tc := ⟨.hbm, 968, rfl⟩
abbrev main_v886 : Ref sig .tc := ⟨.hbm, 969, rfl⟩
abbrev main_v887 : Ref sig .tc := ⟨.hbm, 970, rfl⟩
abbrev main_v888 : Ref sig .tc := ⟨.hbm, 971, rfl⟩
abbrev main_v889 : Ref sig .tc := ⟨.hbm, 972, rfl⟩
abbrev main_v890 : Ref sig .tc := ⟨.hbm, 973, rfl⟩
abbrev main_v891 : Ref sig .tc := ⟨.hbm, 974, rfl⟩

abbrev nD : Nat := 1
abbrev τ : Topo := Topo.v7x

variable {F : FTy → Type} [FloatOps F]
-- ==== Proof.Spec.lean ====
/- The network over the real numbers: convolution, batch normalisation, pooling, as the reference states them and as the
   kernel computes them, and that the two agree. An image stack is a function of image, channel, row and column. -/
module

public import Idealize.ShloMosaic.PureOps.Ideal

@[expose] public section

noncomputable section

namespace Cert.Spec

/-- A stack of images: image, channel, row, column. -/
abbrev Img := ℕ → ℕ → ℕ → ℕ → ℝ

/-- The stack with a border of zeros one wide, its rows and columns counted from the border. -/
def padv (h : ℕ) (x : Img) : Img := fun n c i j =>
  if 1 ≤ i ∧ i ≤ h ∧ 1 ≤ j ∧ j ≤ h then x n c (i - 1) (j - 1) else 0

/-- The rectified 3×3 convolution with a bias: tap `t` is row `t / 3`, column `t % 3` of the filter. -/
def convRelu (C h : ℕ) (x w : Img) (b : ℕ → ℝ) : Img := fun n o i j =>
  max ((∑ t : Fin 9, ∑ c : Fin C, padv h x n c (i + t / 3) (j + t % 3) * w o c (t / 3) (t % 3)) + b o) 0

/-- The sum of a channel over one image. -/
def isum (h : ℕ) (y : Img) (n o : ℕ) : ℝ := ∑ i : Fin h, ∑ j : Fin h, y n o i j

/-- The mean of a channel over all images. -/
def mean (N h : ℕ) (y : Img) (o : ℕ) : ℝ := (∑ n : Fin N, isum h y n o) / (N * h * h : ℕ)

/-- The variance of a channel over all images. -/
def var (N h : ℕ) (y : Img) (o : ℕ) : ℝ :=
  (∑ n : Fin N, isum h (fun n o i j => (y n o i j - mean N h y o) * (y n o i j - mean N h y o)) n o) / (N * h * h : ℕ)

/-- Batch normalisation with the stack's own statistics. -/
def bn (e : ℝ) (N h : ℕ) (y : Img) (g be : ℕ → ℝ) : Img := fun n o i j =>
  (y n o i j - mean N h y o) * (√(var N h y o + e))⁻¹ * g o + be o

/-- The greatest of each 2×2 window. -/
def pool (y : Img) : Img := fun n o i j =>
  max (max (y n o (2 * i) (2 * j)) (y n o (2 * i) (2 * j + 1))) (max (y n o (2 * i + 1) (2 * j)) (y n o (2 * i + 1) (2 * j + 1)))

/-- The least of each 2×2 window. -/
def minPool (y : Img) : Img := fun n o i j =>
  min (min (y n o (2 * i) (2 * j)) (y n o (2 * i) (2 * j + 1))) (min (y n o (2 * i + 1) (2 * j)) (y n o (2 * i + 1) (2 * j + 1)))

/-- The variance as the mean of the squares less the square of the mean. -/
def kvar (N h : ℕ) (y : Img) (o : ℕ) : ℝ :=
  (∑ n : Fin N, isum h (fun n o i j => y n o i j * y n o i j) n o) / (N * h * h : ℕ) - mean N h y o * mean N h y o

/-- The factor of the normalisation. -/
def kscale (e : ℝ) (N h : ℕ) (y : Img) (g : ℕ → ℝ) (o : ℕ) : ℝ := g o * (√(kvar N h y o + e))⁻¹

/-- Pooling before the normalisation: the greatest of the window where the factor is not negative, else the least; then
    the factor and the shift. -/
def kbnPool (e : ℝ) (N h : ℕ) (y : Img) (g be : ℕ → ℝ) : Img := fun n o i j =>
  (if 0 ≤ kscale e N h y g o then pool y n o i j else minPool y n o i j) * kscale e N h y g o
    + (be o - mean N h y o * kscale e N h y g o)

/-- A sum over the images, rows and columns as one sum. -/
theorem sum_isum (N h : ℕ) (y : Img) (o : ℕ) :
    ∑ n : Fin N, isum h y n o = ∑ p : Fin N × Fin h × Fin h, y p.1 o p.2.1 p.2.2 := by
  rw [Fintype.sum_prod_type]
  exact Finset.sum_congr rfl fun n _ => (Fintype.sum_prod_type fun q : Fin h × Fin h => y n o q.1 q.2).symm

/-- The two forms of the variance are one number. -/
theorem kvar_eq_var {N h : ℕ} (hN : 0 < N) (hh : 0 < h) (y : Img) (o : ℕ) : kvar N h y o = var N h y o := by
  have hc : ((N * h * h : ℕ) : ℝ) ≠ 0 := Nat.cast_ne_zero.2 (Nat.mul_pos (Nat.mul_pos hN hh) hh).ne'
  have hm : ∑ p : Fin N × Fin h × Fin h, y p.1 o p.2.1 p.2.2 = mean N h y o * (N * h * h : ℕ) := by
    rw [mean, div_mul_cancel₀ _ hc, sum_isum]
  rw [kvar, var, sum_isum, sum_isum]
  have e : ∑ p : Fin N × Fin h × Fin h, (y p.1 o p.2.1 p.2.2 - mean N h y o) * (y p.1 o p.2.1 p.2.2 - mean N h y o)
      = ∑ p : Fin N × Fin h × Fin h, y p.1 o p.2.1 p.2.2 * y p.1 o p.2.1 p.2.2
        - 2 * mean N h y o * ∑ p : Fin N × Fin h × Fin h, y p.1 o p.2.1 p.2.2
        + (N * h * h : ℕ) * (mean N h y o * mean N h y o) := by
    have hcard : ((N * h * h : ℕ) : ℝ) * (mean N h y o * mean N h y o)
        = ∑ _p : Fin N × Fin h × Fin h, mean N h y o * mean N h y o := by
      rw [Finset.sum_const, Finset.card_univ, Fintype.card_prod, Fintype.card_prod, Fintype.card_fin, Fintype.card_fin,
        nsmul_eq_mul, mul_assoc N h h]
    rw [hcard, Finset.mul_sum, ← Finset.sum_sub_distrib, ← Finset.sum_add_distrib]
    exact Finset.sum_congr rfl fun p _ => by ring
  rw [e, hm]
  field_simp
  ring

/-- The variance is not negative. -/
theorem var_nonneg (N h : ℕ) (y : Img) (o : ℕ) : 0 ≤ var N h y o :=
  div_nonneg (Finset.sum_nonneg fun _ _ => Finset.sum_nonneg fun _ _ => Finset.sum_nonneg fun _ _ => mul_self_nonneg _)
    (Nat.cast_nonneg _)

/-- The greatest of four values under an increasing affine map, and the least under a decreasing one, is the greatest of
    the mapped values. -/
theorem affine_max (a b p q r s : ℝ) :
    (if 0 ≤ a then max (max p q) (max r s) else min (min p q) (min r s)) * a + b
      = max (max (p * a + b) (q * a + b)) (max (r * a + b) (s * a + b)) := by
  by_cases h : 0 ≤ a
  · rw [if_pos h]
    have m : Monotone fun x : ℝ => x * a + b := fun x y hxy => add_le_add_left (mul_le_mul_of_nonneg_right hxy h) b
    have e : ∀ x y : ℝ, max x y * a + b = max (x * a + b) (y * a + b) := fun x y => m.map_max
    rw [e, e, e]
  · rw [if_neg h]
    have m : Antitone fun x : ℝ => x * a + b := fun x y hxy =>
      add_le_add_left (mul_le_mul_of_nonpos_right hxy (not_le.1 h).le) b
    have e : ∀ x y : ℝ, min x y * a + b = max (x * a + b) (y * a + b) := fun x y => m.map_min
    rw [e, e, e]

/-- Pooling first and normalising after, as the kernel does, is normalising and then pooling. -/
theorem kbnPool_eq {N h : ℕ} (hN : 0 < N) (hh : 0 < h) (e : ℝ) (y : Img) (g be : ℕ → ℝ) :
    kbnPool e N h y g be = pool (bn e N h y g be) := by
  funext n o i j
  have hb : ∀ i j, bn e N h y g be n o i j
      = y n o i j * kscale e N h y g o + (be o - mean N h y o * kscale e N h y g o) := fun i j => by
    rw [bn, kscale, kvar_eq_var hN hh]; ring
  rw [kbnPool, pool, pool, minPool, hb, hb, hb, hb, affine_max]

end Cert.Spec

end
-- ==== Proof.Reals.lean ====
/- Sums, extrema, quotients and constants of real numbers read as extended reals. -/
module

public import Idealize.ShloMosaic.PureOps.Ideal
public import Idealize.ShloMosaic.PureOps.Ideal.Laws

@[expose] public section

noncomputable section

namespace Cert.Reals

open Idealize.ShloMosaic

/-- A finite sum of real numbers, read as extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The greater of two real numbers. -/
theorem coe_max (x y : ℝ) : ((max x y : ℝ) : EReal) = max (x : EReal) (y : EReal) := EReal.coe_strictMono.monotone.map_max

/-- The lesser of two real numbers. -/
theorem coe_min (x y : ℝ) : ((min x y : ℝ) : EReal) = min (x : EReal) (y : EReal) := EReal.coe_strictMono.monotone.map_min

/-- The quotient of two real numbers, the divisor not zero. -/
theorem div_coe (x y : ℝ) (h : y ≠ 0) : Ideal.div (x : EReal) (y : EReal) = ((x / y : ℝ) : EReal) := by
  rw [Ideal.div_coe h, ← EReal.coe_mul, mul_one_div]

/-- The reciprocal square root of a positive real number. -/
theorem rsqrt_coe (x : ℝ) (h : 0 < x) : Ideal.rsqrt (x : EReal) = (((√x)⁻¹ : ℝ) : EReal) := by
  rw [Ideal.rsqrt_coe, if_neg h.le.not_gt, if_neg h.ne']

/-- The number added to a variance: the word of the constant. -/
def eps : ℝ := 10995116 / 2 ^ 40

theorem eps_pos : 0 < eps := by unfold eps; norm_num

theorem ofBits_eps : Ideal.ofBits .f32 0x3727C5AC#32 = ((eps : ℝ) : EReal) := by
  simp [Ideal.ofBits, Ideal.ieee, eps, -EReal.coe_mul]
  norm_num

theorem ofBits_bot : Ideal.ofBits .f32 0xFF800000#32 = ⊥ := by
  simp [Ideal.ofBits, Ideal.ieee]

theorem ofBits_zero : Ideal.ofBits .f32 0x00000000#32 = ((0 : ℝ) : EReal) := by
  simp [Ideal.ofBits, Ideal.ieee, -EReal.coe_mul]

theorem ofBits_1411200 : Ideal.ofBits .f32 0x49AC4400#32 = (((200 * 84 * 84 : ℕ) : ℝ) : EReal) := by
  simp [Ideal.ofBits, Ideal.ieee, -EReal.coe_mul]; norm_num
theorem ofBits_352800 : Ideal.ofBits .f32 0x48AC4400#32 = (((200 * 42 * 42 : ℕ) : ℝ) : EReal) := by
  simp [Ideal.ofBits, Ideal.ieee, -EReal.coe_mul]; norm_num
theorem ofBits_88200 : Ideal.ofBits .f32 0x47AC4400#32 = (((200 * 21 * 21 : ℕ) : ℝ) : EReal) := by
  simp [Ideal.ofBits, Ideal.ieee, -EReal.coe_mul]; norm_num
theorem ofBits_20000 : Ideal.ofBits .f32 0x469C4000#32 = (((200 * 10 * 10 : ℕ) : ℝ) : EReal) := by
  simp [Ideal.ofBits, Ideal.ieee, -EReal.coe_mul]; norm_num
theorem ofBits_846720 : Ideal.ofBits .f32 0x494EB800#32 = (((120 * 84 * 84 : ℕ) : ℝ) : EReal) := by
  simp [Ideal.ofBits, Ideal.ieee, -EReal.coe_mul]; norm_num
theorem ofBits_211680 : Ideal.ofBits .f32 0x484EB800#32 = (((120 * 42 * 42 : ℕ) : ℝ) : EReal) := by
  simp [Ideal.ofBits, Ideal.ieee, -EReal.coe_mul]; norm_num
theorem ofBits_52920 : Ideal.ofBits .f32 0x474EB800#32 = (((120 * 21 * 21 : ℕ) : ℝ) : EReal) := by
  simp [Ideal.ofBits, Ideal.ieee, -EReal.coe_mul]; norm_num
theorem ofBits_12000 : Ideal.ofBits .f32 0x463B8000#32 = (((120 * 10 * 10 : ℕ) : ℝ) : EReal) := by
  simp [Ideal.ofBits, Ideal.ieee, -EReal.coe_mul]; norm_num

end Cert.Reals

end
-- ==== Proof.RefOps.lean ====
/- The operations of one layer of the reference, read at an index, at every shape of a layer: a filter tap, the sum of
   the taps, the sums of a channel, the normalisation and the pooling. -/
module

public import proofs.«01_k».proof.Proof.Spec
public import proofs.«01_k».proof.Proof.Reals
public import Idealize.ShloMosaic.Lib.Pipeline.Value
public import Idealize.ShloMosaic.Lib.Pointwise
public import Idealize.ShloMosaic.PureOps.Ideal.Laws

@[expose] public section

set_option maxRecDepth 16384

noncomputable section

namespace Cert.RefOps

open Idealize.ShloMosaic

/-- The shape of rank four with the given extents. -/
abbrev S4 (a b c d : ℕ) : Shape := ⟨4, ![a, b, c, d]⟩
/-- The shape of rank two with the given extents. -/
abbrev S2 (a b : ℕ) : Shape := ⟨2, ![a, b]⟩
/-- The shape of rank one with the given extent. -/
abbrev S1 (a : ℕ) : Shape := ⟨1, ![a]⟩
/-- The shape of rank zero. -/
abbrev S0 : Shape := ⟨0, ![]⟩

/-- The product of a tap's weights with the shifted images: channels contracted. -/
abbrev tapDims (N C H : ℕ) (wf : DotDims.WF (S2 64 C) (S4 N C H H) (S4 64 N H H) [1] [1] [0] [0, 2, 3] [] []) :
    DotDims (S2 64 C) (S4 N C H H) (S4 64 N H H) where
  lhsContracting := [1]
  rhsContracting := [1]
  lhsNonContracting := [0]
  rhsNonContracting := [0, 2, 3]
  lhsBatch := []
  rhsBatch := []
  wf := wf

/-- One tap of the convolution at an index. -/
theorem tap_apply {N C H Hp : ℕ} (wf) (dh dw : Fin 3) (hH : Hp = H + 2)
    (w : FVec Ideal (S4 64 C 3 3) .f32) (x : FVec Ideal (S4 N C Hp Hp) .f32)
    (h1 : (S4 64 C 3 3).Slices ![0, 0, (dh : ℕ), (dw : ℕ)] (S4 64 C 1 1)) (h2 : (S4 64 C 1 1).ShapeCasts (S2 64 C))
    (h3 : (S4 N C Hp Hp).Slices ![0, 0, (dh : ℕ), (dw : ℕ)] (S4 N C H H)) (o : Fin 64) (n : Fin N) (i j : Fin H) :
    Host.dotGeneral (tapDims N C H wf) none
      (shapeCast (S2 64 C) (extractStridedSlice (S4 64 C 1 1) ![0, 0, (dh : ℕ), (dw : ℕ)] w h1) h2)
      (extractStridedSlice (S4 N C H H) ![0, 0, (dh : ℕ), (dw : ℕ)] x h3) (ix4 o n i j)
      = ∑ c : Fin C, w (ix4 o c dh dw) * x (ix4 n c ⟨dh + i, by omega⟩ ⟨dw + j, by omega⟩) := by
  simp only [Host.dotGeneral]
  rw [Ideal.dotGeneral_apply, ← Equiv.sum_comp (ValueIdx.contrEquiv1 (tapDims N C H wf) C rfl rfl).symm]
  refine Finset.sum_congr rfl fun k _ => ?_
  have hk := ValueIdx.contrEquiv1_symm_val (tapDims N C H wf) C rfl rfl k
  generalize (ValueIdx.contrEquiv1 (tapDims N C H wf) C rfl rfl).symm k = q at hk
  have el : (tapDims N C H wf).lhsIdx (ix4 o n i j) q = ix2 o k := funext fun a => Fin.ext (by
    match a with
    | ⟨0, _⟩ => rfl
    | ⟨1, _⟩ => exact ((tapDims N C H wf).lhsIdx_val_of_single rfl _ q).trans hk)
  have er : (tapDims N C H wf).rhsIdx (ix4 o n i j) q = ix4 n k i j := funext fun a => Fin.ext (by
    match a with
    | ⟨0, _⟩ => rfl
    | ⟨1, _⟩ => exact ((tapDims N C H wf).rhsIdx_val_of_single rfl _ q).trans hk
    | ⟨2, _⟩ => rfl
    | ⟨3, _⟩ => rfl)
  rw [el, er]
  congr 1
  · rw [shapeCast_apply _ h2 (ix2 o k) (ix4 o k 0 0) (by
      rw [Shape.rowMajor_val_four, Shape.rowMajor_val_two]
      show ((o.val * C + k.val) * 1 + 0) * 1 + 0 = o.val * C + k.val
      omega)]
    exact extractStridedSlice_apply _ w h1 (ix4 o k 0 0) (ix4 o k dh dw) (fun a => by
      match a with
      | ⟨0, _⟩ => exact (Nat.zero_add _).symm
      | ⟨1, _⟩ => exact (Nat.zero_add _).symm
      | ⟨2, _⟩ => rfl
      | ⟨3, _⟩ => rfl)
  · exact extractStridedSlice_apply _ x h3 (ix4 n k i j) (ix4 n k ⟨dh + i, by omega⟩ ⟨dw + j, by omega⟩) (fun a => by
      match a with
      | ⟨0, _⟩ => exact (Nat.zero_add _).symm
      | ⟨1, _⟩ => exact (Nat.zero_add _).symm
      | ⟨2, _⟩ => rfl
      | ⟨3, _⟩ => rfl)

/-- The images with a border of zeros, at an index. -/
theorem pad_coe {N C H Hp : ℕ} (hH : Hp = H + 2) (x : FVec Ideal (S4 N C H H) .f32) (X : Spec.Img)
    (hx : ∀ n c i j, x (ix4 n c i j) = ((X n c i j : ℝ) : EReal)) (v : FVec Ideal S0 .f32) (hv : ∀ i, v i = ((0 : ℝ) : EReal))
    (h : (S4 N C H H).Pads ![0, 0, 1, 1] ![0, 0, 1, 1] ![0, 0, 0, 0] (S4 N C Hp Hp)) (hu : 0 < S0.numel)
    (n : Fin N) (c : Fin C) (i j : Fin Hp) :
    pad (S4 N C Hp Hp) ![0, 0, 1, 1] ![0, 0, 1, 1] ![0, 0, 0, 0] x v h hu (ix4 n c i j)
      = ((Spec.padv H X n c i j : ℝ) : EReal) := by
  unfold pad Spec.padv
  have hn := n.isLt
  have hc := c.isLt
  split
  · next hin =>
    have h2 := hin 2
    have h3 := hin 3
    change 1 ≤ i.val ∧ (i.val - 1) % 1 = 0 ∧ (i.val - 1) / 1 < H at h2
    change 1 ≤ j.val ∧ (j.val - 1) % 1 = 0 ∧ (j.val - 1) / 1 < H at h3
    rw [if_pos (by omega)]
    have e := hx n c ⟨i - 1, by omega⟩ ⟨j - 1, by omega⟩
    refine Eq.trans (congrArg x (funext fun a => Fin.ext ?_)) e
    match a with
    | ⟨0, _⟩ => show (n.val - 0) / 1 = n.val; omega
    | ⟨1, _⟩ => show (c.val - 0) / 1 = c.val; omega
    | ⟨2, _⟩ => show (i.val - 1) / 1 = i.val - 1; omega
    | ⟨3, _⟩ => show (j.val - 1) / 1 = j.val - 1; omega
  · next hin =>
    rw [if_neg, hv]
    intro hh
    refine hin fun a => ?_
    match a with
    | ⟨0, _⟩ => show 0 ≤ n.val ∧ (n.val - 0) % 1 = 0 ∧ (n.val - 0) / 1 < N; omega
    | ⟨1, _⟩ => show 0 ≤ c.val ∧ (c.val - 0) % 1 = 0 ∧ (c.val - 0) / 1 < C; omega
    | ⟨2, _⟩ => show 1 ≤ i.val ∧ (i.val - 1) % 1 = 0 ∧ (i.val - 1) / 1 < H; omega
    | ⟨3, _⟩ => show 1 ≤ j.val ∧ (j.val - 1) % 1 = 0 ∧ (j.val - 1) / 1 < H; omega

/-- The sum of a channel over images, rows and columns. -/
theorem sum_coe {N H : ℕ} (x : FVec Ideal (S4 N 64 H H) .f32) (X : Spec.Img)
    (hx : ∀ n c i j, x (ix4 n c i j) = ((X n c i j : ℝ) : EReal)) (v : FVec Ideal S0 .f32) (hv : ∀ i, v i = ((0 : ℝ) : EReal))
    (h : (S4 N 64 H H).ReducesTo [0, 2, 3] (S1 64)) (hu : 0 < S0.numel) (o : Fin 64) :
    Host.reduceAdd x v h hu (ix1 o) = ((∑ n : Fin N, Spec.isum H X n o : ℝ) : EReal) := by
  show Ideal.hostReduceAdd h x (v (Shape.Idx.first hu)) (ix1 o) = _
  unfold Ideal.hostReduceAdd
  rw [hv, Finset.sum_filter, sum_idx4]
  have hd : ∀ (n : Fin N) (c : Fin 64) (i j : Fin H), (h.drop (ix4 n c i j) = ix1 o) ↔ c = o := by
    intro n c i j
    constructor
    · intro e
      have := congrArg Fin.val (congrFun e 0)
      exact Fin.ext this
    · rintro rfl
      funext a
      match a with
      | ⟨0, _⟩ => exact Fin.ext rfl
  simp only [hd, hx, zero_add, EReal.coe_zero, Spec.isum, Reals.coe_sum]
  refine Finset.sum_congr rfl fun n _ => ?_
  rw [Finset.sum_eq_single o (fun c _ hc => by simp [hc]) (fun h => absurd (Finset.mem_univ o) h)]
  simp

/-- The greatest of each 2×2 window at an index. -/
theorem pool_coe {N H H2 : ℕ} (hH : 2 * H2 ≤ H) (x : FVec Ideal (S4 N 64 H H) .f32) (X : Spec.Img)
    (hx : ∀ n c i j, x (ix4 n c i j) = ((X n c i j : ℝ) : EReal)) (v : FVec Ideal S0 .f32) (hv : ∀ i, v i = (⊥ : EReal))
    (h : (S4 N 64 H H).ReduceWindows ![1, 1, 2, 2] ![1, 1, 2, 2] ![0, 0, 0, 0] ![0, 0, 0, 0] (S4 N 64 H2 H2)) (hu : 0 < S0.numel)
    (n : Fin N) (o : Fin 64) (i j : Fin H2) :
    Host.reduceWindow (FloatOps.maximumf (F := Ideal) (φ := .f32)) ![1, 1, 2, 2] ![1, 1, 2, 2] ![0, 0, 0, 0] ![0, 0, 0, 0] x v h hu (ix4 n o i j)
      = ((Spec.pool X n o i j : ℝ) : EReal) := by
  unfold Host.reduceWindow
  have key : ∀ k : Fin (S4 1 1 2 2).numel, ((S4 1 1 2 2).rowMajor.symm k) = ix4 0 0 ⟨k.val / 2, by have := k.isLt; change k.val < 4 at this; omega⟩ ⟨k.val % 2, by omega⟩ := by
    intro k
    rw [Equiv.symm_apply_eq]
    refine Fin.ext ?_
    rw [Shape.rowMajor_val_four]
    show k.val = ((0 * 1 + 0) * 2 + k.val / 2) * 2 + k.val % 2
    omega
  have hn := n.isLt
  have ho := o.isLt
  have hi := i.isLt
  have hj := j.isLt
  have k0 : ∀ k : Fin (S4 1 1 2 2).numel, ((S4 1 1 2 2).rowMajor.symm k 0).val = 0 := fun k => by rw [key]; rfl
  have k1 : ∀ k : Fin (S4 1 1 2 2).numel, ((S4 1 1 2 2).rowMajor.symm k 1).val = 0 := fun k => by rw [key]; rfl
  have k2 : ∀ k : Fin (S4 1 1 2 2).numel, ((S4 1 1 2 2).rowMajor.symm k 2).val = k.val / 2 := fun k => by rw [key]; rfl
  have k3 : ∀ k : Fin (S4 1 1 2 2).numel, ((S4 1 1 2 2).rowMajor.symm k 3).val = k.val % 2 := fun k => by rw [key]; rfl
  refine (List.foldl_ext _ (fun (r : EReal) (k : Fin (S4 1 1 2 2).numel) => max r ((X n o (2 * i + k.val / 2) (2 * j + k.val % 2) : ℝ) : EReal)) _
    (fun r k _ => ?_)).trans ?_
  · have hk := k.isLt
    change k.val < 4 at hk
    have e := hx n o ⟨2 * i + k.val / 2, by omega⟩ ⟨2 * j + k.val % 2, by omega⟩
    show max r _ = max r _
    refine congrArg (max r) ?_
    rw [dif_pos]
    · refine Eq.trans (congrArg x (funext fun a => Fin.ext ?_)) e
      match a with
      | ⟨0, _⟩ => show n.val * 1 + ((S4 1 1 2 2).rowMajor.symm k 0).val - 0 = n.val; rw [k0]; omega
      | ⟨1, _⟩ => show o.val * 1 + ((S4 1 1 2 2).rowMajor.symm k 1).val - 0 = o.val; rw [k1]; omega
      | ⟨2, _⟩ => show i.val * 2 + ((S4 1 1 2 2).rowMajor.symm k 2).val - 0 = 2 * i.val + k.val / 2; rw [k2]; omega
      | ⟨3, _⟩ => show j.val * 2 + ((S4 1 1 2 2).rowMajor.symm k 3).val - 0 = 2 * j.val + k.val % 2; rw [k3]; omega
    · intro a
      match a with
      | ⟨0, _⟩ =>
        show 0 ≤ n.val * 1 + ((S4 1 1 2 2).rowMajor.symm k 0).val ∧ n.val * 1 + ((S4 1 1 2 2).rowMajor.symm k 0).val - 0 < N
        rw [k0]; omega
      | ⟨1, _⟩ =>
        show 0 ≤ o.val * 1 + ((S4 1 1 2 2).rowMajor.symm k 1).val ∧ o.val * 1 + ((S4 1 1 2 2).rowMajor.symm k 1).val - 0 < 64
        rw [k1]; omega
      | ⟨2, _⟩ =>
        show 0 ≤ i.val * 2 + ((S4 1 1 2 2).rowMajor.symm k 2).val ∧ i.val * 2 + ((S4 1 1 2 2).rowMajor.symm k 2).val - 0 < H
        rw [k2]; omega
      | ⟨3, _⟩ =>
        show 0 ≤ j.val * 2 + ((S4 1 1 2 2).rowMajor.symm k 3).val ∧ j.val * 2 + ((S4 1 1 2 2).rowMajor.symm k 3).val - 0 < H
        rw [k3]; omega
  rw [hv]
  change List.foldl (fun (r : EReal) (k : Fin 4) => max r ((X n o (2 * i + k.val / 2) (2 * j + k.val % 2) : ℝ) : EReal)) ⊥ (List.finRange 4) = _
  rw [show List.finRange 4 = [0, 1, 2, 3] by decide]
  show max (max (max (max (⊥ : EReal) _) _) _) _ = _
  rw [max_eq_right bot_le, ← Reals.coe_max, ← Reals.coe_max, ← Reals.coe_max]
  refine congrArg _ ?_
  unfold Spec.pool
  show max (max (max (X n o (2 * i + 0) (2 * j + 0)) (X n o (2 * i + 0) (2 * j + 1))) (X n o (2 * i + 1) (2 * j + 0))) (X n o (2 * i + 1) (2 * j + 1)) = _
  rw [Nat.add_zero, Nat.add_zero, max_assoc]

end Cert.RefOps

end
-- ==== Proof.KerOps.lean ====
/- The kernel's statistics and pooling at an index, at every shape of a layer: the sums over the images, the factor and the
   shift of the normalisation, and the pooled block. -/
module

public import proofs.«01_k».proof.Proof.RefOps
public import Idealize.ShloMosaic.Lib.Pipeline.FrameBody

@[expose] public section

set_option maxRecDepth 16384

noncomputable section

namespace Cert.KerOps

open Idealize.ShloMosaic Cert.RefOps

/-- The shape of rank three with the given extents. -/
abbrev S3 (a b c : ℕ) : Shape := ⟨3, ![a, b, c]⟩

/-- A sum over the leading axis of rank three, at an index. -/
theorem sum_lead3 {a b c : ℕ} (x : FVec Ideal (S3 a b c) .f32) (w : BitVec 32) (h : (S3 a b c).Reduces [0] (S2 b c))
    (hf : FKind.Formats FTy.f32) (hw : w = FKind.add.neutral .f32 hf) (j : Fin b) (k : Fin c) :
    multiReduction .add [0] (S2 b c) x w h hf hw (ix2 j k) = ∑ i : Fin a, x (ix3 i j k) := by
  rw [Ideal.multiReduction_add_single]
  refine Finset.sum_congr rfl fun i _ => congrArg x (funext fun e => Fin.ext ?_)
  match e with
  | ⟨0, _⟩ => rfl
  | ⟨1, _⟩ => rfl
  | ⟨2, _⟩ => rfl

/-- A sum over the leading axis of rank two, at an index. -/
theorem sum_lead2 {a b : ℕ} (x : FVec Ideal (S2 a b) .f32) (w : BitVec 32) (h : (S2 a b).Reduces [0] (S1 b))
    (hf : FKind.Formats FTy.f32) (hw : w = FKind.add.neutral .f32 hf) (j : Fin b) :
    multiReduction .add [0] (S1 b) x w h hf hw (ix1 j) = ∑ i : Fin a, x (ix2 i j) := by
  rw [Ideal.multiReduction_add_single]
  refine Finset.sum_congr rfl fun i _ => congrArg x (funext fun e => Fin.ext ?_)
  match e with
  | ⟨0, _⟩ => rfl
  | ⟨1, _⟩ => rfl

/-- A shape cast to the same shape is the identity. -/
theorem cast_self {α : Type} (s : Shape) (x : s.Idx → α) (h : s.ShapeCasts s) : shapeCast s x h = x :=
  funext fun j => shapeCast_apply x h j j rfl

/-- A row of extent one read as a vector. -/
theorem row_apply {α : Type} {n : ℕ} (x : (S2 1 n).Idx → α) (h : (S2 1 n).ShapeCasts (S1 n)) (o : Fin n) :
    shapeCast (S1 n) x h (ix1 o) = x (ix2 0 o) :=
  shapeCast_apply x h _ _ (by
    rw [Shape.rowMajor_val_one, Shape.rowMajor_val_two]
    show 0 * n + o.val = o.val
    omega)

/-- A vector read as a row of extent one. -/
theorem unrow_apply {α : Type} {n : ℕ} (x : (S1 n).Idx → α) (h : (S1 n).ShapeCasts (S2 1 n)) (o : Fin n) :
    shapeCast (S2 1 n) x h (ix2 0 o) = x (ix1 o) :=
  shapeCast_apply x h _ _ (by
    rw [Shape.rowMajor_val_one, Shape.rowMajor_val_two]
    show o.val = 0 * n + o.val
    omega)

/-- The shape conditions of the statistics of `N` images. -/
structure StatFacts (N : ℕ) : Prop where
  cc : (S3 N 2 64).ShapeCasts (S3 N 2 64)
  rd : (S3 N 2 64).Reduces [0] (S2 2 64)
  s0 : (S2 2 64).Slices ![0, 0] (S2 1 64)
  s1 : (S2 2 64).Slices ![1, 0] (S2 1 64)
  c1 : (S2 1 64).ShapeCasts (S1 64)

variable {N : ℕ}

/-- The sums over the images. -/
def sums (h : StatFacts N) (st : FVec Ideal (S3 N 2 64) .f32) : FVec Ideal (S2 2 64) .f32 :=
  multiReduction .add [0] (S2 2 64) (shapeCast (S3 N 2 64) st h.cc) 0x00000000#32 h.rd (.inl rfl) rfl

theorem sums_apply (h : StatFacts N) (st : FVec Ideal (S3 N 2 64) .f32) (j : Fin 2) (o : Fin 64) :
    sums h st (ix2 j o) = ∑ n : Fin N, st (ix3 n j o) :=
  (sum_lead3 (shapeCast (S3 N 2 64) st h.cc) _ h.rd _ _ j o).trans (by rw [cast_self])

/-- The mean. -/
def avg (h : StatFacts N) (k : BitVec 32) (st : FVec Ideal (S3 N 2 64) .f32) : FVec Ideal (S1 64) .f32 :=
  divf (shapeCast (S1 64) (extractStridedSlice (S2 1 64) ![0, 0] (sums h st) h.s0) h.c1)
    (broadcast (S1 64) (Scalar.ofBits .f32 k))

/-- The factor of the normalisation. -/
def factor (h : StatFacts N) (k : BitVec 32) (st : FVec Ideal (S3 N 2 64) .f32) (g : FVec Ideal (S2 1 64) .f32) :
    FVec Ideal (S1 64) .f32 :=
  mulf (shapeCast (S1 64) g h.c1)
    (rsqrt (addf (subf
      (divf (shapeCast (S1 64) (extractStridedSlice (S2 1 64) ![1, 0] (sums h st) h.s1) h.c1)
        (broadcast (S1 64) (Scalar.ofBits .f32 k)))
      (mulf (avg h k st) (avg h k st))) (broadcast (S1 64) (Scalar.ofBits .f32 0x3727C5AC#32))))

/-- The shift of the normalisation. -/
def shift (h : StatFacts N) (k : BitVec 32) (st : FVec Ideal (S3 N 2 64) .f32) (g be : FVec Ideal (S2 1 64) .f32) :
    FVec Ideal (S1 64) .f32 :=
  subf (shapeCast (S1 64) be h.c1) (mulf (avg h k st) (factor h k st g))

/-- What the stored statistics of real images are: the sum and the sum of squares of each image and channel. -/
def IsStat (N H : ℕ) (st : FVec Ideal (S3 N 2 64) .f32) (y : Spec.Img) : Prop :=
  ∀ (n : Fin N) (o : Fin 64), st (ix3 n 0 o) = ((Spec.isum H y n o : ℝ) : EReal)
    ∧ st (ix3 n 1 o) = ((Spec.isum H (fun n o i j => y n o i j * y n o i j) n o : ℝ) : EReal)

/-- A row of numbers for each channel. -/
def IsRow (x : FVec Ideal (S2 1 64) .f32) (v : ℕ → ℝ) : Prop := ∀ o : Fin 64, x (ix2 0 o) = ((v o : ℝ) : EReal)

section Stats

variable {H : ℕ} (h : StatFacts N) (hN : 0 < N) (hH : 0 < H) {k : BitVec 32} (hk : Ideal.ofBits .f32 k = (((N * H * H : ℕ) : ℝ) : EReal))
  {st : FVec Ideal (S3 N 2 64) .f32} {y : Spec.Img} (hst : IsStat N H st y)
include hN hH hk hst

/-- The mean of real images. -/
theorem avg_coe (o : Fin 64) : avg h k st (ix1 o) = ((Spec.mean N H y o : ℝ) : EReal) := by
  have hc : ((N * H * H : ℕ) : ℝ) ≠ 0 := Nat.cast_ne_zero.2 (Nat.mul_pos (Nat.mul_pos hN hH) hH).ne'
  show Ideal.div (shapeCast _ _ _ _) (Ideal.ofBits .f32 k) = _
  rw [row_apply, extractStridedSlice_apply _ (sums h st) h.s0 (ix2 0 o) (ix2 0 o) (fun a => by
    match a with
    | ⟨0, _⟩ => rfl
    | ⟨1, _⟩ => exact (Nat.zero_add _).symm), hk]
  rw [sums_apply, Finset.sum_congr rfl (fun n _ => (hst n o).1), ← Reals.coe_sum, Reals.div_coe _ _ hc]
  rfl

/-- The factor of real images. -/
theorem factor_coe {g : FVec Ideal (S2 1 64) .f32} {G : ℕ → ℝ} (hg : IsRow g G) (o : Fin 64) :
    factor h k st g (ix1 o) = ((Spec.kscale Reals.eps N H y G o : ℝ) : EReal) := by
  have hc : ((N * H * H : ℕ) : ℝ) ≠ 0 := Nat.cast_ne_zero.2 (Nat.mul_pos (Nat.mul_pos hN hH) hH).ne'
  show shapeCast (S1 64) g h.c1 (ix1 o) * Ideal.rsqrt (Ideal.div (shapeCast _ _ _ _) (Ideal.ofBits .f32 k)
    - avg h k st (ix1 o) * avg h k st (ix1 o) + Ideal.ofBits .f32 0x3727C5AC#32) = _
  rw [row_apply, row_apply, extractStridedSlice_apply _ (sums h st) h.s1 (ix2 0 o) (ix2 1 o) (fun a => by
    match a with
    | ⟨0, _⟩ => rfl
    | ⟨1, _⟩ => exact (Nat.zero_add _).symm), hk, avg_coe h hN hH hk hst, Reals.ofBits_eps, hg]
  rw [sums_apply, Finset.sum_congr rfl (fun n _ => (hst n o).2), ← Reals.coe_sum, Reals.div_coe _ _ hc,
    ← EReal.coe_mul, ← EReal.coe_sub, ← EReal.coe_add, Reals.rsqrt_coe, ← EReal.coe_mul]
  · rfl
  · have e := Spec.kvar_eq_var hN hH y o
    have e2 := Spec.var_nonneg N H y o
    unfold Spec.kvar at e
    rw [e]
    exact add_pos_of_nonneg_of_pos e2 Reals.eps_pos

/-- The shift of real images. -/
theorem shift_coe {g be : FVec Ideal (S2 1 64) .f32} {G B : ℕ → ℝ} (hg : IsRow g G) (hb : IsRow be B) (o : Fin 64) :
    shift h k st g be (ix1 o) = ((B o - Spec.mean N H y o * Spec.kscale Reals.eps N H y G o : ℝ) : EReal) := by
  show shapeCast (S1 64) be h.c1 (ix1 o) - avg h k st (ix1 o) * factor h k st g (ix1 o) = _
  rw [row_apply, hb, avg_coe h hN hH hk hst, factor_coe h hN hH hk hst hg, ← EReal.coe_mul, ← EReal.coe_sub]

end Stats

/-- Every second row and column of a block, from the given ones, as a load of the block's memory reads them. -/
def strided {sig : RefSig} {κ : Kind} {sp : Space} (H h2 dh dw : ℕ) (inb : ∀ a, (![1, h2, h2, 64] : Fin 4 → ℕ) a = 0 ∨
      (![0, dh, dw, 0] : Fin 4 → ℕ) a + (![1, 2, 2, 1] : Fin 4 → ℕ) a * ((![1, h2, h2, 64] : Fin 4 → ℕ) a - 1) < (S4 1 H H 64).size a)
    (m : Memref sig κ sp (S4 1 H H 64) .f32) (hm : m.IsWhole)
    (x : (S4 1 H H 64).Idx → EReal) : FVec Ideal (S4 1 h2 h2 64) .f32 :=
  m.view.readAt (Elt Ideal) ⟨![0, dh, dw, 0], ![1, h2, h2, 64], ![1, 2, 2, 1], inb⟩ (hm.unread x)

/-- Every second row and column from any of the four starting places lies in the block. -/
def StrideFacts (H h2 : ℕ) : Prop := ∀ dh dw : Fin 2, ∀ a, (![1, h2, h2, 64] : Fin 4 → ℕ) a = 0 ∨
  (![0, (dh : ℕ), (dw : ℕ), 0] : Fin 4 → ℕ) a + (![1, 2, 2, 1] : Fin 4 → ℕ) a * ((![1, h2, h2, 64] : Fin 4 → ℕ) a - 1) < (S4 1 H H 64).size a

theorem strided_apply {sig : RefSig} {κ : Kind} {sp : Space} {H h2 dh dw : ℕ} (inb) (m : Memref sig κ sp (S4 1 H H 64) .f32)
    (hm : m.IsWhole) (x : (S4 1 H H 64).Idx → EReal) (i j : Fin h2) (o : Fin 64)
    (hi : 2 * i.val + dh < H) (hj : 2 * j.val + dw < H) :
    strided H h2 dh dw inb m hm x (ix4 0 i j o) = x (ix4 0 ⟨2 * i.val + dh, hi⟩ ⟨2 * j.val + dw, hj⟩ o) := by
  unfold strided
  rw [View.readAt_apply, hm.read_unread]
  refine congrArg x (funext fun a => Fin.ext ?_)
  match a with
  | ⟨0, _⟩ => rfl
  | ⟨1, _⟩ => show dh + 2 * i.val = 2 * i.val + dh; omega
  | ⟨2, _⟩ => show dw + 2 * j.val = 2 * j.val + dw; omega
  | ⟨3, _⟩ => show 0 + 1 * o.val = o.val; omega

/-- The shape conditions of the pooling to `h2` rows. -/
structure PoolFacts (h2 : ℕ) : Prop where
  c4 : (S4 1 h2 h2 64).ShapeCasts (S4 1 h2 h2 64)
  c3 : (S4 1 h2 h2 64).ShapeCasts (S3 h2 h2 64)
  c11 : (S1 64).ShapeCasts (S3 1 1 64)
  bb : (S3 1 1 64).Broadcasts (S3 h2 h2 64)

variable {h2 : ℕ}

/-- The block without its unit axis. -/
def flat (h : PoolFacts h2) (x : FVec Ideal (S4 1 h2 h2 64) .f32) : FVec Ideal (S3 h2 h2 64) .f32 :=
  shapeCast (S3 h2 h2 64) (shapeCast (S4 1 h2 h2 64) x h.c4) h.c3

theorem flat_apply (h : PoolFacts h2) (x : FVec Ideal (S4 1 h2 h2 64) .f32) (i j : Fin h2) (o : Fin 64) :
    flat h x (ix3 i j o) = x (ix4 0 i j o) := by
  unfold flat
  rw [cast_self]
  refine shapeCast_apply x h.c3 _ _ ?_
  rw [Shape.rowMajor_val_four, Shape.rowMajor_val_three]
  show ((0 * h2 + i.val) * h2 + j.val) * 64 + o.val = (i.val * h2 + j.val) * 64 + o.val
  rw [Nat.zero_mul, Nat.zero_add]

/-- A value for each channel, at every row and column. -/
def lanes {α : Type} (h : PoolFacts h2) (v : (S1 64).Idx → α) : (S3 h2 h2 64).Idx → α :=
  broadcastTo (S3 h2 h2 64) (shapeCast (S3 1 1 64) v h.c11) h.bb

theorem lanes_apply {α : Type} (h : PoolFacts h2) (v : (S1 64).Idx → α) (i j : Fin h2) (o : Fin 64) :
    lanes h v (ix3 i j o) = v (ix1 o) := by
  unfold lanes
  rw [broadcastTo_apply _ h.bb (ix3 i j o) (ix3 0 0 o) (fun a => by
    match a with
    | ⟨0, _⟩ => rfl
    | ⟨1, _⟩ => rfl
    | ⟨2, _⟩ => rfl)]
  refine shapeCast_apply v h.c11 _ _ ?_
  rw [Shape.rowMajor_val_three, Shape.rowMajor_val_one]
  show o.val = (0 * 1 + 0) * 64 + o.val
  omega

/-- The pooled and normalised block. -/
def pooled (h : PoolFacts h2) (sc sh : FVec Ideal (S1 64) .f32) (a b c d : FVec Ideal (S4 1 h2 h2 64) .f32) :
    FVec Ideal (S3 h2 h2 64) .f32 :=
  addf (mulf (select (lanes h (cmpf .oge sc (broadcast (S1 64) (Scalar.ofBits .f32 0x00000000#32))))
      (maximumf (maximumf (flat h a) (flat h b)) (maximumf (flat h c) (flat h d)))
      (minimumf (minimumf (flat h a) (flat h b)) (minimumf (flat h c) (flat h d))))
    (lanes h sc)) (lanes h sh)

/-- The pooled and normalised block of a real block, where the factor and the shift are real. -/
theorem pooled_coe (h : PoolFacts h2) {sc sh : FVec Ideal (S1 64) .f32} {a b c d : FVec Ideal (S4 1 h2 h2 64) .f32}
    (i j : Fin h2) (o : Fin 64) {s t A B C D : ℝ} (hs : sc (ix1 o) = (s : EReal)) (ht : sh (ix1 o) = (t : EReal))
    (ha : a (ix4 0 i j o) = (A : EReal)) (hb : b (ix4 0 i j o) = (B : EReal)) (hc : c (ix4 0 i j o) = (C : EReal))
    (hd : d (ix4 0 i j o) = (D : EReal)) :
    pooled h sc sh a b c d (ix3 i j o)
      = (((if 0 ≤ s then max (max A B) (max C D) else min (min A B) (min C D)) * s + t : ℝ) : EReal) := by
  show Scalar.select (lanes h (cmpf .oge sc (broadcast (S1 64) (Scalar.ofBits .f32 0x00000000#32))) (ix3 i j o))
      (max (max (flat h a (ix3 i j o)) (flat h b (ix3 i j o))) (max (flat h c (ix3 i j o)) (flat h d (ix3 i j o))))
      (min (min (flat h a (ix3 i j o)) (flat h b (ix3 i j o))) (min (flat h c (ix3 i j o)) (flat h d (ix3 i j o))))
      * lanes h sc (ix3 i j o) + lanes h sh (ix3 i j o) = _
  simp only [lanes_apply, flat_apply, ha, hb, hc, hd, hs, ht]
  have e : (cmpf .oge sc (broadcast (S1 64) (Scalar.ofBits .f32 0x00000000#32)) (ix1 o) : BitVec 1)
      = BitVec.ofBool (decide (0 ≤ s)) := by
    show Ideal.cmp .oge (sc (ix1 o)) (Ideal.ofBits .f32 0x00000000#32) = _
    rw [hs, Reals.ofBits_zero]
    show BitVec.ofBool (decide (((0 : ℝ) : EReal) ≤ (s : EReal))) = _
    simp only [EReal.coe_le_coe_iff]
  rw [e]
  by_cases h0 : 0 ≤ s
  · simp only [h0, decide_true, if_true, EReal.coe_add, EReal.coe_mul, Reals.coe_max]; rfl
  · simp only [h0, decide_false, if_false, EReal.coe_add, EReal.coe_mul, Reals.coe_min]; rfl

end Cert.KerOps

end
-- ==== Proof.KerLayer.lean ====
/- One layer of the kernel — padding, the nine shifted copies side by side, one product, rectification and the sums — as its
   operations compose it at any number of rows, and its value at real inputs. -/
module

public import proofs.«01_k».proof.Proof.KerOps
public import Idealize.ShloMosaic.Lib.Pipeline.ReadBack

@[expose] public section

set_option maxRecDepth 16384

noncomputable section

namespace Cert.KerOps

open Idealize.ShloMosaic Cert.RefOps

/-- The product of the shifted copies with the filter. -/
abbrev mmDims (M : ℕ) (wf : DotDims.WF (S2 M 576) (S2 576 64) (S2 M 64) [1] [0] [0] [1] [] []) :
    DotDims (S2 M 576) (S2 576 64) (S2 M 64) where
  lhsContracting := [1]
  rhsContracting := [0]
  lhsNonContracting := [0]
  rhsNonContracting := [1]
  lhsBatch := []
  rhsBatch := []
  wf := wf

/-- The shape conditions of a layer of `h` rows, `p = h + 2` rows with the border, `q = h + 1`, `M = h * h` positions. -/
structure LayerFacts (h q p M : ℕ) : Prop where
  hq : q = h + 1
  hp : p = h + 2
  hM : M = h * h
  cs : (S3 h h 64).ShapeCasts (S3 h h 64)
  cM : (S3 h h 64).ShapeCasts (S2 M 64)
  cMM : (S2 M 64).ShapeCasts (S2 M 64)
  cback : (S2 M 64).ShapeCasts (S3 h h 64)
  cout : (S3 h h 64).ShapeCasts (S4 1 h h 64)
  wf : DotDims.WF (S2 M 576) (S2 576 64) (S2 M 64) [1] [0] [0] [1] [] []
  cw : (S2 576 64).ShapeCasts (S2 576 64)
  c1 : (S2 1 64).ShapeCasts (S1 64)
  c2 : (S1 64).ShapeCasts (S2 1 64)
  bb : (S2 1 64).Broadcasts (S2 M 64)
  red : (S2 M 64).Reduces [0] (S1 64)
  cat : Shape.Concatenates [S2 1 64, S2 1 64] (S2 2 64) 0
  cst : (S2 2 64).ShapeCasts (S3 1 2 64)
  zrow : (S2 p 64).ShapeCasts (S3 1 p 64)
  zcol : (S2 p 64).ShapeCasts (S3 p 1 64)
  i0 : ∀ a, (![1, 1, 0] : Fin 3 → ℕ) a + (![h, h, 64] : Fin 3 → ℕ) a ≤ (S3 p p 64).size a
  i1 : ∀ a, (![0, q, 0] : Fin 3 → ℕ) a + (![p, 1, 64] : Fin 3 → ℕ) a ≤ (S3 p p 64).size a
  i2 : ∀ a, (![0, 0, 0] : Fin 3 → ℕ) a + (![p, 1, 64] : Fin 3 → ℕ) a ≤ (S3 p p 64).size a
  i3 : ∀ a, (![q, 0, 0] : Fin 3 → ℕ) a + (![1, p, 64] : Fin 3 → ℕ) a ≤ (S3 p p 64).size a
  i4 : ∀ a, (![0, 0, 0] : Fin 3 → ℕ) a + (![1, p, 64] : Fin 3 → ℕ) a ≤ (S3 p p 64).size a
  it : ∀ dh dw : Fin 3, ∀ a, (![(dh : ℕ), (dw : ℕ), 0] : Fin 3 → ℕ) a + (![h, h, 64] : Fin 3 → ℕ) a ≤ (S3 p p 64).size a
  ic : ∀ t : Fin 9, ∀ a, (![0, 64 * (t : ℕ)] : Fin 2 → ℕ) a + (![M, 64] : Fin 2 → ℕ) a ≤ (S2 M 576).size a
  iw : ∀ a, (![0, 0] : Fin 2 → ℕ) a + (![M, 576] : Fin 2 → ℕ) a ≤ (S2 M 576).size a

variable {h q p M : ℕ}

/-- The zeros of a border. -/
def zeros (p : ℕ) : FVec Ideal (S2 p 64) .f32 := broadcast (S2 p 64) (Scalar.ofBits .f32 0x00000000#32)

/-- The stores that fill the padded block: the border's four sides, then the interior (last first). -/
def padPieces (f : LayerFacts h q p M) (x : FVec Ideal (S3 h h 64) .f32) : List (View.Piece (Elt Ideal) (S3 p p 64) .f32) :=
  [⟨Rect.unit ![1, 1, 0] ![h, h, 64] f.i0, shapeCast (S3 h h 64) x f.cs⟩,
   ⟨Rect.unit ![0, q, 0] ![p, 1, 64] f.i1, shapeCast (S3 p 1 64) (zeros p) f.zcol⟩,
   ⟨Rect.unit ![0, 0, 0] ![p, 1, 64] f.i2, shapeCast (S3 p 1 64) (zeros p) f.zcol⟩,
   ⟨Rect.unit ![q, 0, 0] ![1, p, 64] f.i3, shapeCast (S3 1 p 64) (zeros p) f.zrow⟩,
   ⟨Rect.unit ![0, 0, 0] ![1, p, 64] f.i4, shapeCast (S3 1 p 64) (zeros p) f.zrow⟩]

/-- The padded block. -/
def xpad (f : LayerFacts h q p M) (x : FVec Ideal (S3 h h 64) .f32) : (S3 p p 64).Idx → EReal :=
  View.canon (padPieces f x)

/-- The load of a shifted part of the padded block. -/
def shifted {sig : RefSig} {κ : Kind} {sp : Space} (v : View sig κ sp (S3 p p 64) .f32) (f : LayerFacts h q p M)
    (x : FVec Ideal (S3 h h 64) .f32) (dh dw : Fin 3) : FVec Ideal (S3 h h 64) .f32 :=
  v.readCov (padPieces f x) (Rect.unit (s := S3 p p 64) ![(dh : ℕ), (dw : ℕ), 0] ![h, h, 64] (f.it dh dw)).toLoadRect

theorem zeros_cast {t : Shape} (hc : (S2 p 64).ShapeCasts t) (j : t.Idx) : shapeCast t (zeros p) hc j = ((0 : ℝ) : EReal) :=
  Reals.ofBits_zero

/-- Stores that are all blocks of one function leave it wherever one of them lies. -/
theorem canon_of {s : Shape} (G : s.Idx → Elt Ideal .f32) (L : List (View.Piece (Elt Ideal) s .f32)) (h : View.PiecesOf G L) (y : s.Idx)
    (hc : ∃ r ∈ L, y ∈ r.1.set) : View.canon L y = G y :=
  View.canon_apply_of_pieces G L (View.PiecesOf.mem h) y hc

/-- The padded block at an index. -/
theorem xpad_coe (f : LayerFacts h q p M) (x : FVec Ideal (S3 h h 64) .f32) (X : Spec.Img) (n : ℕ)
    (hx : ∀ (i j : Fin h) (c : Fin 64), x (ix3 i j c) = ((X n c i j : ℝ) : EReal)) (a b : Fin p) (c : Fin 64) :
    xpad f x (ix3 a b c) = ((Spec.padv h X n c a b : ℝ) : EReal) := by
  have hq := f.hq
  have hp := f.hp
  have ha := a.isLt
  have hb := b.isLt
  refine canon_of (fun y : (S3 p p 64).Idx => ((Spec.padv h X n (y 2).val (y 0).val (y 1).val : ℝ) : EReal))
    (padPieces f x) ⟨?_, ?_, ?_, ?_, ?_, trivial⟩ (ix3 a b c) ?_
  · intro y
    have h0 : (y 0).val < h := (y 0).isLt
    have h1 : (y 1).val < h := (y 1).isLt
    show shapeCast (S3 h h 64) x f.cs y = _
    rw [cast_self, eq_ix3 (n0 := h) (n1 := h) (n2 := 64) y]
    refine (hx _ _ _).trans (congrArg _ ?_)
    show _ = Spec.padv h X n (0 + 1 * (y 2).val) (1 + 1 * (y 0).val) (1 + 1 * (y 1).val)
    unfold Spec.padv
    rw [if_pos (by omega)]
    congr 1 <;> omega
  · intro y
    refine (zeros_cast f.zcol y).trans (congrArg _ ?_)
    show _ = Spec.padv h X n (0 + 1 * (y 2).val) (0 + 1 * (y 0).val) (q + 1 * (y 1).val)
    unfold Spec.padv
    rw [if_neg (by omega)]
  · intro y
    have h1 : (y 1).val < 1 := (y 1).isLt
    refine (zeros_cast f.zcol y).trans (congrArg _ ?_)
    show _ = Spec.padv h X n (0 + 1 * (y 2).val) (0 + 1 * (y 0).val) (0 + 1 * (y 1).val)
    unfold Spec.padv
    rw [if_neg (by omega)]
  · intro y
    refine (zeros_cast f.zrow y).trans (congrArg _ ?_)
    show _ = Spec.padv h X n (0 + 1 * (y 2).val) (q + 1 * (y 0).val) (0 + 1 * (y 1).val)
    unfold Spec.padv
    rw [if_neg (by omega)]
  · intro y
    have h0 : (y 0).val < 1 := (y 0).isLt
    refine (zeros_cast f.zrow y).trans (congrArg _ ?_)
    show _ = Spec.padv h X n (0 + 1 * (y 2).val) (0 + 1 * (y 0).val) (0 + 1 * (y 1).val)
    unfold Spec.padv
    rw [if_neg (by omega)]
  · have hc := c.isLt
    have mem : ∀ (o s : Fin 3 → ℕ) (inb : ∀ e, o e + s e ≤ (S3 p p 64).size e),
        (o 0 ≤ a.val ∧ a.val < o 0 + s 0) → (o 1 ≤ b.val ∧ b.val < o 1 + s 1) → (o 2 ≤ c.val ∧ c.val < o 2 + s 2) →
        (ix3 a b c : (S3 p p 64).Idx) ∈ (Rect.unit (s := S3 p p 64) o s inb).set := by
      intro o s inb e0 e1 e2
      refine Rect.mem_set_unit.2 fun e => ?_
      match e with
      | ⟨0, _⟩ => exact e0
      | ⟨1, _⟩ => exact e1
      | ⟨2, _⟩ => exact e2
    have hc2 : (0 ≤ c.val ∧ c.val < 0 + 64) := by omega
    by_cases e1 : b.val = q
    · exact ⟨_, List.mem_cons_of_mem _ List.mem_cons_self, mem ![0, q, 0] ![p, 1, 64] f.i1 ⟨Nat.zero_le _, by show a.val < 0 + p; omega⟩
        ⟨by show q ≤ b.val; omega, by show b.val < q + 1; omega⟩ hc2⟩
    by_cases e2 : b.val = 0
    · exact ⟨_, List.mem_cons_of_mem _ (List.mem_cons_of_mem _ List.mem_cons_self), mem ![0, 0, 0] ![p, 1, 64] f.i2 ⟨Nat.zero_le _, by show a.val < 0 + p; omega⟩
        ⟨Nat.zero_le _, by show b.val < 0 + 1; omega⟩ hc2⟩
    by_cases e3 : a.val = q
    · exact ⟨_, List.mem_cons_of_mem _ (List.mem_cons_of_mem _ (List.mem_cons_of_mem _ List.mem_cons_self)), mem ![q, 0, 0] ![1, p, 64] f.i3
        ⟨by show q ≤ a.val; omega, by show a.val < q + 1; omega⟩ ⟨Nat.zero_le _, by show b.val < 0 + p; omega⟩ hc2⟩
    by_cases e4 : a.val = 0
    · exact ⟨_, List.mem_cons_of_mem _ (List.mem_cons_of_mem _ (List.mem_cons_of_mem _ (List.mem_cons_of_mem _ List.mem_cons_self))),
        mem ![0, 0, 0] ![1, p, 64] f.i4 ⟨Nat.zero_le _, by show a.val < 0 + 1; omega⟩ ⟨Nat.zero_le _, by show b.val < 0 + p; omega⟩ hc2⟩
    exact ⟨_, List.mem_cons_self, mem ![1, 1, 0] ![h, h, 64] f.i0 ⟨by show 1 ≤ a.val; omega, by show a.val < 1 + h; omega⟩
      ⟨by show 1 ≤ b.val; omega, by show b.val < 1 + h; omega⟩ hc2⟩

/-- The shifted block, its positions in one row each. -/
def window (f : LayerFacts h q p M) (r : Fin 3 → Fin 3 → FVec Ideal (S3 h h 64) .f32) (dh dw : Fin 3) : FVec Ideal (S2 M 64) .f32 :=
  shapeCast (S2 M 64) (shapeCast (S2 M 64) (r dh dw) f.cM) f.cMM

/-- The shifted block at a position. -/
theorem window_apply {sig : RefSig} {κ : Kind} {sp : Space} (v : View sig κ sp (S3 p p 64) .f32) (f : LayerFacts h q p M)
    (x : FVec Ideal (S3 h h 64) .f32) (dh dw : Fin 3) (m : Fin M) (i j : Fin h) (c : Fin 64)
    (hm : m.val = i.val * h + j.val) (hi : i.val + dh.val < p) (hj : j.val + dw.val < p) :
    window f (shifted v f x) dh dw (ix2 m c) = xpad f x (ix3 ⟨i.val + dh.val, hi⟩ ⟨j.val + dw.val, hj⟩ c) := by
  unfold window
  rw [cast_self, shapeCast_apply _ f.cM (ix2 m c) (ix3 i j c) (by
    rw [Shape.rowMajor_val_two, Shape.rowMajor_val_three]
    show (i.val * h + j.val) * 64 + c.val = m.val * 64 + c.val
    rw [hm])]
  unfold shifted
  rw [View.readCov_eq_canon']
  refine congrArg (View.canon (padPieces f x)) (funext fun a => Fin.ext ?_)
  match a with
  | ⟨0, _⟩ => show dh.val + 1 * i.val = i.val + dh.val; omega
  | ⟨1, _⟩ => show dw.val + 1 * j.val = j.val + dw.val; omega
  | ⟨2, _⟩ => show 0 + 1 * c.val = c.val; omega

theorem window_congr (f : LayerFacts h q p M) (x : Fin 3 → Fin 3 → FVec Ideal (S3 h h 64) .f32) {dh dh' dw dw' : Fin 3} (j : (S2 M 64).Idx)
    (e1 : dh.val = dh'.val) (e2 : dw.val = dw'.val) : window f x dh dw j = window f x dh' dw' j := by
  rw [Fin.ext e1, Fin.ext e2]

/-- The stores of the nine shifted blocks side by side (last first). -/
def colPieces (f : LayerFacts h q p M) (x : Fin 3 → Fin 3 → FVec Ideal (S3 h h 64) .f32) : List (View.Piece (Elt Ideal) (S2 M 576) .f32) :=
  [⟨Rect.unit ![0, 512] ![M, 64] (f.ic 8), window f x 2 2⟩,
   ⟨Rect.unit ![0, 448] ![M, 64] (f.ic 7), window f x 2 1⟩,
   ⟨Rect.unit ![0, 384] ![M, 64] (f.ic 6), window f x 2 0⟩,
   ⟨Rect.unit ![0, 320] ![M, 64] (f.ic 5), window f x 1 2⟩,
   ⟨Rect.unit ![0, 256] ![M, 64] (f.ic 4), window f x 1 1⟩,
   ⟨Rect.unit ![0, 192] ![M, 64] (f.ic 3), window f x 1 0⟩,
   ⟨Rect.unit ![0, 128] ![M, 64] (f.ic 2), window f x 0 2⟩,
   ⟨Rect.unit ![0, 64] ![M, 64] (f.ic 1), window f x 0 1⟩,
   ⟨Rect.unit ![0, 0] ![M, 64] (f.ic 0), window f x 0 0⟩]

/-- The nine shifted blocks side by side. -/
def xcol {sig : RefSig} {κ : Kind} {sp : Space} (v : View sig κ sp (S2 M 576) .f32) (f : LayerFacts h q p M)
    (x : Fin 3 → Fin 3 → FVec Ideal (S3 h h 64) .f32) : FVec Ideal (S2 M 576) .f32 :=
  v.readCov (colPieces f x) (Rect.unit (s := S2 M 576) ![0, 0] ![M, 576] f.iw).toLoadRect

/-- A store of columns reads back off itself as the stores before it. -/
theorem col_skip {o : ℕ} (inb : ∀ a, (![0, o] : Fin 2 → ℕ) a + (![M, 64] : Fin 2 → ℕ) a ≤ (S2 M 576).size a)
    (w : (S2 M 64).Idx → EReal) (L : List (View.Piece (Elt Ideal) (S2 M 576) .f32)) (m : Fin M) (k : Fin 576) (hk : k.val < o) :
    View.canon (⟨Rect.unit ![0, o] ![M, 64] inb, w⟩ :: L) (ix2 m k) = View.canon L (ix2 m k) :=
  View.canon_cons_of_not_mem _ L fun hm => by
    have h1 : o ≤ k.val := ((Rect.mem_set_unit (s := S2 M 576) (off := ![0, o]) (size := ![M, 64]) (inb := inb)).1 hm 1).1
    omega

/-- A store of columns read back under itself is what was stored. -/
theorem col_hit {o : ℕ} (inb : ∀ a, (![0, o] : Fin 2 → ℕ) a + (![M, 64] : Fin 2 → ℕ) a ≤ (S2 M 576).size a)
    (w : (S2 M 64).Idx → EReal) (L : List (View.Piece (Elt Ideal) (S2 M 576) .f32)) (m : Fin M) (k : Fin 576) (c : Fin 64)
    (hk : k.val = o + c.val) :
    View.canon (⟨Rect.unit ![0, o] ![M, 64] inb, w⟩ :: L) (ix2 m k) = w (ix2 m c) := by
  have e : (ix2 m k : (S2 M 576).Idx) = (Rect.unit (s := S2 M 576) ![0, o] ![M, 64] inb).emb (ix2 m c) := funext fun a => Fin.ext (by
    match a with
    | ⟨0, _⟩ => show m.val = 0 + 1 * m.val; omega
    | ⟨1, _⟩ => show k.val = o + 1 * c.val; omega)
  rw [e]
  exact View.canon_cons_emb (Rect.unit (s := S2 M 576) ![0, o] ![M, 64] inb) w L (ix2 m c)

/-- The nine shifted blocks side by side, at a position and a column. -/
theorem xcol_apply {sig : RefSig} {κ : Kind} {sp : Space} (v : View sig κ sp (S2 M 576) .f32) (f : LayerFacts h q p M) (x : Fin 3 → Fin 3 → FVec Ideal (S3 h h 64) .f32) (m : Fin M) (t : Fin 9) (c : Fin 64) :
    xcol v f x (ix2 m ⟨c.val + 64 * t.val, by omega⟩)
      = window f x ⟨t.val / 3, by omega⟩ ⟨t.val % 3, by omega⟩ (ix2 m c) := by
  have hc := c.isLt
  have e : ∀ k : Fin 576, xcol v f x (ix2 m k) = View.canon (colPieces f x) (ix2 m k) := fun k => by
    unfold xcol
    rw [View.readCov_eq_canon']
    refine congrArg (View.canon (colPieces f x)) (funext fun a => Fin.ext ?_)
    match a with
    | ⟨0, _⟩ => show 0 + 1 * m.val = m.val; omega
    | ⟨1, _⟩ => show 0 + 1 * k.val = k.val; omega
  rw [e]
  unfold colPieces
  match t with
  | ⟨0, _⟩ => iterate 8 rw [col_skip _ _ _ _ _ (by show c.val + 64 * 0 < _; omega)]
              exact (col_hit (o := 0) _ _ _ m _ c (by show c.val + 64 * 0 = 0 + c.val; omega)).trans
                (window_congr f x _ (by show 0 = 0 / 3; norm_num) (by show 0 = 0 % 3; norm_num))
  | ⟨1, _⟩ => iterate 7 rw [col_skip _ _ _ _ _ (by show c.val + 64 * 1 < _; omega)]
              exact (col_hit (o := 64) _ _ _ m _ c (by show c.val + 64 * 1 = 64 + c.val; omega)).trans
                (window_congr f x _ (by show 0 = 1 / 3; norm_num) (by show 1 = 1 % 3; norm_num))
  | ⟨2, _⟩ => iterate 6 rw [col_skip _ _ _ _ _ (by show c.val + 64 * 2 < _; omega)]
              exact (col_hit (o := 128) _ _ _ m _ c (by show c.val + 64 * 2 = 128 + c.val; omega)).trans
                (window_congr f x _ (by show 0 = 2 / 3; norm_num) (by show 2 = 2 % 3; norm_num))
  | ⟨3, _⟩ => iterate 5 rw [col_skip _ _ _ _ _ (by show c.val + 64 * 3 < _; omega)]
              exact (col_hit (o := 192) _ _ _ m _ c (by show c.val + 64 * 3 = 192 + c.val; omega)).trans
                (window_congr f x _ (by show 1 = 3 / 3; norm_num) (by show 0 = 3 % 3; norm_num))
  | ⟨4, _⟩ => iterate 4 rw [col_skip _ _ _ _ _ (by show c.val + 64 * 4 < _; omega)]
              exact (col_hit (o := 256) _ _ _ m _ c (by show c.val + 64 * 4 = 256 + c.val; omega)).trans
                (window_congr f x _ (by show 1 = 4 / 3; norm_num) (by show 1 = 4 % 3; norm_num))
  | ⟨5, _⟩ => iterate 3 rw [col_skip _ _ _ _ _ (by show c.val + 64 * 5 < _; omega)]
              exact (col_hit (o := 320) _ _ _ m _ c (by show c.val + 64 * 5 = 320 + c.val; omega)).trans
                (window_congr f x _ (by show 1 = 5 / 3; norm_num) (by show 2 = 5 % 3; norm_num))
  | ⟨6, _⟩ => iterate 2 rw [col_skip _ _ _ _ _ (by show c.val + 64 * 6 < _; omega)]
              exact (col_hit (o := 384) _ _ _ m _ c (by show c.val + 64 * 6 = 384 + c.val; omega)).trans
                (window_congr f x _ (by show 2 = 6 / 3; norm_num) (by show 0 = 6 % 3; norm_num))
  | ⟨7, _⟩ => rw [col_skip _ _ _ _ _ (by show c.val + 64 * 7 < _; omega)]
              exact (col_hit (o := 448) _ _ _ m _ c (by show c.val + 64 * 7 = 448 + c.val; omega)).trans
                (window_congr f x _ (by show 2 = 7 / 3; norm_num) (by show 1 = 7 % 3; norm_num))
  | ⟨8, _⟩ => exact (col_hit (o := 512) _ _ _ m _ c (by show c.val + 64 * 8 = 512 + c.val; omega)).trans
                (window_congr f x _ (by show 2 = 8 / 3; norm_num) (by show 2 = 8 % 3; norm_num))

/-- The rectified product. -/
def zed (f : LayerFacts h q p M) (x : FVec Ideal (S2 M 576) .f32) (w : FVec Ideal (S2 576 64) .f32) (b : FVec Ideal (S2 1 64) .f32) :
    FVec Ideal (S2 M 64) .f32 :=
  maximumf (addf (matmul (mmDims M f.wf) none x (shapeCast (S2 576 64) w f.cw) (constant (S2 M 64) .f32 0x00000000#32))
    (broadcastTo (S2 M 64) (shapeCast (S2 1 64) (shapeCast (S1 64) b f.c1) f.c2) f.bb))
    (broadcast (S2 M 64) (Scalar.ofBits .f32 0x00000000#32))

/-- The filter as the product takes it: row `64 t + c` is tap `t`, channel `c`. -/
def IsFilter (w : FVec Ideal (S2 576 64) .f32) (W : Spec.Img) : Prop :=
  ∀ (t : Fin 9) (c o : Fin 64), w (ix2 ⟨c.val + 64 * t.val, by omega⟩ o) = ((W o c (t.val / 3) (t.val % 3) : ℝ) : EReal)

/-- The bias at a position. -/
theorem bias_apply (f : LayerFacts h q p M) (b : FVec Ideal (S2 1 64) .f32) (m : Fin M) (o : Fin 64) :
    broadcastTo (S2 M 64) (shapeCast (S2 1 64) (shapeCast (S1 64) b f.c1) f.c2) f.bb (ix2 m o) = b (ix2 0 o) := by
  rw [broadcastTo_apply _ f.bb (ix2 m o) (ix2 0 o) (fun a => by
    match a with
    | ⟨0, _⟩ => rfl
    | ⟨1, _⟩ => rfl), unrow_apply, row_apply]

/-- The product at a position. -/
theorem mm_apply (f : LayerFacts h q p M) (x : FVec Ideal (S2 M 576) .f32) (w : FVec Ideal (S2 576 64) .f32) (m : Fin M) (o : Fin 64) :
    matmul (mmDims M f.wf) none x w (constant (S2 M 64) .f32 0x00000000#32) (ix2 m o)
      = ∑ k : Fin 576, x (ix2 m k) * w (ix2 k o) := by
  show Ideal.matmul (mmDims M f.wf) x w (constant (F := Ideal) (S2 M 64) .f32 0x00000000#32) (ix2 m o) = _
  rw [Ideal.matmul_apply₁_of (mmDims M f.wf) (a := 1) rfl (K := 576) rfl x w _ (ix2 m o) (fun k => ix2 m k) (fun k => ix2 k o)]
  · show Ideal.ofBits .f32 0x00000000#32 + _ = _
    rw [Reals.ofBits_zero, EReal.coe_zero, zero_add]
  · intro k
    funext a
    match a with
    | ⟨0, _⟩ => exact Fin.ext rfl
    | ⟨1, _⟩ => exact Fin.ext rfl
  · intro k
    funext a
    match a with
    | ⟨0, _⟩ => exact Fin.ext rfl
    | ⟨1, _⟩ => exact Fin.ext rfl

/-- The rectified product of real blocks is the specification's convolution. -/
theorem zed_coe {sig : RefSig} {κ₁ κ₂ : Kind} {sp₁ sp₂ : Space} (v₁ : View sig κ₁ sp₁ (S3 p p 64) .f32) (v₂ : View sig κ₂ sp₂ (S2 M 576) .f32) (f : LayerFacts h q p M) (x : FVec Ideal (S3 h h 64) .f32) (w : FVec Ideal (S2 576 64) .f32) (b : FVec Ideal (S2 1 64) .f32)
    (X W : Spec.Img) (B : ℕ → ℝ) (n : ℕ) (hx : ∀ (i j : Fin h) (c : Fin 64), x (ix3 i j c) = ((X n c i j : ℝ) : EReal))
    (hw : IsFilter w W) (hb : IsRow b B) (m : Fin M) (i j : Fin h) (hm : m.val = i.val * h + j.val) (o : Fin 64) :
    zed f (xcol v₂ f (shifted v₁ f x)) w b (ix2 m o) = ((Spec.convRelu 64 h X W B n o i j : ℝ) : EReal) := by
  have hp := f.hp
  show max (matmul (mmDims M f.wf) none _ (shapeCast (S2 576 64) w f.cw) (constant (S2 M 64) .f32 0x00000000#32) (ix2 m o)
    + broadcastTo (S2 M 64) (shapeCast (S2 1 64) (shapeCast (S1 64) b f.c1) f.c2) f.bb (ix2 m o)) (Ideal.ofBits .f32 0x00000000#32) = _
  rw [mm_apply f, bias_apply f, cast_self, hb, Reals.ofBits_zero,
    ← Equiv.sum_comp (finProdFinEquiv : Fin 9 × Fin 64 ≃ Fin 576), Fintype.sum_prod_type]
  unfold Spec.convRelu
  rw [Reals.coe_max, EReal.coe_add, Reals.coe_sum]
  refine congrArg (max · _) (congrArg (· + _) (Finset.sum_congr rfl fun t _ => ?_))
  rw [Reals.coe_sum]
  refine Finset.sum_congr rfl fun c _ => ?_
  have e1 := xcol_apply v₂ f (shifted v₁ f x) m t c
  have e2 := hw t c o
  rw [window_apply v₁ f _ _ _ m i j c hm (by show _ + t.val / 3 < p; omega) (by show _ + t.val % 3 < p; omega), xpad_coe f x X n hx] at e1
  rw [EReal.coe_mul]
  exact congrArg₂ (· * ·) e1 e2

/-- The layer's block of rectified products. -/
def actOut (f : LayerFacts h q p M) (z : FVec Ideal (S2 M 64) .f32) : FVec Ideal (S4 1 h h 64) .f32 :=
  shapeCast (S4 1 h h 64) (shapeCast (S3 h h 64) z f.cback) f.cout

/-- The layer's sums and sums of squares. -/
def statOut (f : LayerFacts h q p M) (z : FVec Ideal (S2 M 64) .f32) : FVec Ideal (S3 1 2 64) .f32 :=
  shapeCast (S3 1 2 64) (concatenate (S2 2 64) 0
    [⟨S2 1 64, shapeCast (S2 1 64) (multiReduction .add [0] (S1 64) z 0x00000000#32 f.red (.inl rfl) rfl : FVec Ideal (S1 64) .f32) f.c2⟩,
     ⟨S2 1 64, shapeCast (S2 1 64) (multiReduction .add [0] (S1 64) (mulf z z) 0x00000000#32 f.red (.inl rfl) rfl : FVec Ideal (S1 64) .f32) f.c2⟩] f.cat) f.cst

theorem actOut_apply (f : LayerFacts h q p M) (z : FVec Ideal (S2 M 64) .f32) (i j : Fin h) (o : Fin 64) (m : Fin M)
    (hm : m.val = i.val * h + j.val) : actOut f z (ix4 0 i j o) = z (ix2 m o) := by
  unfold actOut
  rw [shapeCast_apply _ f.cout (ix4 0 i j o) (ix3 i j o) (by
    rw [Shape.rowMajor_val_four, Shape.rowMajor_val_three]
    show (i.val * h + j.val) * 64 + o.val = ((0 * h + i.val) * h + j.val) * 64 + o.val
    rw [Nat.zero_mul, Nat.zero_add])]
  refine shapeCast_apply z f.cback _ _ ?_
  rw [Shape.rowMajor_val_two, Shape.rowMajor_val_three]
  show m.val * 64 + o.val = (i.val * h + j.val) * 64 + o.val
  rw [hm]

/-- Two rows stacked and given a unit axis, the first. -/
theorem stack_zero {x y : (S2 1 64).Idx → EReal} (hc : Shape.Concatenates [S2 1 64, S2 1 64] (S2 2 64) 0)
    (hs : (S2 2 64).ShapeCasts (S3 1 2 64)) (o : Fin 64) :
    shapeCast (S3 1 2 64) (concatenate (S2 2 64) 0 [⟨S2 1 64, x⟩, ⟨S2 1 64, y⟩] hc) hs (ix3 0 0 o) = x (ix2 0 o) := by
  rw [shapeCast_apply _ hs (ix3 0 0 o) (ix2 0 o) (by
    rw [Shape.rowMajor_val_two, Shape.rowMajor_val_three]
    show 0 * 64 + o.val = (0 * 2 + 0) * 64 + o.val
    omega)]
  exact concatenate_pair_apply_left _ x y hc _ rfl _ fun b => by
    match b with
    | ⟨0, _⟩ => rfl
    | ⟨1, _⟩ => rfl

/-- Two rows stacked and given a unit axis, the second. -/
theorem stack_one {x y : (S2 1 64).Idx → EReal} (hc : Shape.Concatenates [S2 1 64, S2 1 64] (S2 2 64) 0)
    (hs : (S2 2 64).ShapeCasts (S3 1 2 64)) (o : Fin 64) :
    shapeCast (S3 1 2 64) (concatenate (S2 2 64) 0 [⟨S2 1 64, x⟩, ⟨S2 1 64, y⟩] hc) hs (ix3 0 1 o) = y (ix2 0 o) := by
  rw [shapeCast_apply _ hs (ix3 0 1 o) (ix2 1 o) (by
    rw [Shape.rowMajor_val_two, Shape.rowMajor_val_three]
    show 1 * 64 + o.val = (0 * 2 + 1) * 64 + o.val
    omega)]
  exact concatenate_pair_apply_right _ x y hc _ rfl rfl _ (fun b hb => by
    match b with
    | ⟨0, _⟩ => exact absurd rfl hb
    | ⟨1, _⟩ => rfl) rfl

/-- A sum over the positions is a sum over the rows and columns. -/
theorem sum_positions (hM : M = h * h) (z : Fin M → ℝ) (y : Fin h → Fin h → ℝ)
    (hz : ∀ (m : Fin M) (i j : Fin h), m.val = i.val * h + j.val → z m = y i j) : ∑ m, z m = ∑ i, ∑ j, y i j := by
  subst hM
  rw [← Equiv.sum_comp (finProdFinEquiv : Fin h × Fin h ≃ Fin (h * h)), Fintype.sum_prod_type]
  refine Finset.sum_congr rfl fun i _ => Finset.sum_congr rfl fun j _ => hz _ i j ?_
  show j.val + h * i.val = i.val * h + j.val
  rw [Nat.mul_comm, Nat.add_comm]

/-- The layer's sums of a real block. -/
theorem statOut_coe (f : LayerFacts h q p M) (z : FVec Ideal (S2 M 64) .f32) (y : Spec.Img) (n : ℕ)
    (hz : ∀ (m : Fin M) (i j : Fin h), m.val = i.val * h + j.val → ∀ o : Fin 64, z (ix2 m o) = ((y n o i j : ℝ) : EReal)) (o : Fin 64) :
    statOut f z (ix3 0 0 o) = ((Spec.isum h y n o : ℝ) : EReal)
      ∧ statOut f z (ix3 0 1 o) = ((Spec.isum h (fun n o i j => y n o i j * y n o i j) n o : ℝ) : EReal) := by
  have hM := f.hM
  have hpos : ∀ m : Fin M, ∃ i j : Fin h, m.val = i.val * h + j.val := by
    intro m
    have hm := m.isLt
    have h0 : 0 < h := Nat.pos_of_ne_zero fun e => by subst e; omega
    exact ⟨⟨m.val / h, Nat.div_lt_of_lt_mul (by omega)⟩, ⟨m.val % h, Nat.mod_lt _ h0⟩, (Nat.div_add_mod' _ _).symm⟩
  choose I J hIJ using hpos
  constructor
  · refine (stack_zero f.cat f.cst o).trans ((unrow_apply _ f.c2 o).trans ?_)
    refine (sum_lead2 z _ f.red _ _ o).trans ?_
    rw [Finset.sum_congr rfl (fun m _ => hz m (I m) (J m) (hIJ m) o), ← Reals.coe_sum]
    refine congrArg _ (sum_positions hM _ (fun i j => y n o i j) fun m i j hm => ?_)
    have e1 := hz m (I m) (J m) (hIJ m) o
    rw [hz m i j hm o] at e1
    exact (EReal.coe_eq_coe_iff.1 e1).symm
  · refine (stack_one f.cat f.cst o).trans ((unrow_apply _ f.c2 o).trans ?_)
    refine (sum_lead2 (mulf z z) _ f.red _ _ o).trans ?_
    have hzz : ∀ (m : Fin M) (i j : Fin h), m.val = i.val * h + j.val →
        mulf z z (ix2 m o) = ((y n o i j * y n o i j : ℝ) : EReal) := fun m i j hm => by
      show z (ix2 m o) * z (ix2 m o) = _
      rw [hz m i j hm o, EReal.coe_mul]
    rw [Finset.sum_congr rfl (fun m _ => hzz m (I m) (J m) (hIJ m)), ← Reals.coe_sum]
    refine congrArg _ (sum_positions hM _ (fun i j => y n o i j * y n o i j) fun m i j hm => ?_)
    have e1 := hzz m (I m) (J m) (hIJ m)
    rw [hzz m i j hm] at e1
    exact (EReal.coe_eq_coe_iff.1 e1).symm

/-- The rectified products of one step of the kernel's layer, from the step's blocks: the activations, the statistics of all
    images, the filter, the bias and the normalisation's factor and shift. -/
def step {sig : RefSig} {κ₁ κ₂ κ₃ : Kind} {sp₁ sp₂ sp₃ : Space} (v₁ : View sig κ₁ sp₁ (S3 p p 64) .f32) (v₂ : View sig κ₂ sp₂ (S2 M 576) .f32) {N H : ℕ}
    (u : Memref sig κ₃ sp₃ (S4 1 H H 64) .f32) (hu : u.IsWhole) (fs : StatFacts N) (fp : PoolFacts h) (f : LayerFacts h q p M) (k : BitVec 32)
    (fi : StrideFacts H h) (a : FVec Ideal (S4 1 H H 64) .f32) (st : FVec Ideal (S3 N 2 64) .f32) (w : FVec Ideal (S2 576 64) .f32)
    (b g be : FVec Ideal (S2 1 64) .f32) : FVec Ideal (S2 M 64) .f32 :=
  zed f (xcol v₂ f (shifted v₁ f (pooled fp (factor fs k st g) (shift fs k st g be) (strided H h 0 0 (fi 0 0) u hu a) (strided H h 0 1 (fi 0 1) u hu a)
    (strided H h 1 0 (fi 1 0) u hu a) (strided H h 1 1 (fi 1 1) u hu a)))) w b

/-- The step of real blocks is the specification's layer: normalisation and pooling, then the rectified convolution. -/
theorem step_coe {sig : RefSig} {κ₁ κ₂ κ₃ : Kind} {sp₁ sp₂ sp₃ : Space} (v₁ : View sig κ₁ sp₁ (S3 p p 64) .f32) (v₂ : View sig κ₂ sp₂ (S2 M 576) .f32) {N H : ℕ}
    (u : Memref sig κ₃ sp₃ (S4 1 H H 64) .f32) (hu : u.IsWhole) (fs : StatFacts N) (fp : PoolFacts h) (f : LayerFacts h q p M) (hN : 0 < N) (hH : 0 < H)
    (h2 : 2 * h ≤ H) {k : BitVec 32} (hk : Ideal.ofBits .f32 k = (((N * H * H : ℕ) : ℝ) : EReal)) (fi : StrideFacts H h)
    {a : FVec Ideal (S4 1 H H 64) .f32} {st : FVec Ideal (S3 N 2 64) .f32} {w : FVec Ideal (S2 576 64) .f32}
    {b g be : FVec Ideal (S2 1 64) .f32} {y W : Spec.Img} {B G Be : ℕ → ℝ} {n : ℕ}
    (ha : ∀ (i j : Fin H) (o : Fin 64), a (ix4 0 i j o) = ((y n o i j : ℝ) : EReal)) (hst : IsStat N H st y)
    (hw : IsFilter w W) (hb : IsRow b B) (hg : IsRow g G) (hbe : IsRow be Be)
    (m : Fin M) (i j : Fin h) (hm : m.val = i.val * h + j.val) (o : Fin 64) :
    step v₁ v₂ u hu fs fp f k fi a st w b g be (ix2 m o)
      = ((Spec.convRelu 64 h (Spec.pool (Spec.bn Reals.eps N H y G Be)) W B n o i j : ℝ) : EReal) := by
  rw [← Spec.kbnPool_eq hN hH]
  unfold step
  refine zed_coe v₁ v₂ f _ w b _ W B n (fun i j c => ?_) hw hb m i j hm o
  have hs : ∀ (dh dw : ℕ) (inb : _), dh < 2 → dw < 2 →
      strided H h dh dw inb u hu a (ix4 0 i j c) = ((y n c (2 * i + dh) (2 * j + dw) : ℝ) : EReal) := by
    intro dh dw inb e1 e2
    rw [strided_apply inb u hu a i j c (by omega) (by omega)]
    exact ha _ _ _
  exact pooled_coe fp i j c (factor_coe fs hN hH hk hst hg c) (shift_coe fs hN hH hk hst hg hbe c)
    (hs 0 0 (fi 0 0) (by omega) (by omega)) (hs 0 1 (fi 0 1) (by omega) (by omega)) (hs 1 0 (fi 1 0) (by omega) (by omega))
    (hs 1 1 (fi 1 1) (by omega) (by omega))

end Cert.KerOps

end
-- ==== Proof.KerPlace.lean ====
module
public import proofs.«01_k».proof.Proof.KerLayer
public import Idealize.ShloMosaic.Lib.Pipeline.ValueKit
public import Idealize.ShloMosaic.Lib.Pointwise
@[expose] public section
set_option maxRecDepth 16384

/-!
# Blocks and their arrays

Where a block of one image lies in the array of all images, and what an array of images or of sums is said to hold.
-/

noncomputable section

namespace Cert.KerOps

open Idealize.ShloMosaic Cert.RefOps

/-- The array holds the images `y`, channels last. -/
def IsAct (N h C : ℕ) (x : FVec Ideal (S4 N h h C) .f32) (y : Spec.Img) : Prop :=
  ∀ (n : Fin N) (i j : Fin h) (o : Fin C), x (ix4 n i j o) = ((y n o i j : ℝ) : EReal)

/-- A block of one image lies at the image's number. -/
theorem place4 {n p q r t : ℕ} (emb : (S4 1 p q r).Idx → (S4 n p q r).Idx) (ht : t < n)
    (he : ∀ z a, (emb z a).val = ![t, 0, 0, 0] a * ![1, p, q, r] a + (z a).val) (z : (S4 1 p q r).Idx) :
    emb z = ix4 ⟨t, ht⟩ (z 1) (z 2) (z 3) := by
  funext a
  refine Fin.ext ((he z a).trans ?_)
  match a with
  | ⟨0, _⟩ =>
    have h0 : (z 0).val < 1 := (z 0).isLt
    show t * 1 + (z 0).val = t
    omega
  | ⟨1, _⟩ => exact (congrArg (· + _) (Nat.zero_mul _)).trans (Nat.zero_add _)
  | ⟨2, _⟩ => exact (congrArg (· + _) (Nat.zero_mul _)).trans (Nat.zero_add _)
  | ⟨3, _⟩ => exact (congrArg (· + _) (Nat.zero_mul _)).trans (Nat.zero_add _)

/-- The same of three axes. -/
theorem place3 {n p q t : ℕ} (emb : (S3 1 p q).Idx → (S3 n p q).Idx) (ht : t < n)
    (he : ∀ z a, (emb z a).val = ![t, 0, 0] a * ![1, p, q] a + (z a).val) (z : (S3 1 p q).Idx) :
    emb z = ix3 ⟨t, ht⟩ (z 1) (z 2) := by
  funext a
  refine Fin.ext ((he z a).trans ?_)
  match a with
  | ⟨0, _⟩ =>
    have h0 : (z 0).val < 1 := (z 0).isLt
    show t * 1 + (z 0).val = t
    omega
  | ⟨1, _⟩ => exact (congrArg (· + _) (Nat.zero_mul _)).trans (Nat.zero_add _)
  | ⟨2, _⟩ => exact (congrArg (· + _) (Nat.zero_mul _)).trans (Nat.zero_add _)

/-- A block that is the whole array, of three axes. -/
theorem whole3 {n p q : ℕ} (emb : (S3 n p q).Idx → (S3 n p q).Idx)
    (he : ∀ z a, (emb z a).val = ![0, 0, 0] a * ![n, p, q] a + (z a).val) (z : (S3 n p q).Idx) : emb z = z := by
  funext a
  refine Fin.ext ((he z a).trans ?_)
  match a with
  | ⟨0, _⟩ => exact (congrArg (· + _) (Nat.zero_mul _)).trans (Nat.zero_add _)
  | ⟨1, _⟩ => exact (congrArg (· + _) (Nat.zero_mul _)).trans (Nat.zero_add _)
  | ⟨2, _⟩ => exact (congrArg (· + _) (Nat.zero_mul _)).trans (Nat.zero_add _)

/-- The same of two axes. -/
theorem whole2 {n p : ℕ} (emb : (S2 n p).Idx → (S2 n p).Idx)
    (he : ∀ z a, (emb z a).val = ![0, 0] a * ![n, p] a + (z a).val) (z : (S2 n p).Idx) : emb z = z := by
  funext a
  refine Fin.ext ((he z a).trans ?_)
  match a with
  | ⟨0, _⟩ => exact (congrArg (· + _) (Nat.zero_mul _)).trans (Nat.zero_add _)
  | ⟨1, _⟩ => exact (congrArg (· + _) (Nat.zero_mul _)).trans (Nat.zero_add _)

/-- Every index of a block of one image. -/
theorem unit4 {p q r : ℕ} (z : (S4 1 p q r).Idx) : z = ix4 0 (z 1) (z 2) (z 3) :=
  (eq_ix4 z).trans (congrArg (fun a : Fin 1 => ix4 a (z 1) (z 2) (z 3)) (Subsingleton.elim _ _))

/-- The same of three axes. -/
theorem unit3 {p q : ℕ} (z : (S3 1 p q).Idx) : z = ix3 0 (z 1) (z 2) :=
  (eq_ix3 z).trans (congrArg (fun a : Fin 1 => ix3 a (z 1) (z 2)) (Subsingleton.elim _ _))

/-- A position of an image is below the number of positions. -/
theorem pos_lt {h q p M : ℕ} (f : LayerFacts h q p M) (i j : Fin h) : i.val * h + j.val < M := by
  rw [f.hM]
  calc i.val * h + j.val < i.val * h + h := Nat.add_lt_add_left j.isLt _
    _ = (i.val + 1) * h := (Nat.succ_mul _ _).symm
    _ ≤ h * h := Nat.mul_le_mul_right _ i.isLt

/-- The rectified convolution of real blocks, as a block of one image. -/
theorem actOut_coe {h q p M : ℕ} (f : LayerFacts h q p M) (z : FVec Ideal (S2 M 64) .f32) (y : Spec.Img) (n : ℕ)
    (hz : ∀ (m : Fin M) (i j : Fin h), m.val = i.val * h + j.val → ∀ o : Fin 64, z (ix2 m o) = ((y n o i j : ℝ) : EReal))
    (i j : Fin h) (o : Fin 64) : actOut f z (ix4 0 i j o) = ((y n o i j : ℝ) : EReal) :=
  (actOut_apply f z i j o ⟨_, pos_lt f i j⟩ rfl).trans (hz _ i j rfl o)

/-- An image's sum of a channel, or its sum of squares. -/
def statAt (h : ℕ) (y : Spec.Img) (n s o : ℕ) : ℝ :=
  if s = 0 then Spec.isum h y n o else Spec.isum h (fun n o i j => y n o i j * y n o i j) n o

/-- The sums of every image, at an index. -/
theorem stat_at {h : ℕ} {x : FVec Ideal (S3 1 2 64) .f32} {y : Spec.Img} {n : ℕ}
    (hx : ∀ o : Fin 64, x (ix3 0 0 o) = ((Spec.isum h y n o : ℝ) : EReal)
      ∧ x (ix3 0 1 o) = ((Spec.isum h (fun n o i j => y n o i j * y n o i j) n o : ℝ) : EReal)) (s : Fin 2) (o : Fin 64) :
    x (ix3 0 s o) = ((statAt h y n s o : ℝ) : EReal) := by
  match s with
  | ⟨0, _⟩ => exact (hx o).1
  | ⟨1, _⟩ => exact (hx o).2

/-- An array of sums read at every index holds the images' sums. -/
theorem isStat_of {N h : ℕ} {x : FVec Ideal (S3 N 2 64) .f32} {y : Spec.Img}
    (hx : ∀ z, x z = ((statAt h y (z 0).val (z 1).val (z 2).val : ℝ) : EReal)) : IsStat N h x y :=
  fun n o => ⟨(hx (ix3 n 0 o)).trans rfl, (hx (ix3 n 1 o)).trans rfl⟩

end Cert.KerOps

end
-- ==== Proof.KerShapes.lean ====
module
public import proofs.«01_k».proof.Proof.KerPlace
@[expose] public section
set_option maxRecDepth 16384

/-!
# The layers' shapes

The side conditions of the kernel's layers at the shapes it is called at.
-/

namespace Cert.KerOps

open Idealize.ShloMosaic

/-- The statistics of 200 images. -/
theorem stat200 : StatFacts 200 := by constructor <;> decide +kernel

/-- The statistics of 120 images. -/
theorem stat120 : StatFacts 120 := by constructor <;> decide +kernel

/-- Pooling from 84×84 to 42×42. -/
theorem pool42 : PoolFacts 42 := by constructor <;> decide +kernel

/-- The four strided reads of a 84×84 image. -/
theorem stride84 : StrideFacts 84 42 := by unfold StrideFacts; decide +kernel

/-- Pooling from 42×42 to 21×21. -/
theorem pool21 : PoolFacts 21 := by constructor <;> decide +kernel

/-- The four strided reads of a 42×42 image. -/
theorem stride42 : StrideFacts 42 21 := by unfold StrideFacts; decide +kernel

/-- Pooling from 21×21 to 10×10. -/
theorem pool10 : PoolFacts 10 := by constructor <;> decide +kernel

/-- The four strided reads of a 21×21 image. -/
theorem stride21 : StrideFacts 21 10 := by unfold StrideFacts; decide +kernel

/-- Pooling from 10×10 to 5×5. -/
theorem pool5 : PoolFacts 5 := by constructor <;> decide +kernel

/-- The four strided reads of a 10×10 image. -/
theorem stride10 : StrideFacts 10 5 := by unfold StrideFacts; decide +kernel

/-- A convolution of 42×42 images. -/
theorem layer42 : LayerFacts 42 43 44 1764 := by constructor <;> decide +kernel

/-- A convolution of 21×21 images. -/
theorem layer21 : LayerFacts 21 22 23 441 := by constructor <;> decide +kernel

/-- A convolution of 10×10 images. -/
theorem layer10 : LayerFacts 10 11 12 100 := by constructor <;> decide +kernel

end Cert.KerOps

end
-- ==== Proof.KerFirst.lean ====
module
public import proofs.«01_k».proof.Proof.KerShapes
@[expose] public section
set_option maxRecDepth 16384

/-!
# The kernel's first layer

The image's 86 × 86 padded positions lie along one axis from lane 87; the nine shifted copies are nine ranges of lanes, stacked in
rows, and one product gives every padded position, of which the 84 × 84 inner ones are kept.
-/

noncomputable section

namespace Cert.KerOps

open Idealize.ShloMosaic Cert.RefOps

/-- The product of the filter with the stacked copies. -/
abbrev firstDims (wf : DotDims.WF (S2 72 64) (S2 72 7424) (S2 64 7424) [0] [0] [1] [1] [] []) :
    DotDims (S2 72 64) (S2 72 7424) (S2 64 7424) where
  lhsContracting := [0]
  rhsContracting := [0]
  lhsNonContracting := [1]
  rhsNonContracting := [1]
  lhsBatch := []
  rhsBatch := []
  wf := wf

/-- The shape conditions of the first layer. -/
structure FirstFacts : Prop where
  wf : DotDims.WF (S2 72 64) (S2 72 7424) (S2 64 7424) [0] [0] [1] [1] [] []
  cx : (S3 1 8 7424).ShapeCasts (S2 8 7424)
  c8 : (S2 8 7424).ShapeCasts (S2 8 7424)
  cw : (S2 72 64).ShapeCasts (S2 72 64)
  c1 : (S2 1 64).ShapeCasts (S1 64)
  cb : (S1 64).ShapeCasts (S2 64 1)
  bb : (S2 64 1).Broadcasts (S2 64 7424)
  tr : (S2 64 7424).Transposes [1, 0] (S2 7424 64)
  sl : (S2 7424 64).Slices ![0, 0] (S2 7396 64)
  cg : (S2 7396 64).ShapeCasts (S3 86 86 64)
  cgg : (S3 86 86 64).ShapeCasts (S3 86 86 64)
  cout : (S3 84 84 64).ShapeCasts (S4 1 84 84 64)
  red : (S3 84 84 64).Reduces [0, 1] (S1 64)
  c2 : (S1 64).ShapeCasts (S2 1 64)
  cat : Shape.Concatenates [S2 1 64, S2 1 64] (S2 2 64) 0
  cst : (S2 2 64).ShapeCasts (S3 1 2 64)
  il : ∀ t : Fin 9, ∀ a, (![0, 0, 86 * ((t : ℕ) / 3) + (t : ℕ) % 3] : Fin 3 → ℕ) a + (![1, 8, 7424] : Fin 3 → ℕ) a ≤ (S3 1 8 7680).size a
  ir : ∀ t : Fin 9, ∀ a, (![8 * (t : ℕ), 0] : Fin 2 → ℕ) a + (![8, 7424] : Fin 2 → ℕ) a ≤ (S2 72 7424).size a
  iw : ∀ a, (![0, 0] : Fin 2 → ℕ) a + (![72, 7424] : Fin 2 → ℕ) a ≤ (S2 72 7424).size a
  ig : ∀ a, (![0, 0, 0] : Fin 3 → ℕ) a + (![86, 86, 64] : Fin 3 → ℕ) a ≤ (S3 86 86 64).size a
  ii : ∀ a, (![1, 1, 0] : Fin 3 → ℕ) a + (![84, 84, 64] : Fin 3 → ℕ) a ≤ (S3 86 86 64).size a

theorem firstFacts : FirstFacts := by constructor <;> decide +kernel

/-- The range of lanes of one tap, its channels in rows. -/
def lanesOf (x : FVec Ideal (S3 1 8 7680) .f32) (t : Fin 9) : FVec Ideal (S2 8 7424) .f32 :=
  shapeCast (S2 8 7424) (shapeCast (S2 8 7424) (View.ld (Val := Elt Ideal) (e' := .f32) x
    (Rect.unit (s := S3 1 8 7680) ![0, 0, 86 * ((t : ℕ) / 3) + (t : ℕ) % 3] ![1, 8, 7424] (firstFacts.il t)) :
      FVec Ideal (S3 1 8 7424) .f32) firstFacts.cx) firstFacts.c8

theorem lanesOf_apply (x : FVec Ideal (S3 1 8 7680) .f32) (t : Fin 9) (c : Fin 8) (l : Fin 7424) (k : Fin 7680)
    (hk : k.val = 86 * (t.val / 3) + t.val % 3 + l.val) : lanesOf x t (ix2 c l) = x (ix3 0 c k) := by
  unfold lanesOf
  rw [cast_self, shapeCast_apply _ firstFacts.cx (ix2 c l) (ix3 0 c l) (by
    rw [Shape.rowMajor_val_two, Shape.rowMajor_val_three]
    show (0 * 8 + c.val) * 7424 + l.val = c.val * 7424 + l.val
    omega)]
  refine congrArg x (funext fun a => Fin.ext ?_)
  match a with
  | ⟨0, _⟩ => rfl
  | ⟨1, _⟩ => show 0 + 1 * c.val = c.val; omega
  | ⟨2, _⟩ => show 86 * (t.val / 3) + t.val % 3 + 1 * l.val = k.val; omega

/-- The stores of the nine ranges, stacked (last first). -/
def stackPieces (r : Fin 9 → FVec Ideal (S2 8 7424) .f32) : List (View.Piece (Elt Ideal) (S2 72 7424) .f32) :=
  [⟨Rect.unit ![64, 0] ![8, 7424] (firstFacts.ir 8), r 8⟩,
   ⟨Rect.unit ![56, 0] ![8, 7424] (firstFacts.ir 7), r 7⟩,
   ⟨Rect.unit ![48, 0] ![8, 7424] (firstFacts.ir 6), r 6⟩,
   ⟨Rect.unit ![40, 0] ![8, 7424] (firstFacts.ir 5), r 5⟩,
   ⟨Rect.unit ![32, 0] ![8, 7424] (firstFacts.ir 4), r 4⟩,
   ⟨Rect.unit ![24, 0] ![8, 7424] (firstFacts.ir 3), r 3⟩,
   ⟨Rect.unit ![16, 0] ![8, 7424] (firstFacts.ir 2), r 2⟩,
   ⟨Rect.unit ![8, 0] ![8, 7424] (firstFacts.ir 1), r 1⟩,
   ⟨Rect.unit ![0, 0] ![8, 7424] (firstFacts.ir 0), r 0⟩]

/-- The stacked ranges, as the product's load reads them. -/
def stacked {sig : RefSig} {κ : Kind} {sp : Space} (v : View sig κ sp (S2 72 7424) .f32) (r : Fin 9 → FVec Ideal (S2 8 7424) .f32) :
    FVec Ideal (S2 72 7424) .f32 :=
  v.readCov (stackPieces r) (Rect.unit (s := S2 72 7424) ![0, 0] ![72, 7424] firstFacts.iw).toLoadRect

/-- The stacked ranges as one function of a row and a lane. -/
def stackFn (r : Fin 9 → FVec Ideal (S2 8 7424) .f32) (y : (S2 72 7424).Idx) : EReal :=
  r ⟨(y 0).val / 8, Nat.div_lt_of_lt_mul (y 0).isLt⟩ (ix2 ⟨(y 0).val % 8, Nat.mod_lt _ (by omega)⟩ (y 1))

/-- Each store is a block of that function. -/
theorem stackFn_emb (r : Fin 9 → FVec Ideal (S2 8 7424) .f32) (s : Fin 9) (o : ℕ)
    (inb : ∀ a, (![o, 0] : Fin 2 → ℕ) a + (![8, 7424] : Fin 2 → ℕ) a ≤ (S2 72 7424).size a) (ho : o = 8 * s.val) (y : (S2 8 7424).Idx) :
    r s y = stackFn r ((Rect.unit (s := S2 72 7424) ![o, 0] ![8, 7424] inb).emb y) := by
  have h0 : (y 0).val < 8 := (y 0).isLt
  have hs := s.isLt
  have e1 : (⟨(o + 1 * (y 0).val) / 8, Nat.div_lt_of_lt_mul (by omega)⟩ : Fin 9) = s := Fin.ext (by show (o + 1 * (y 0).val) / 8 = s.val; omega)
  have e2 : (ix2 ⟨(o + 1 * (y 0).val) % 8, Nat.mod_lt _ (by omega)⟩ ((Rect.unit (s := S2 72 7424) ![o, 0] ![8, 7424] inb).emb y 1) : (S2 8 7424).Idx) = y :=
    funext fun a => Fin.ext (by
      match a with
      | ⟨0, _⟩ => show (o + 1 * (y 0).val) % 8 = (y 0).val; omega
      | ⟨1, _⟩ => show 0 + 1 * (y 1).val = (y 1).val; omega)
  exact ((congrArg₂ (fun u v => r u v) e1 e2)).symm

/-- Where a store lies. -/
theorem stack_mem (c : Fin 8) (l : Fin 7424) (t : Fin 9) (o : ℕ)
    (inb : ∀ a, (![o, 0] : Fin 2 → ℕ) a + (![8, 7424] : Fin 2 → ℕ) a ≤ (S2 72 7424).size a) (ho : o = 8 * t.val) :
    (ix2 ⟨c.val + 8 * t.val, by omega⟩ l : (S2 72 7424).Idx) ∈ (Rect.unit (s := S2 72 7424) ![o, 0] ![8, 7424] inb).set := by
  refine Rect.mem_set_unit.2 fun e => ?_
  match e with
  | ⟨0, _⟩ => exact ⟨by show o ≤ c.val + 8 * t.val; omega, by show c.val + 8 * t.val < o + 8; omega⟩
  | ⟨1, _⟩ => exact ⟨Nat.zero_le _, by show l.val < 0 + 7424; omega⟩

theorem stacked_apply {sig : RefSig} {κ : Kind} {sp : Space} (v : View sig κ sp (S2 72 7424) .f32) (r : Fin 9 → FVec Ideal (S2 8 7424) .f32)
    (t : Fin 9) (c : Fin 8) (l : Fin 7424) : stacked v r (ix2 ⟨c.val + 8 * t.val, by omega⟩ l) = r t (ix2 c l) := by
  have hc := c.isLt
  unfold stacked
  rw [View.readCov_eq_canon']
  have e : ∀ k : Fin 72, (Rect.unit (s := S2 72 7424) ![0, 0] ![72, 7424] firstFacts.iw).emb (ix2 k l) = ix2 k l := fun k =>
    funext fun a => Fin.ext (by
      match a with
      | ⟨0, _⟩ => show 0 + 1 * k.val = k.val; omega
      | ⟨1, _⟩ => show 0 + 1 * l.val = l.val; omega)
  refine (congrArg (View.canon (stackPieces r)) (e _)).trans ?_
  refine (canon_of (stackFn r) (stackPieces r) ⟨stackFn_emb r 8 64 (firstFacts.ir 8) rfl, stackFn_emb r 7 56 (firstFacts.ir 7) rfl,
    stackFn_emb r 6 48 (firstFacts.ir 6) rfl, stackFn_emb r 5 40 (firstFacts.ir 5) rfl, stackFn_emb r 4 32 (firstFacts.ir 4) rfl,
    stackFn_emb r 3 24 (firstFacts.ir 3) rfl, stackFn_emb r 2 16 (firstFacts.ir 2) rfl, stackFn_emb r 1 8 (firstFacts.ir 1) rfl,
    stackFn_emb r 0 0 (firstFacts.ir 0) rfl, trivial⟩ _ ?_).trans ?_
  · match t with
    | ⟨0, _⟩ => exact ⟨_, List.getElem_mem (l := stackPieces r) (n := 8) (by show 8 < 9; omega), stack_mem c l 0 0 (firstFacts.ir 0) rfl⟩
    | ⟨1, _⟩ => exact ⟨_, List.getElem_mem (l := stackPieces r) (n := 7) (by show 7 < 9; omega), stack_mem c l 1 8 (firstFacts.ir 1) rfl⟩
    | ⟨2, _⟩ => exact ⟨_, List.getElem_mem (l := stackPieces r) (n := 6) (by show 6 < 9; omega), stack_mem c l 2 16 (firstFacts.ir 2) rfl⟩
    | ⟨3, _⟩ => exact ⟨_, List.getElem_mem (l := stackPieces r) (n := 5) (by show 5 < 9; omega), stack_mem c l 3 24 (firstFacts.ir 3) rfl⟩
    | ⟨4, _⟩ => exact ⟨_, List.getElem_mem (l := stackPieces r) (n := 4) (by show 4 < 9; omega), stack_mem c l 4 32 (firstFacts.ir 4) rfl⟩
    | ⟨5, _⟩ => exact ⟨_, List.getElem_mem (l := stackPieces r) (n := 3) (by show 3 < 9; omega), stack_mem c l 5 40 (firstFacts.ir 5) rfl⟩
    | ⟨6, _⟩ => exact ⟨_, List.getElem_mem (l := stackPieces r) (n := 2) (by show 2 < 9; omega), stack_mem c l 6 48 (firstFacts.ir 6) rfl⟩
    | ⟨7, _⟩ => exact ⟨_, List.getElem_mem (l := stackPieces r) (n := 1) (by show 1 < 9; omega), stack_mem c l 7 56 (firstFacts.ir 7) rfl⟩
    | ⟨8, _⟩ => exact ⟨_, List.getElem_mem (l := stackPieces r) (n := 0) (by show 0 < 9; omega), stack_mem c l 8 64 (firstFacts.ir 8) rfl⟩
  · have e1 : (⟨(c.val + 8 * t.val) / 8, Nat.div_lt_of_lt_mul (by omega)⟩ : Fin 9) = t := Fin.ext (by show (c.val + 8 * t.val) / 8 = t.val; omega)
    have e2 : (⟨(c.val + 8 * t.val) % 8, Nat.mod_lt _ (by omega)⟩ : Fin 8) = c := Fin.ext (by show (c.val + 8 * t.val) % 8 = c.val; omega)
    show r ⟨(c.val + 8 * t.val) / 8, _⟩ (ix2 ⟨(c.val + 8 * t.val) % 8, _⟩ l) = _
    rw [e1, e2]

/-- The rectified product, a row for each padded position. -/
def firstMat (x : FVec Ideal (S2 72 7424) .f32) (w : FVec Ideal (S2 72 64) .f32) (b : FVec Ideal (S2 1 64) .f32) : FVec Ideal (S2 7424 64) .f32 :=
  transpose (S2 7424 64) [1, 0] (maximumf (addf (matmul (firstDims firstFacts.wf) none (shapeCast (S2 72 64) w firstFacts.cw) x
      (constant (S2 64 7424) .f32 0x00000000#32))
    (broadcastTo (S2 64 7424) (shapeCast (S2 64 1) (shapeCast (S1 64) b firstFacts.c1) firstFacts.cb) firstFacts.bb))
    (broadcast (S2 64 7424) (Scalar.ofBits .f32 0x00000000#32))) firstFacts.tr

/-- The product at a channel and a position. -/
theorem first_mm_apply (w : FVec Ideal (S2 72 64) .f32) (x : FVec Ideal (S2 72 7424) .f32) (o : Fin 64) (l : Fin 7424) :
    matmul (firstDims firstFacts.wf) none w x (constant (S2 64 7424) .f32 0x00000000#32) (ix2 o l)
      = ∑ k : Fin 72, w (ix2 k o) * x (ix2 k l) := by
  show Ideal.matmul (firstDims firstFacts.wf) w x (constant (F := Ideal) (S2 64 7424) .f32 0x00000000#32) (ix2 o l) = _
  rw [Ideal.matmul_apply₁_of (firstDims firstFacts.wf) (a := 0) rfl (K := 72) rfl w x _ (ix2 o l) (fun k => ix2 k o) (fun k => ix2 k l)]
  · show Ideal.ofBits .f32 0x00000000#32 + _ = _
    rw [Reals.ofBits_zero, EReal.coe_zero, zero_add]
  · intro k
    funext a
    match a with
    | ⟨0, _⟩ => exact Fin.ext rfl
    | ⟨1, _⟩ => exact Fin.ext rfl
  · intro k
    funext a
    match a with
    | ⟨0, _⟩ => exact Fin.ext rfl
    | ⟨1, _⟩ => exact Fin.ext rfl

/-- The rectified product at a position and a channel. -/
theorem firstMat_apply (x : FVec Ideal (S2 72 7424) .f32) (w : FVec Ideal (S2 72 64) .f32) (b : FVec Ideal (S2 1 64) .f32) (l : Fin 7424)
    (o : Fin 64) : firstMat x w b (ix2 l o) = max ((∑ k : Fin 72, w (ix2 k o) * x (ix2 k l)) + b (ix2 0 o)) ((0 : ℝ) : EReal) := by
  unfold firstMat
  rw [transpose_apply [1, 0] _ firstFacts.tr (ix2 l o) (ix2 o l) (fun a => by
    match a with
    | ⟨0, _⟩ => rfl
    | ⟨1, _⟩ => rfl)]
  show max (matmul (firstDims firstFacts.wf) none (shapeCast (S2 72 64) w firstFacts.cw) x (constant (S2 64 7424) .f32 0x00000000#32) (ix2 o l)
    + broadcastTo (S2 64 7424) (shapeCast (S2 64 1) (shapeCast (S1 64) b firstFacts.c1) firstFacts.cb) firstFacts.bb (ix2 o l))
    (Ideal.ofBits .f32 0x00000000#32) = _
  rw [first_mm_apply, cast_self, Reals.ofBits_zero, broadcastTo_apply _ firstFacts.bb (ix2 o l) (ix2 o 0) (fun a => by
    match a with
    | ⟨0, _⟩ => rfl
    | ⟨1, _⟩ => rfl), shapeCast_apply _ firstFacts.cb (ix2 o 0) (ix1 o) (by
    rw [Shape.rowMajor_val_two, Shape.rowMajor_val_one]
    show o.val = o.val * 1 + 0
    omega), row_apply]

/-- The inner positions, as the load after the store of all of them reads them. -/
def inner {sig : RefSig} {κ : Kind} {sp : Space} (v : View sig κ sp (S3 86 86 64) .f32) (z : FVec Ideal (S2 7424 64) .f32) :
    FVec Ideal (S3 84 84 64) .f32 :=
  v.readCov [(⟨Rect.unit (s := S3 86 86 64) ![0, 0, 0] ![86, 86, 64] firstFacts.ig,
      shapeCast (S3 86 86 64) (shapeCast (S3 86 86 64) (extractStridedSlice (S2 7396 64) ![0, 0] z firstFacts.sl) firstFacts.cg) firstFacts.cgg⟩
        : View.Piece (Elt Ideal) (S3 86 86 64) .f32)]
    (Rect.unit (s := S3 86 86 64) ![1, 1, 0] ![84, 84, 64] firstFacts.ii).toLoadRect

theorem inner_apply {sig : RefSig} {κ : Kind} {sp : Space} (v : View sig κ sp (S3 86 86 64) .f32) (z : FVec Ideal (S2 7424 64) .f32)
    (i j : Fin 84) (o : Fin 64) (l : Fin 7424) (hl : l.val = (i.val + 1) * 86 + (j.val + 1)) : inner v z (ix3 i j o) = z (ix2 l o) := by
  have hi := i.isLt
  have hj := j.isLt
  unfold inner
  rw [View.readCov_eq_canon']
  have e : (Rect.unit (s := S3 86 86 64) ![1, 1, 0] ![84, 84, 64] firstFacts.ii).emb (ix3 i j o)
      = (Rect.unit (s := S3 86 86 64) ![0, 0, 0] ![86, 86, 64] firstFacts.ig).emb (ix3 ⟨i.val + 1, by omega⟩ ⟨j.val + 1, by omega⟩ o) :=
    funext fun a => Fin.ext (by
      match a with
      | ⟨0, _⟩ => show 1 + 1 * i.val = 0 + 1 * (i.val + 1); omega
      | ⟨1, _⟩ => show 1 + 1 * j.val = 0 + 1 * (j.val + 1); omega
      | ⟨2, _⟩ => rfl)
  refine (congrArg (View.canon _) e).trans ((View.canon_cons_emb (Rect.unit (s := S3 86 86 64) ![0, 0, 0] ![86, 86, 64] firstFacts.ig) _ [] _).trans ?_)
  rw [cast_self, shapeCast_apply _ firstFacts.cg (ix3 ⟨i.val + 1, by omega⟩ ⟨j.val + 1, by omega⟩ o) (ix2 ⟨l.val, by omega⟩ o) (by
    rw [Shape.rowMajor_val_two, Shape.rowMajor_val_three]
    show l.val * 64 + o.val = ((i.val + 1) * 86 + (j.val + 1)) * 64 + o.val
    rw [hl])]
  exact extractStridedSlice_apply _ z firstFacts.sl _ (ix2 l o) (fun a => by
    match a with
    | ⟨0, _⟩ => exact (Nat.zero_add _).symm
    | ⟨1, _⟩ => exact (Nat.zero_add _).symm)

/-- The first layer's rectified products at the inner positions. -/
def firstStep {sig : RefSig} {κ₁ κ₂ : Kind} {sp₁ sp₂ : Space} (v₁ : View sig κ₁ sp₁ (S2 72 7424) .f32) (v₂ : View sig κ₂ sp₂ (S3 86 86 64) .f32)
    (x : FVec Ideal (S3 1 8 7680) .f32) (w : FVec Ideal (S2 72 64) .f32)
    (b : FVec Ideal (S2 1 64) .f32) : FVec Ideal (S3 84 84 64) .f32 :=
  inner v₂ (firstMat (stacked v₁ (lanesOf x)) w b)

/-- The filter as the product takes it: row `8 t + c` is tap `t`, channel `c`. -/
def IsFirstFilter (w : FVec Ideal (S2 72 64) .f32) (W : Spec.Img) : Prop :=
  ∀ (t : Fin 9) (c : Fin 8) (o : Fin 64), w (ix2 ⟨c.val + 8 * t.val, by omega⟩ o) = ((W o c (t.val / 3) (t.val % 3) : ℝ) : EReal)

/-- The image as the call takes it: the padded positions along one axis from lane 87. -/
def IsFlat (x : FVec Ideal (S3 1 8 7680) .f32) (X : Spec.Img) (n : ℕ) : Prop :=
  ∀ (c : Fin 8) (a b : Fin 86) (l : Fin 7680), l.val = 87 + a.val * 86 + b.val → x (ix3 0 c l) = ((Spec.padv 84 X n c a b : ℝ) : EReal)

/-- The first layer of a real image is the specification's convolution. -/
theorem firstStep_coe {sig : RefSig} {κ₁ κ₂ : Kind} {sp₁ sp₂ : Space} (v₁ : View sig κ₁ sp₁ (S2 72 7424) .f32) (v₂ : View sig κ₂ sp₂ (S3 86 86 64) .f32)
    {x : FVec Ideal (S3 1 8 7680) .f32} {w : FVec Ideal (S2 72 64) .f32}
    {b : FVec Ideal (S2 1 64) .f32} {X W : Spec.Img} {B : ℕ → ℝ} {n : ℕ} (hx : IsFlat x X n) (hw : IsFirstFilter w W) (hb : IsRow b B)
    (i j : Fin 84) (o : Fin 64) :
    firstStep v₁ v₂ x w b (ix3 i j o) = ((Spec.convRelu 8 84 X W B n o i j : ℝ) : EReal) := by
  have hi := i.isLt
  have hj := j.isLt
  unfold firstStep
  rw [inner_apply v₂ _ i j o ⟨(i.val + 1) * 86 + (j.val + 1), by omega⟩ rfl, firstMat_apply, hb,
    ← Equiv.sum_comp (finProdFinEquiv : Fin 9 × Fin 8 ≃ Fin 72), Fintype.sum_prod_type]
  unfold Spec.convRelu
  rw [Reals.coe_max, EReal.coe_add, Reals.coe_sum]
  refine congrArg (max · _) (congrArg (· + _) (Finset.sum_congr rfl fun t _ => ?_))
  rw [Reals.coe_sum]
  refine Finset.sum_congr rfl fun c _ => ?_
  have ht := t.isLt
  have e1 := hw t c o
  have e2 := stacked_apply v₁ (lanesOf x) t c ⟨(i.val + 1) * 86 + (j.val + 1), by omega⟩
  rw [lanesOf_apply x t c _ ⟨86 * (t.val / 3) + t.val % 3 + ((i.val + 1) * 86 + (j.val + 1)), by omega⟩ rfl,
    hx c ⟨i.val + t.val / 3, by omega⟩ ⟨j.val + t.val % 3, by omega⟩ _ (by
      show 86 * (t.val / 3) + t.val % 3 + ((i.val + 1) * 86 + (j.val + 1)) = 87 + (i.val + t.val / 3) * 86 + (j.val + t.val % 3)
      omega)] at e2
  rw [mul_comm (Spec.padv _ _ _ _ _ _), EReal.coe_mul]
  exact congrArg₂ (· * ·) e1 e2

/-- The first layer's block of activations. -/
def firstAct (z : FVec Ideal (S3 84 84 64) .f32) : FVec Ideal (S4 1 84 84 64) .f32 := shapeCast (S4 1 84 84 64) z firstFacts.cout

theorem firstAct_apply (z : FVec Ideal (S3 84 84 64) .f32) (i j : Fin 84) (o : Fin 64) : firstAct z (ix4 0 i j o) = z (ix3 i j o) := by
  refine shapeCast_apply z firstFacts.cout _ _ ?_
  rw [Shape.rowMajor_val_four, Shape.rowMajor_val_three]
  show (i.val * 84 + j.val) * 64 + o.val = ((0 * 84 + i.val) * 84 + j.val) * 64 + o.val
  omega

/-- The first layer's sums and sums of squares. -/
def firstStat (z : FVec Ideal (S3 84 84 64) .f32) : FVec Ideal (S3 1 2 64) .f32 :=
  shapeCast (S3 1 2 64) (concatenate (S2 2 64) 0
    [⟨S2 1 64, shapeCast (S2 1 64) (multiReduction .add [0, 1] (S1 64) z 0x00000000#32 firstFacts.red (.inl rfl) rfl : FVec Ideal (S1 64) .f32) firstFacts.c2⟩,
     ⟨S2 1 64, shapeCast (S2 1 64) (multiReduction .add [0, 1] (S1 64) (mulf z z) 0x00000000#32 firstFacts.red (.inl rfl) rfl : FVec Ideal (S1 64) .f32) firstFacts.c2⟩]
    firstFacts.cat) firstFacts.cst

theorem sum_inner (z : FVec Ideal (S3 84 84 64) .f32) (w : BitVec 32) (hf : FKind.Formats FTy.f32) (hw : w = FKind.add.neutral .f32 hf) (o : Fin 64) :
    multiReduction .add [0, 1] (S1 64) z w firstFacts.red hf hw (ix1 o) = ∑ i : Fin 84, ∑ j : Fin 84, z (ix3 i j o) := by
  refine (Finset.sum_filter_eq_sum_of_fiber _ (fun k : Fin 84 × Fin 84 => (ix3 k.1 k.2 o : (S3 84 84 64).Idx))
    (fun _ _ e => Prod.ext (congrFun e 0) (congrFun e 1)) (fun i => ⟨fun e => ⟨(i 0, i 1), ?_⟩, ?_⟩) z).trans ?_
  · funext a
    match a with
    | ⟨0, _⟩ => rfl
    | ⟨1, _⟩ => rfl
    | ⟨2, _⟩ => exact Fin.ext (congrArg Fin.val (congrFun e 0)).symm
  · rintro ⟨k, rfl⟩
    funext b
    match b with
    | ⟨0, _⟩ => exact Fin.ext rfl
  · rw [Fintype.sum_prod_type]

theorem firstStat_coe (z : FVec Ideal (S3 84 84 64) .f32) (y : Spec.Img) (n : ℕ)
    (hz : ∀ (i j : Fin 84) (o : Fin 64), z (ix3 i j o) = ((y n o i j : ℝ) : EReal)) (o : Fin 64) :
    firstStat z (ix3 0 0 o) = ((Spec.isum 84 y n o : ℝ) : EReal)
      ∧ firstStat z (ix3 0 1 o) = ((Spec.isum 84 (fun n o i j => y n o i j * y n o i j) n o : ℝ) : EReal) := by
  constructor
  · refine (stack_zero firstFacts.cat firstFacts.cst o).trans ((unrow_apply _ firstFacts.c2 o).trans ((sum_inner z _ _ _ o).trans ?_))
    unfold Spec.isum
    rw [Reals.coe_sum]
    refine Finset.sum_congr rfl fun i _ => ?_
    rw [Reals.coe_sum]
    exact Finset.sum_congr rfl fun j _ => hz i j o
  · refine (stack_one firstFacts.cat firstFacts.cst o).trans ((unrow_apply _ firstFacts.c2 o).trans ((sum_inner (mulf z z) _ _ _ o).trans ?_))
    unfold Spec.isum
    rw [Reals.coe_sum]
    refine Finset.sum_congr rfl fun i _ => ?_
    rw [Reals.coe_sum]
    refine Finset.sum_congr rfl fun j _ => ?_
    show z (ix3 i j o) * z (ix3 i j o) = _
    rw [hz i j o, EReal.coe_mul]

end Cert.KerOps

end
-- ==== Proof.KerInput.lean ====
module
public import proofs.«01_k».proof.Proof.KerFirst
public import Idealize.ShloMosaic.Lib.KernelVsHost
@[expose] public section
set_option maxRecDepth 16384

/-!
# What the calls are given

The host pads the images to eight channels and a border and lays them along lanes, turns the filters over and writes the rows of
numbers as one-row matrices.
-/

noncomputable section

namespace Cert.Spec

/-- Channels from the third on set to zero. -/
def ext (x : Img) : Img := fun n c i j => if c < 3 then x n c i j else 0

/-- The convolution over eight channels of which five are zero is the one over three. -/
theorem convRelu_ext (h : ℕ) (x w : Img) (b : ℕ → ℝ) :
    convRelu 8 h (ext x) (fun o c i j => ext w o c i j) b = convRelu 3 h x w b := by
  funext n o i j
  unfold convRelu
  congr 2
  refine Finset.sum_congr rfl fun t _ => ?_
  rw [Fin.sum_univ_eight, Fin.sum_univ_three]
  simp [ext, padv]

end Cert.Spec

namespace Cert.KerOps

open Idealize.ShloMosaic Cert.RefOps

/-- The border's value. -/
def edge : FVec Ideal S0 .f32 := sitofp .f32 (constantI S0 32 0#32)

theorem edge_apply (i : S0.Idx) : edge i = ((0 : ℝ) : EReal) := by
  show (((0#32 : BitVec 32).toInt : ℝ) : EReal) = _
  simp

/-! ## Rows and filters -/

/-- A row of numbers as a matrix of one row. -/
theorem isRow_cast (x : FVec Ideal (S1 64) .f32) (h : (S1 64).ShapeCasts (S2 1 64)) (v : ℕ → ℝ) (hx : ∀ o : Fin 64, x (ix1 o) = ((v o : ℝ) : EReal)) :
    IsRow (shapeCast (S2 1 64) x h) v := fun o => (unrow_apply x h o).trans (hx o)

/-- The filter turned over and its taps and channels laid along one axis. -/
theorem isFilter_turn (x : FVec Ideal (S4 64 64 3 3) .f32) (ht : (S4 64 64 3 3).Transposes [2, 3, 1, 0] (S4 3 3 64 64))
    (h : (S4 3 3 64 64).ShapeCasts (S2 576 64)) (W : Spec.Img) (hx : ∀ o c i j, x (ix4 o c i j) = ((W o c i j : ℝ) : EReal)) :
    IsFilter (shapeCast (S2 576 64) (transpose (S4 3 3 64 64) [2, 3, 1, 0] x ht) h) W := fun t c o => by
  have ht' := t.isLt
  rw [shapeCast_apply _ h _ (ix4 (⟨t.val / 3, by omega⟩ : Fin 3) (⟨t.val % 3, by omega⟩ : Fin 3) c o) (by
    rw [Shape.rowMajor_val_two, Shape.rowMajor_val_four]
    show ((t.val / 3 * 3 + t.val % 3) * 64 + c.val) * 64 + o.val = (c.val + 64 * t.val) * 64 + o.val
    omega), transpose_apply _ x ht _ (ix4 o c (⟨t.val / 3, by omega⟩ : Fin 3) (⟨t.val % 3, by omega⟩ : Fin 3)) (fun a => by
      match a with
      | ⟨0, _⟩ => rfl
      | ⟨1, _⟩ => rfl
      | ⟨2, _⟩ => rfl
      | ⟨3, _⟩ => rfl)]
  exact hx _ _ _ _

/-- The first filter, padded to eight channels. -/
theorem isFirstFilter_turn (x : FVec Ideal (S4 64 3 3 3) .f32) (ht : (S4 64 3 3 3).Transposes [2, 3, 1, 0] (S4 3 3 3 64))
    (hp : (S4 3 3 3 64).Pads ![0, 0, 0, 0] ![0, 0, 5, 0] ![0, 0, 0, 0] (S4 3 3 8 64)) (hu : 0 < S0.numel)
    (h : (S4 3 3 8 64).ShapeCasts (S2 72 64)) (W : Spec.Img) (hx : ∀ o c i j, x (ix4 o c i j) = ((W o c i j : ℝ) : EReal)) :
    IsFirstFilter (shapeCast (S2 72 64) (pad (S4 3 3 8 64) ![0, 0, 0, 0] ![0, 0, 5, 0] ![0, 0, 0, 0]
      (transpose (S4 3 3 3 64) [2, 3, 1, 0] x ht) edge hp hu) h) (Spec.ext W) := fun t c o => by
  have ht' := t.isLt
  have hc := c.isLt
  rw [shapeCast_apply _ h _ (ix4 (⟨t.val / 3, by omega⟩ : Fin 3) (⟨t.val % 3, by omega⟩ : Fin 3) c o) (by
    rw [Shape.rowMajor_val_two, Shape.rowMajor_val_four]
    show ((t.val / 3 * 3 + t.val % 3) * 8 + c.val) * 64 + o.val = (c.val + 8 * t.val) * 64 + o.val
    omega)]
  unfold Spec.ext
  split
  · next hlt =>
    rw [pad_apply_of_inside _ _ _ _ _ hp hu _ (ix4 (⟨t.val / 3, by omega⟩ : Fin 3) (⟨t.val % 3, by omega⟩ : Fin 3) (⟨c.val, hlt⟩ : Fin 3) o)
      (fun a => by
        match a with
        | ⟨0, _⟩ => show t.val / 3 = 0 + t.val / 3 * 1; omega
        | ⟨1, _⟩ => show t.val % 3 = 0 + t.val % 3 * 1; omega
        | ⟨2, _⟩ => show c.val = 0 + c.val * 1; omega
        | ⟨3, _⟩ => show o.val = 0 + o.val * 1; omega),
      transpose_apply _ x ht _ (ix4 o (⟨c.val, hlt⟩ : Fin 3) (⟨t.val / 3, by omega⟩ : Fin 3) (⟨t.val % 3, by omega⟩ : Fin 3)) (fun a => by
      match a with
      | ⟨0, _⟩ => rfl
      | ⟨1, _⟩ => rfl
      | ⟨2, _⟩ => rfl
      | ⟨3, _⟩ => rfl)]
    exact hx _ _ _ _
  · next hge =>
    rw [pad_apply_of_not_inside _ _ _ _ _ hp hu _ (2 : Fin 4) (by
      show ¬(0 ≤ c.val ∧ (c.val - 0) % 1 = 0 ∧ (c.val - 0) / 1 < 3)
      omega), edge_apply]

/-! ## Images -/

/-- The shape conditions of the images' layout. -/
structure InputFacts (N : ℕ) : Prop where
  p4 : (S4 N 3 84 84).Pads ![0, 0, 1, 1] ![0, 5, 1, 1] ![0, 0, 0, 0] (S4 N 8 86 86)
  c3 : (S4 N 8 86 86).ShapeCasts (S3 N 8 7396)
  p3 : (S3 N 8 7396).Pads ![0, 0, 87] ![0, 0, 197] ![0, 0, 0] (S3 N 8 7680)
  hu : 0 < S0.numel

theorem input200 : InputFacts 200 := by constructor <;> decide +kernel
theorem input120 : InputFacts 120 := by constructor <;> decide +kernel

/-- The images with five more channels and a border. -/
def bordered {N : ℕ} (f : InputFacts N) (x : FVec Ideal (S4 N 3 84 84) .f32) : FVec Ideal (S4 N 8 86 86) .f32 :=
  pad (S4 N 8 86 86) ![0, 0, 1, 1] ![0, 5, 1, 1] ![0, 0, 0, 0] x edge f.p4 f.hu

/-- The images along lanes. -/
def alongLanes {N : ℕ} (f : InputFacts N) (x : FVec Ideal (S4 N 3 84 84) .f32) : FVec Ideal (S3 N 8 7680) .f32 :=
  pad (S3 N 8 7680) ![0, 0, 87] ![0, 0, 197] ![0, 0, 0] (shapeCast (S3 N 8 7396) (bordered f x) f.c3) edge f.p3 f.hu

theorem bordered_coe {N : ℕ} (f : InputFacts N) (x : FVec Ideal (S4 N 3 84 84) .f32) (X : Spec.Img)
    (hx : ∀ n c i j, x (ix4 n c i j) = ((X n c i j : ℝ) : EReal)) (n : Fin N) (c : Fin 8) (a b : Fin 86) :
    bordered f x (ix4 n c a b) = ((Spec.padv 84 (Spec.ext X) n c a b : ℝ) : EReal) := by
  have hc := c.isLt
  have ha := a.isLt
  have hb := b.isLt
  unfold bordered Spec.padv Spec.ext
  by_cases h1 : c.val < 3
  · by_cases h2 : 1 ≤ a.val ∧ a.val ≤ 84 ∧ 1 ≤ b.val ∧ b.val ≤ 84
    · rw [if_pos h2, if_pos h1, pad_apply_of_inside _ _ _ _ _ f.p4 f.hu _
        (ix4 n (⟨c.val, h1⟩ : Fin 3) (⟨a.val - 1, by omega⟩ : Fin 84) (⟨b.val - 1, by omega⟩ : Fin 84)) (fun e => by
          match e with
          | ⟨0, _⟩ => show n.val = 0 + n.val * 1; omega
          | ⟨1, _⟩ => show c.val = 0 + c.val * 1; omega
          | ⟨2, _⟩ => show a.val = 1 + (a.val - 1) * 1; omega
          | ⟨3, _⟩ => show b.val = 1 + (b.val - 1) * 1; omega)]
      exact hx _ _ _ _
    · rw [if_neg h2]
      by_cases h3 : 1 ≤ a.val ∧ a.val ≤ 84
      · rw [pad_apply_of_not_inside _ _ _ _ _ f.p4 f.hu _ (3 : Fin 4) (by
          show ¬(1 ≤ b.val ∧ (b.val - 1) % 1 = 0 ∧ (b.val - 1) / 1 < 84)
          omega), edge_apply]
      · rw [pad_apply_of_not_inside _ _ _ _ _ f.p4 f.hu _ (2 : Fin 4) (by
          show ¬(1 ≤ a.val ∧ (a.val - 1) % 1 = 0 ∧ (a.val - 1) / 1 < 84)
          omega), edge_apply]
  · rw [if_neg h1, ite_self, pad_apply_of_not_inside _ _ _ _ _ f.p4 f.hu _ (1 : Fin 4) (by
      show ¬(0 ≤ c.val ∧ (c.val - 0) % 1 = 0 ∧ (c.val - 0) / 1 < 3)
      omega), edge_apply]

theorem flat_coe {N : ℕ} (f : InputFacts N) (x : FVec Ideal (S4 N 3 84 84) .f32) (X : Spec.Img)
    (hx : ∀ n c i j, x (ix4 n c i j) = ((X n c i j : ℝ) : EReal)) (n : Fin N) :
    IsFlat (fun y => alongLanes f x (ix3 n (y 1) (y 2))) (Spec.ext X) n := fun c a b l hl => by
  have ha := a.isLt
  have hb := b.isLt
  show alongLanes f x (ix3 n c l) = _
  unfold alongLanes
  rw [pad_apply_of_inside _ _ _ _ _ f.p3 f.hu _ (ix3 n c (⟨a.val * 86 + b.val, by omega⟩ : Fin 7396)) (fun e => by
      match e with
      | ⟨0, _⟩ => show n.val = 0 + n.val * 1; omega
      | ⟨1, _⟩ => show c.val = 0 + c.val * 1; omega
      | ⟨2, _⟩ => show l.val = 87 + (a.val * 86 + b.val) * 1; omega),
    shapeCast_apply _ f.c3 _ (ix4 n c a b) (by
      rw [Shape.rowMajor_val_three, Shape.rowMajor_val_four]
      show ((n.val * 8 + c.val) * 86 + a.val) * 86 + b.val = (n.val * 8 + c.val) * 7396 + (a.val * 86 + b.val)
      omega)]
  exact bordered_coe f x X hx n c a b

/-! ## Features -/

/-- The support features' layout: task, shot, class become task, class-of-shot. -/
structure FeatFacts : Prop where
  cs : (S3 200 25 64).ShapeCasts (S4 8 5 5 1600)
  ts : (S4 8 5 5 1600).Transposes [0, 2, 1, 3] (S4 8 5 5 1600)
  cc : (S4 8 5 5 1600).ShapeCasts (S3 8 25 1600)
  cq : (S3 120 25 64).ShapeCasts (S3 8 15 1600)

/-- A coordinate of the support features: position `k / 64`, channel `k % 64` of the image. -/
theorem class_apply (f : FeatFacts) (x : FVec Ideal (S3 200 25 64) .f32) (t : Fin 8) (i m : Fin 5) (k : Fin 1600) :
    shapeCast (S3 8 25 1600) (transpose (S4 8 5 5 1600) [0, 2, 1, 3] (shapeCast (S4 8 5 5 1600) x f.cs) f.ts) f.cc
      (ix3 t ⟨5 * i.val + m.val, by omega⟩ k)
      = x (ix3 (⟨25 * t.val + 5 * m.val + i.val, by omega⟩ : Fin 200) (⟨k.val / 64, by omega⟩ : Fin 25) (⟨k.val % 64, by omega⟩ : Fin 64)) := by
  have hk := k.isLt
  rw [shapeCast_apply _ f.cc _ (ix4 t i m k) (by
      rw [Shape.rowMajor_val_three, Shape.rowMajor_val_four]
      show ((t.val * 5 + i.val) * 5 + m.val) * 1600 + k.val = (t.val * 25 + (5 * i.val + m.val)) * 1600 + k.val
      omega), transpose_apply _ _ f.ts _ (ix4 t m i k) (fun a => by
      match a with
      | ⟨0, _⟩ => rfl
      | ⟨1, _⟩ => rfl
      | ⟨2, _⟩ => rfl
      | ⟨3, _⟩ => rfl)]
  refine shapeCast_apply _ f.cs _ _ ?_
  rw [Shape.rowMajor_val_three, Shape.rowMajor_val_four]
  show ((25 * t.val + 5 * m.val + i.val) * 25 + k.val / 64) * 64 + k.val % 64 = ((t.val * 5 + m.val) * 5 + i.val) * 1600 + k.val
  omega

/-- A coordinate of the query features. -/
theorem query_apply (f : FeatFacts) (x : FVec Ideal (S3 120 25 64) .f32) (t : Fin 8) (r : Fin 15) (k : Fin 1600) :
    shapeCast (S3 8 15 1600) x f.cq (ix3 t r k)
      = x (ix3 (⟨15 * t.val + r.val, by omega⟩ : Fin 120) (⟨k.val / 64, by omega⟩ : Fin 25) (⟨k.val % 64, by omega⟩ : Fin 64)) := by
  have hk := k.isLt
  refine shapeCast_apply _ f.cq _ _ ?_
  rw [Shape.rowMajor_val_three, Shape.rowMajor_val_three]
  show ((15 * t.val + r.val) * 25 + k.val / 64) * 64 + k.val % 64 = (t.val * 15 + r.val) * 1600 + k.val
  omega

end Cert.KerOps

end
-- ==== Proof.KerHosts.lean ====
module
public import proofs.«01_k».proof.Proof.Gen.KernelIdeal.Frame
public import proofs.«01_k».proof.Proof.KerInput
public import Idealize.ShloMosaic.Lib.Claim
public import Idealize.ShloMosaic.Lib.StableHlo.RunRead
@[expose] public section
set_option maxRecDepth 16384

/-!
# What the host leaves before the calls

The buffers the calls read that the host fills: filters, rows, the images along lanes, and at the end the features.
-/

noncomputable section

namespace Cert.KernelIdeal.Gen

open Idealize.ShloMosaic Idealize.ShloMosaic.TcCoe Idealize.ShloMosaic.Tactic Cert.KernelIdeal Cert.RefOps Cert.KerOps

theorem turnFacts : (S4 64 64 3 3).Transposes [2, 3, 1, 0] (S4 3 3 64 64) ∧ (S4 3 3 64 64).ShapeCasts (S2 576 64) ∧ (S1 64).ShapeCasts (S2 1 64) := by
  decide +kernel

theorem firstFacts : (S4 64 3 3 3).Transposes [2, 3, 1, 0] (S4 3 3 3 64)
    ∧ (S4 3 3 3 64).Pads ![0, 0, 0, 0] ![0, 0, 5, 0] ![0, 0, 0, 0] (S4 3 3 8 64) ∧ 0 < S0.numel ∧ (S4 3 3 8 64).ShapeCasts (S2 72 64) := by
  decide +kernel

/-- A filter turned over. -/
def turn (x : FVec Ideal (S4 64 64 3 3) .f32) : FVec Ideal (S2 576 64) .f32 :=
  shapeCast (S2 576 64) (transpose (S4 3 3 64 64) [2, 3, 1, 0] x turnFacts.1) turnFacts.2.1

/-- The first filter turned over. -/
def turnFirst (x : FVec Ideal (S4 64 3 3 3) .f32) : FVec Ideal (S2 72 64) .f32 :=
  shapeCast (S2 72 64) (pad (S4 3 3 8 64) ![0, 0, 0, 0] ![0, 0, 5, 0] ![0, 0, 0, 0]
      (transpose (S4 3 3 3 64) [2, 3, 1, 0] x firstFacts.1) edge firstFacts.2.1 firstFacts.2.2.1) firstFacts.2.2.2

/-- A row of numbers as a matrix. -/
def rowed (x : FVec Ideal (S1 64) .f32) : FVec Ideal (S2 1 64) .f32 := shapeCast (S2 1 64) x turnFacts.2.2

variable (m : (ℓ : Loc nD τ sig) → Buf (Elt Ideal) ℓ) (ρ : Dev nD → PrngReg)

/-- The buffers of the host that nothing writes again. -/
abbrev held : List (Ref sig .tc) := [main_v2, main_v4, main_v6, main_v8, main_v9, main_v10, main_v11, main_v12, main_v13, main_v14, main_v15,
  main_v16, main_v17, main_v18, main_v19, main_v20, main_v22]

/-! ## The filters, rows and images -/

theorem at_v2 (c : Dev nD) : W3 m ρ c (Proc.devRef .tc main_v2) = turnFirst (m ((c : Thread nD τ).loc main_arg3)) := by
  unfold_abbrev_sides; after_reads_simp; rfl
theorem at_v4 (c : Dev nD) : W3 m ρ c (Proc.devRef .tc main_v4) = turn (m ((c : Thread nD τ).loc main_arg7)) := by
  unfold_abbrev_sides; after_reads_simp; rfl
theorem at_v6 (c : Dev nD) : W3 m ρ c (Proc.devRef .tc main_v6) = turn (m ((c : Thread nD τ).loc main_arg11)) := by
  unfold_abbrev_sides; after_reads_simp; rfl
theorem at_v8 (c : Dev nD) : W3 m ρ c (Proc.devRef .tc main_v8) = turn (m ((c : Thread nD τ).loc main_arg15)) := by
  unfold_abbrev_sides; after_reads_simp; rfl
theorem at_v9 (c : Dev nD) : W3 m ρ c (Proc.devRef .tc main_v9) = rowed (m ((c : Thread nD τ).loc main_arg4)) := by
  unfold_abbrev_sides; after_reads_simp; rfl
theorem at_v10 (c : Dev nD) : W3 m ρ c (Proc.devRef .tc main_v10) = rowed (m ((c : Thread nD τ).loc main_arg8)) := by
  unfold_abbrev_sides; after_reads_simp; rfl
theorem at_v11 (c : Dev nD) : W3 m ρ c (Proc.devRef .tc main_v11) = rowed (m ((c : Thread nD τ).loc main_arg12)) := by
  unfold_abbrev_sides; after_reads_simp; rfl
theorem at_v12 (c : Dev nD) : W3 m ρ c (Proc.devRef .tc main_v12) = rowed (m ((c : Thread nD τ).loc main_arg16)) := by
  unfold_abbrev_sides; after_reads_simp; rfl
theorem at_v13 (c : Dev nD) : W3 m ρ c (Proc.devRef .tc main_v13) = rowed (m ((c : Thread nD τ).loc main_arg5)) := by
  unfold_abbrev_sides; after_reads_simp; rfl
theorem at_v14 (c : Dev nD) : W3 m ρ c (Proc.devRef .tc main_v14) = rowed (m ((c : Thread nD τ).loc main_arg9)) := by
  unfold_abbrev_sides; after_reads_simp; rfl
theorem at_v15 (c : Dev nD) : W3 m ρ c (Proc.devRef .tc main_v15) = rowed (m ((c : Thread nD τ).loc main_arg13)) := by
  unfold_abbrev_sides; after_reads_simp; rfl
theorem at_v16 (c : Dev nD) : W3 m ρ c (Proc.devRef .tc main_v16) = rowed (m ((c : Thread nD τ).loc main_arg17)) := by
  unfold_abbrev_sides; after_reads_simp; rfl
theorem at_v17 (c : Dev nD) : W3 m ρ c (Proc.devRef .tc main_v17) = rowed (m ((c : Thread nD τ).loc main_arg6)) := by
  unfold_abbrev_sides; after_reads_simp; rfl
theorem at_v18 (c : Dev nD) : W3 m ρ c (Proc.devRef .tc main_v18) = rowed (m ((c : Thread nD τ).loc main_arg10)) := by
  unfold_abbrev_sides; after_reads_simp; rfl
theorem at_v19 (c : Dev nD) : W3 m ρ c (Proc.devRef .tc main_v19) = rowed (m ((c : Thread nD τ).loc main_arg14)) := by
  unfold_abbrev_sides; after_reads_simp; rfl
theorem at_v20 (c : Dev nD) : W3 m ρ c (Proc.devRef .tc main_v20) = rowed (m ((c : Thread nD τ).loc main_arg18)) := by
  unfold_abbrev_sides; after_reads_simp; rfl
theorem at_v22 (c : Dev nD) : W3 m ρ c (Proc.devRef .tc main_v22)
    = shapeCast (S4 120 3 84 84) (m ((c : Thread nD τ).loc main_arg2)) shapeCasts_S8x15x3x84x84_S120x3x84x84 := by
  unfold_abbrev_sides; after_reads_simp; rfl
theorem at_v25 (c : Dev nD) : W6 m ρ c (Proc.devRef .tc main_v25)
    = alongLanes input200 (shapeCast (S4 200 3 84 84) (m ((c : Thread nD τ).loc main_arg0)) shapeCasts_S8x25x3x84x84_S200x3x84x84) := by
  unfold_abbrev_sides; after_reads_simp; rfl
theorem at_v33 (c : Dev nD) : W15 m ρ c (Proc.devRef .tc main_v33)
    = alongLanes input120 (W11 m ρ c (Proc.devRef .tc main_v22)) := by
  unfold_abbrev_sides; after_reads_simp; rfl

theorem featFacts : FeatFacts := by constructor <;> decide +kernel

theorem at_v41 (c : Dev nD) : W21 m ρ c (Proc.devRef .tc main_v41)
    = shapeCast (S3 8 25 1600) (transpose (S4 8 5 5 1600) [0, 2, 1, 3] (shapeCast (S4 8 5 5 1600) (W20 m ρ c (Proc.devRef .tc main_v30) : FVec Ideal (S3 200 25 64) .f32)
        featFacts.cs) featFacts.ts) featFacts.cc := by
  unfold_abbrev_sides; after_reads_simp; rfl
theorem at_v42 (c : Dev nD) : W21 m ρ c (Proc.devRef .tc main_v42)
    = shapeCast (S3 8 15 1600) (W20 m ρ c (Proc.devRef .tc main_v38) : FVec Ideal (S3 120 25 64) .f32) featFacts.cq := by
  unfold_abbrev_sides; after_reads_simp; rfl

/-! ## What is kept from one call to the next -/

theorem kept6 (c : Dev nD) : ∀ r ∈ held, W6 m ρ c (Proc.devRef .tc r) = W3 m ρ c (Proc.devRef .tc r) := fun r hr =>
  (W6_of m ρ c r (ListAll.forall_mem_of_all_decide (p := fun r => r ∉ hostOps0_5_W) (by decide +kernel) r hr)).trans <|
  (W5_of m ρ c r (ListAll.forall_mem_of_all_decide (p := fun r => r ∉ hostOps0_4_W) (by decide +kernel) r hr)).trans <|
  W4_of m ρ c r (ListAll.forall_mem_of_all_decide (p := fun r => r ∉ hostOps0_3_W) (by decide +kernel) r hr)
theorem kept7 (c : Dev nD) : ∀ r ∈ held, W7 m ρ c (Proc.devRef .tc r) = W3 m ρ c (Proc.devRef .tc r) := fun r hr =>
  (W7_of m ρ c r (ListAll.forall_mem_of_all_decide (p := fun r => ∀ w : Fin cfg0.W, Pipeline.arrRef spec0 w = r → (cfg0.win w).isOut = false)
    (by decide +kernel) r hr)).trans (kept6 m ρ c r hr)
theorem kept8 (c : Dev nD) : ∀ r ∈ held, W8 m ρ c (Proc.devRef .tc r) = W3 m ρ c (Proc.devRef .tc r) := fun r hr =>
  (W8_of m ρ c r (ListAll.forall_mem_of_all_decide (p := fun r => ∀ w : Fin cfg1.W, Pipeline.arrRef spec1 w = r → (cfg1.win w).isOut = false)
    (by decide +kernel) r hr)).trans (kept7 m ρ c r hr)
theorem kept9 (c : Dev nD) : ∀ r ∈ held, W9 m ρ c (Proc.devRef .tc r) = W3 m ρ c (Proc.devRef .tc r) := fun r hr =>
  (W9_of m ρ c r (ListAll.forall_mem_of_all_decide (p := fun r => ∀ w : Fin cfg2.W, Pipeline.arrRef spec2 w = r → (cfg2.win w).isOut = false)
    (by decide +kernel) r hr)).trans (kept8 m ρ c r hr)
theorem kept10 (c : Dev nD) : ∀ r ∈ held, W10 m ρ c (Proc.devRef .tc r) = W3 m ρ c (Proc.devRef .tc r) := fun r hr =>
  (W10_of m ρ c r (ListAll.forall_mem_of_all_decide (p := fun r => ∀ w : Fin cfg3.W, Pipeline.arrRef spec3 w = r → (cfg3.win w).isOut = false)
    (by decide +kernel) r hr)).trans (kept9 m ρ c r hr)
theorem kept11 (c : Dev nD) : ∀ r ∈ held, W11 m ρ c (Proc.devRef .tc r) = W3 m ρ c (Proc.devRef .tc r) := fun r hr =>
  (W11_of m ρ c r (ListAll.forall_mem_of_all_decide (p := fun r => ∀ w : Fin cfg4.W, Pipeline.arrRef spec4 w = r → (cfg4.win w).isOut = false)
    (by decide +kernel) r hr)).trans (kept10 m ρ c r hr)

/-- The same with the support features. -/
abbrev later : List (Ref sig .tc) := main_v30 :: held

theorem kept15 (c : Dev nD) : ∀ r ∈ later, W15 m ρ c (Proc.devRef .tc r) = W11 m ρ c (Proc.devRef .tc r) := fun r hr =>
  (W15_of m ρ c r (ListAll.forall_mem_of_all_decide (p := fun r => r ∉ hostOps5_3_W) (by decide +kernel) r hr)).trans <|
  (W14_of m ρ c r (ListAll.forall_mem_of_all_decide (p := fun r => r ∉ hostOps5_2_W) (by decide +kernel) r hr)).trans <|
  (W13_of m ρ c r (ListAll.forall_mem_of_all_decide (p := fun r => r ∉ hostOps5_1_W) (by decide +kernel) r hr)).trans <|
  W12_of m ρ c r (ListAll.forall_mem_of_all_decide (p := fun r => r ∉ hostOps5_W) (by decide +kernel) r hr)
theorem kept16 (c : Dev nD) : ∀ r ∈ later, W16 m ρ c (Proc.devRef .tc r) = W11 m ρ c (Proc.devRef .tc r) := fun r hr =>
  (W16_of m ρ c r (ListAll.forall_mem_of_all_decide (p := fun r => ∀ w : Fin cfg5.W, Pipeline.arrRef spec5 w = r → (cfg5.win w).isOut = false)
    (by decide +kernel) r hr)).trans (kept15 m ρ c r hr)
theorem kept17 (c : Dev nD) : ∀ r ∈ later, W17 m ρ c (Proc.devRef .tc r) = W11 m ρ c (Proc.devRef .tc r) := fun r hr =>
  (W17_of m ρ c r (ListAll.forall_mem_of_all_decide (p := fun r => ∀ w : Fin cfg6.W, Pipeline.arrRef spec6 w = r → (cfg6.win w).isOut = false)
    (by decide +kernel) r hr)).trans (kept16 m ρ c r hr)
theorem kept18 (c : Dev nD) : ∀ r ∈ later, W18 m ρ c (Proc.devRef .tc r) = W11 m ρ c (Proc.devRef .tc r) := fun r hr =>
  (W18_of m ρ c r (ListAll.forall_mem_of_all_decide (p := fun r => ∀ w : Fin cfg7.W, Pipeline.arrRef spec7 w = r → (cfg7.win w).isOut = false)
    (by decide +kernel) r hr)).trans (kept17 m ρ c r hr)
theorem kept19 (c : Dev nD) : ∀ r ∈ later, W19 m ρ c (Proc.devRef .tc r) = W11 m ρ c (Proc.devRef .tc r) := fun r hr =>
  (W19_of m ρ c r (ListAll.forall_mem_of_all_decide (p := fun r => ∀ w : Fin cfg8.W, Pipeline.arrRef spec8 w = r → (cfg8.win w).isOut = false)
    (by decide +kernel) r hr)).trans (kept18 m ρ c r hr)
theorem kept20 (c : Dev nD) : ∀ r ∈ later, W20 m ρ c (Proc.devRef .tc r) = W11 m ρ c (Proc.devRef .tc r) := fun r hr =>
  (W20_of m ρ c r (ListAll.forall_mem_of_all_decide (p := fun r => ∀ w : Fin cfg9.W, Pipeline.arrRef spec9 w = r → (cfg9.win w).isOut = false)
    (by decide +kernel) r hr)).trans (kept19 m ρ c r hr)

end Cert.KernelIdeal.Gen

end
-- ==== Proof.Net.lean ====
module
public import proofs.«01_k».proof.Proof.Spec
public import proofs.«01_k».proof.Proof.RefOps
@[expose] public section
set_option maxRecDepth 16384

/-!
# The network

Four layers over the real parameters of the problem, and how arrays of extended reals that are all real give such parameters.
-/

noncomputable section

namespace Cert.Spec

/-- The parameters of the four layers: filters, biases, scales and shifts. -/
structure Net where
  w1 : Img
  b1 : ℕ → ℝ
  g1 : ℕ → ℝ
  be1 : ℕ → ℝ
  w2 : Img
  b2 : ℕ → ℝ
  g2 : ℕ → ℝ
  be2 : ℕ → ℝ
  w3 : Img
  b3 : ℕ → ℝ
  g3 : ℕ → ℝ
  be3 : ℕ → ℝ
  w4 : Img
  b4 : ℕ → ℝ
  g4 : ℕ → ℝ
  be4 : ℕ → ℝ

variable (P : Net) (N : ℕ) (X : Img)

/-- The first layer's rectified convolution. -/
def conv1 : Img := convRelu 3 84 X P.w1 P.b1
/-- The second layer's rectified convolution. -/
def conv2 : Img := convRelu 64 42 (pool (bn Reals.eps N 84 (conv1 P X) P.g1 P.be1)) P.w2 P.b2
/-- The third layer's rectified convolution. -/
def conv3 : Img := convRelu 64 21 (pool (bn Reals.eps N 42 (conv2 P N X) P.g2 P.be2)) P.w3 P.b3
/-- The fourth layer's rectified convolution. -/
def conv4 : Img := convRelu 64 10 (pool (bn Reals.eps N 21 (conv3 P N X) P.g3 P.be3)) P.w4 P.b4
/-- The features of the images. -/
def feats : Img := pool (bn Reals.eps N 10 (conv4 P N X) P.g4 P.be4)

/-- The support features: of a task, of the position `i` and the class `m`, positions before channels. -/
def support (X : Img) : Fin 8 → Fin 5 → Fin 5 → Fin 1600 → ℝ := fun t i m k =>
  feats P 200 X (25 * t + 5 * m + i) (k % 64) (k / 64 / 5) (k / 64 % 5)

/-- The query features. -/
def query (X : Img) : Fin 8 → Fin 15 → Fin 1600 → ℝ := fun t r k => feats P 120 X (15 * t + r) (k % 64) (k / 64 / 5) (k / 64 % 5)

end Cert.Spec

namespace Cert.RefOps

open Idealize.ShloMosaic

/-- The parameters the arrays hold. -/
structure Reads (x3 : FVec Ideal (S4 64 3 3 3) .f32) (x4 x5 x6 : FVec Ideal (S1 64) .f32) (x7 : FVec Ideal (S4 64 64 3 3) .f32)
    (x8 x9 x10 : FVec Ideal (S1 64) .f32) (x11 : FVec Ideal (S4 64 64 3 3) .f32) (x12 x13 x14 : FVec Ideal (S1 64) .f32)
    (x15 : FVec Ideal (S4 64 64 3 3) .f32) (x16 x17 x18 : FVec Ideal (S1 64) .f32) (P : Spec.Net) : Prop where
  w1 : ∀ o c i j, x3 (ix4 o c i j) = ((P.w1 o c i j : ℝ) : EReal)
  b1 : ∀ o, x4 (ix1 o) = ((P.b1 o : ℝ) : EReal)
  g1 : ∀ o, x5 (ix1 o) = ((P.g1 o : ℝ) : EReal)
  be1 : ∀ o, x6 (ix1 o) = ((P.be1 o : ℝ) : EReal)
  w2 : ∀ o c i j, x7 (ix4 o c i j) = ((P.w2 o c i j : ℝ) : EReal)
  b2 : ∀ o, x8 (ix1 o) = ((P.b2 o : ℝ) : EReal)
  g2 : ∀ o, x9 (ix1 o) = ((P.g2 o : ℝ) : EReal)
  be2 : ∀ o, x10 (ix1 o) = ((P.be2 o : ℝ) : EReal)
  w3 : ∀ o c i j, x11 (ix4 o c i j) = ((P.w3 o c i j : ℝ) : EReal)
  b3 : ∀ o, x12 (ix1 o) = ((P.b3 o : ℝ) : EReal)
  g3 : ∀ o, x13 (ix1 o) = ((P.g3 o : ℝ) : EReal)
  be3 : ∀ o, x14 (ix1 o) = ((P.be3 o : ℝ) : EReal)
  w4 : ∀ o c i j, x15 (ix4 o c i j) = ((P.w4 o c i j : ℝ) : EReal)
  b4 : ∀ o, x16 (ix1 o) = ((P.b4 o : ℝ) : EReal)
  g4 : ∀ o, x17 (ix1 o) = ((P.g4 o : ℝ) : EReal)
  be4 : ∀ o, x18 (ix1 o) = ((P.be4 o : ℝ) : EReal)

/-- Every entry is a real number. -/
def Finite {s : Shape} (x : FVec Ideal s .f32) : Prop := ∀ i, x i ≠ (⊤ : EReal) ∧ x i ≠ (⊥ : EReal)

/-- The real numbers of a stack of images. -/
def imgOf {a b c d : ℕ} (x : FVec Ideal (S4 a b c d) .f32) : Spec.Img := fun n o i j =>
  if h : n < a ∧ o < b ∧ i < c ∧ j < d then EReal.toReal (x (ix4 ⟨n, h.1⟩ ⟨o, h.2.1⟩ ⟨i, h.2.2.1⟩ ⟨j, h.2.2.2⟩)) else 0

theorem imgOf_coe {a b c d : ℕ} (x : FVec Ideal (S4 a b c d) .f32) (hx : Finite x) (n : Fin a) (o : Fin b) (i : Fin c) (j : Fin d) :
    x (ix4 n o i j) = ((imgOf x n o i j : ℝ) : EReal) := by
  unfold imgOf
  rw [dif_pos ⟨n.isLt, o.isLt, i.isLt, j.isLt⟩]
  exact (EReal.coe_toReal (hx _).1 (hx _).2).symm

/-- The real numbers of a row. -/
def rowOf {a : ℕ} (x : FVec Ideal (S1 a) .f32) : ℕ → ℝ := fun o => if h : o < a then EReal.toReal (x (ix1 ⟨o, h⟩)) else 0

theorem rowOf_coe {a : ℕ} (x : FVec Ideal (S1 a) .f32) (hx : Finite x) (o : Fin a) : x (ix1 o) = ((rowOf x o : ℝ) : EReal) := by
  unfold rowOf
  rw [dif_pos o.isLt]
  exact (EReal.coe_toReal (hx _).1 (hx _).2).symm

end Cert.RefOps

end
-- ==== Proof.Region0.lean ====
module
public import proofs.«01_k».proof.Proof.Gen.KernelIdeal.Frame
public import proofs.«01_k».proof.Proof.KerFirst
@[expose] public section
set_option maxRecDepth 16384

/-!
# One call of the first layer

What the arrays hold after the call, of what they held before it.
-/

noncomputable section

namespace Cert.KernelIdeal.Gen

open Idealize.ShloMosaic Cert.KernelIdeal

variable (V : Dev nD → (b : Ref sig .tc) → b.ty.Contents (Elt Ideal))

/-- The activations a point of the call leaves. -/
theorem out0 (c : Dev nD) (t : Fin cfg0.N) : (outsAt0 V c t).1 = KerOps.firstAct (KerOps.firstStep (View.whole cc0_scratch0) (View.whole cc0_scratch1)
    (iblk0 V c 0 t) (iblk0 V c 1 t) (iblk0 V c 2 t)) := by
  dsimp only [outsAt0]
  frame_out
  rfl

/-- The sums a point of the call leaves. -/
theorem st0 (c : Dev nD) (t : Fin cfg0.N) : (outsAt0 V c t).2 = KerOps.firstStat (KerOps.firstStep (View.whole cc0_scratch0) (View.whole cc0_scratch1)
    (iblk0 V c 0 t) (iblk0 V c 1 t) (iblk0 V c 2 t)) := by
  dsimp only [outsAt0]
  frame_out
  rfl

/-- The windows' index maps of the call. -/
theorem idx0 : ∀ t : Fin cfg0.N, win0_0.index t = ![t.val, 0, 0] ∧ win0_1.index t = ![0, 0] ∧ win0_2.index t = ![0, 0]
    ∧ win0_3.index t = ![t.val, 0, 0, 0] ∧ win0_4.index t = ![t.val, 0, 0] := (by decide +kernel : ∀ t : Fin grid0.N, _)

/-- The arrays the call leaves, from what each of its points leaves. -/
theorem arrays0 (c : Dev nD) {y : Spec.Img}
    (h3 : ∀ (t : Fin cfg0.N) (i j : Fin 84) (o : Fin 64), (outsAt0 V c t).1 (ix4 0 i j o) = ((y t.val o i j : ℝ) : EReal))
    (h4 : ∀ (t : Fin cfg0.N) (s : Fin 2) (o : Fin 64), (outsAt0 V c t).2 (ix3 0 s o) = ((KerOps.statAt 84 y t.val s o : ℝ) : EReal)) :
    KerOps.IsAct 200 84 64 ((dat0 V c).arrAt 3 cfg0.N) y ∧ KerOps.IsStat 200 84 ((dat0 V c).arrAt 4 cfg0.N) y := by
  constructor
  · intro n i j o
    refine (dat0 V c).arrAt_forall_of_covers 3 (fun x v => v = ((y (x 0).val (x 3).val (x 1).val (x 2).val : ℝ) : EReal))
      (by decide +kernel) (fun t hf z => ?_) (ix4 n i j o)
    have e := KerOps.place4 (win0_3.rect t).emb (N_0 ▸ t.isLt : t.val < 200)
      (fun z a => (win0_3.rect_emb_val t z a rfl).trans (by rw [(idx0 t).2.2.2.1])) z
    show (dat0 V c).after 3 t z = (fun x : (RefOps.S4 200 84 84 64).Idx => ((y (x 0).val (x 3).val (x 1).val (x 2).val : ℝ) : EReal)) ((win0_3.rect t).emb z)
    rw [e, after0_3, KerOps.unit4 z]
    exact h3 t _ _ _
  · refine KerOps.isStat_of fun z => (dat0 V c).arrAt_forall_of_covers 4
      (fun x v => v = ((KerOps.statAt 84 y (x 0).val (x 1).val (x 2).val : ℝ) : EReal)) (by decide +kernel) (fun t hf z => ?_) z
    have e := KerOps.place3 (win0_4.rect t).emb (N_0 ▸ t.isLt : t.val < 200)
      (fun z a => (win0_4.rect_emb_val t z a rfl).trans (by rw [(idx0 t).2.2.2.2])) z
    show (dat0 V c).after 4 t z = (fun x : (KerOps.S3 200 2 64).Idx => ((KerOps.statAt 84 y (x 0).val (x 1).val (x 2).val : ℝ) : EReal)) ((win0_4.rect t).emb z)
    rw [e, after0_4, KerOps.unit3 z]
    exact h4 t _ _

/-- The call: the first layer's convolution of every image. -/
theorem region0 (c : Dev nD) {X W : Spec.Img} {B : ℕ → ℝ}
    (hx : ∀ n : Fin 200, KerOps.IsFlat (fun x => V c main_v25 (ix3 n (x 1) (x 2))) X n)
    (hw : KerOps.IsFirstFilter (V c main_v2) W) (hb : KerOps.IsRow (V c main_v9) B) :
    KerOps.IsAct 200 84 64 ((dat0 V c).arrAt 3 cfg0.N) (Spec.convRelu 8 84 X W B)
      ∧ KerOps.IsStat 200 84 ((dat0 V c).arrAt 4 cfg0.N) (Spec.convRelu 8 84 X W B) := by
  have r0 : ∀ t : Fin cfg0.N, KerOps.IsFlat (iblk0 V c 0 t) X t.val := fun t ch a b l e =>
    (congrArg (V c main_v25) (KerOps.place3 (win0_0.rect t).emb (N_0 ▸ t.isLt : t.val < 200)
      (fun z a => (win0_0.rect_emb_val t z a rfl).trans (by rw [(idx0 t).1])) (ix3 0 ch l))).trans (hx _ ch a b l e)
  have r1 : ∀ t : Fin cfg0.N, iblk0 V c 1 t = V c main_v2 := fun t => funext fun z => congrArg (V c main_v2)
    (KerOps.whole2 (win0_1.rect t).emb (fun z a => (win0_1.rect_emb_val t z a rfl).trans (by rw [(idx0 t).2.1])) z)
  have r2 : ∀ t : Fin cfg0.N, iblk0 V c 2 t = V c main_v9 := fun t => funext fun z => congrArg (V c main_v9)
    (KerOps.whole2 (win0_2.rect t).emb (fun z a => (win0_2.rect_emb_val t z a rfl).trans (by rw [(idx0 t).2.2.1])) z)
  have hs := fun t : Fin cfg0.N => KerOps.firstStep_coe (View.whole cc0_scratch0) (View.whole cc0_scratch1) (r0 t)
    ((r1 t).symm ▸ hw) ((r2 t).symm ▸ hb)
  refine arrays0 V c (fun t i j o => ?_) (fun t s o => ?_)
  · rw [out0]
    exact (KerOps.firstAct_apply _ i j o).trans (hs t i j o)
  · rw [st0]
    exact KerOps.stat_at (KerOps.firstStat_coe _ _ _ (hs t)) s o

end Cert.KernelIdeal.Gen

end
-- ==== Proof.Region1.lean ====
module
public import proofs.«01_k».proof.Proof.Gen.KernelIdeal.Frame
public import proofs.«01_k».proof.Proof.KerShapes
public import Idealize.ShloMosaic.Lib.Pipeline.ValueKit
public import Idealize.ShloMosaic.Lib.Pointwise
@[expose] public section
set_option maxRecDepth 16384

/-!
# One call of a layer

What the arrays hold after the call, of what they held before it.
-/

noncomputable section

namespace Cert.KernelIdeal.Gen

open Idealize.ShloMosaic Cert.KernelIdeal

variable (V : Dev nD → (b : Ref sig .tc) → b.ty.Contents (Elt Ideal))

/-- The activations a point of the call leaves. -/
theorem out1 (c : Dev nD) (t : Fin cfg1.N) : (outsAt1 V c t).1 = KerOps.actOut KerOps.layer42 (KerOps.step (View.whole cc1_scratch0) (View.whole cc1_scratch1) (ms1_0 t) (hs1_0 t) KerOps.stat200 KerOps.pool42 KerOps.layer42 0x49AC4400#32 KerOps.stride84
   (iblk1 V c 0 t) (iblk1 V c 1 t) (iblk1 V c 2 t) (iblk1 V c 3 t) (iblk1 V c 4 t) (iblk1 V c 5 t)) := by
  dsimp only [outsAt1]
  frame_out
  rfl
/-- The sums a point of the call leaves. -/
theorem st1 (c : Dev nD) (t : Fin cfg1.N) : (outsAt1 V c t).2 = KerOps.statOut KerOps.layer42 (KerOps.step (View.whole cc1_scratch0) (View.whole cc1_scratch1) (ms1_0 t) (hs1_0 t) KerOps.stat200 KerOps.pool42 KerOps.layer42 0x49AC4400#32 KerOps.stride84
   (iblk1 V c 0 t) (iblk1 V c 1 t) (iblk1 V c 2 t) (iblk1 V c 3 t) (iblk1 V c 4 t) (iblk1 V c 5 t)) := by
  dsimp only [outsAt1]
  frame_out
  rfl
/-- The windows' index maps of the call. -/
theorem idx1 : ∀ t : Fin cfg1.N, win1_0.index t = ![t.val, 0, 0, 0] ∧ win1_1.index t = ![0, 0, 0] ∧ win1_2.index t = ![0, 0]
    ∧ win1_3.index t = ![0, 0] ∧ win1_4.index t = ![0, 0] ∧ win1_5.index t = ![0, 0] ∧ win1_6.index t = ![t.val, 0, 0, 0]
    ∧ win1_7.index t = ![t.val, 0, 0] := (by decide +kernel : ∀ t : Fin grid1.N, _)

/-- The arrays the call leaves, from what each of its points leaves. -/
theorem arrays1 (c : Dev nD) {y : Spec.Img}
    (h6 : ∀ (t : Fin cfg1.N) (i j : Fin 42) (o : Fin 64), (outsAt1 V c t).1 (ix4 0 i j o) = ((y t.val o i j : ℝ) : EReal))
    (h7 : ∀ (t : Fin cfg1.N) (s : Fin 2) (o : Fin 64), (outsAt1 V c t).2 (ix3 0 s o) = ((KerOps.statAt 42 y t.val s o : ℝ) : EReal)) :
    KerOps.IsAct 200 42 64 ((dat1 V c).arrAt 6 cfg1.N) y ∧ KerOps.IsStat 200 42 ((dat1 V c).arrAt 7 cfg1.N) y := by
  constructor
  · intro n i j o
    refine (dat1 V c).arrAt_forall_of_covers 6 (fun x v => v = ((y (x 0).val (x 3).val (x 1).val (x 2).val : ℝ) : EReal))
      (by decide +kernel) (fun t hf z => ?_) (ix4 n i j o)
    have e := KerOps.place4 (win1_6.rect t).emb (N_1 ▸ t.isLt : t.val < 200)
      (fun z a => (win1_6.rect_emb_val t z a rfl).trans (by rw [(idx1 t).2.2.2.2.2.2.1])) z
    show (dat1 V c).after 6 t z = (fun x : (RefOps.S4 200 42 42 64).Idx => ((y (x 0).val (x 3).val (x 1).val (x 2).val : ℝ) : EReal)) ((win1_6.rect t).emb z)
    rw [e, after1_6, KerOps.unit4 z]
    exact h6 t _ _ _
  · refine KerOps.isStat_of fun z => (dat1 V c).arrAt_forall_of_covers 7
      (fun x v => v = ((KerOps.statAt 42 y (x 0).val (x 1).val (x 2).val : ℝ) : EReal)) (by decide +kernel) (fun t hf z => ?_) z
    have e := KerOps.place3 (win1_7.rect t).emb (N_1 ▸ t.isLt : t.val < 200)
      (fun z a => (win1_7.rect_emb_val t z a rfl).trans (by rw [(idx1 t).2.2.2.2.2.2.2])) z
    show (dat1 V c).after 7 t z = (fun x : (KerOps.S3 200 2 64).Idx => ((KerOps.statAt 42 y (x 0).val (x 1).val (x 2).val : ℝ) : EReal)) ((win1_7.rect t).emb z)
    rw [e, after1_7, KerOps.unit3 z]
    exact h7 t _ _

/-- The call: the previous layer's normalisation and pooling, then this layer's convolution, for every image. -/
theorem region1 (c : Dev nD) {y W : Spec.Img} {B G Be : ℕ → ℝ} (ha : KerOps.IsAct 200 84 64 (V c main_v26_0) y)
    (hst : KerOps.IsStat 200 84 (V c main_v26_1) y) (hw : KerOps.IsFilter (V c main_v4) W) (hb : KerOps.IsRow (V c main_v10) B)
    (hg : KerOps.IsRow (V c main_v13) G) (hbe : KerOps.IsRow (V c main_v17) Be) :
    KerOps.IsAct 200 42 64 ((dat1 V c).arrAt 6 cfg1.N) (Spec.convRelu 64 42 (Spec.pool (Spec.bn Reals.eps 200 84 y G Be)) W B)
      ∧ KerOps.IsStat 200 42 ((dat1 V c).arrAt 7 cfg1.N) (Spec.convRelu 64 42 (Spec.pool (Spec.bn Reals.eps 200 84 y G Be)) W B) := by
  have r0 : ∀ (t : Fin cfg1.N) (i j : Fin 84) (o : Fin 64), iblk1 V c 0 t (ix4 0 i j o) = ((y t.val o i j : ℝ) : EReal) := fun t i j o =>
    (congrArg (V c main_v26_0) (KerOps.place4 (win1_0.rect t).emb (N_1 ▸ t.isLt : t.val < 200)
      (fun z a => (win1_0.rect_emb_val t z a rfl).trans (by rw [(idx1 t).1]) ) (ix4 0 i j o))).trans (ha _ i j o)
  have r1 : ∀ t : Fin cfg1.N, iblk1 V c 1 t = V c main_v26_1 := fun t => funext fun z => congrArg (V c main_v26_1)
    (KerOps.whole3 (win1_1.rect t).emb (fun z a => (win1_1.rect_emb_val t z a rfl).trans (by rw [(idx1 t).2.1])) z)
  have r2 : ∀ t : Fin cfg1.N, iblk1 V c 2 t = V c main_v4 := fun t => funext fun z => congrArg (V c main_v4)
    (KerOps.whole2 (win1_2.rect t).emb (fun z a => (win1_2.rect_emb_val t z a rfl).trans (by rw [(idx1 t).2.2.1])) z)
  have r3 : ∀ t : Fin cfg1.N, iblk1 V c 3 t = V c main_v10 := fun t => funext fun z => congrArg (V c main_v10)
    (KerOps.whole2 (win1_3.rect t).emb (fun z a => (win1_3.rect_emb_val t z a rfl).trans (by rw [(idx1 t).2.2.2.1])) z)
  have r4 : ∀ t : Fin cfg1.N, iblk1 V c 4 t = V c main_v13 := fun t => funext fun z => congrArg (V c main_v13)
    (KerOps.whole2 (win1_4.rect t).emb (fun z a => (win1_4.rect_emb_val t z a rfl).trans (by rw [(idx1 t).2.2.2.2.1])) z)
  have r5 : ∀ t : Fin cfg1.N, iblk1 V c 5 t = V c main_v17 := fun t => funext fun z => congrArg (V c main_v17)
    (KerOps.whole2 (win1_5.rect t).emb (fun z a => (win1_5.rect_emb_val t z a rfl).trans (by rw [(idx1 t).2.2.2.2.2.1])) z)
  have hs := fun t : Fin cfg1.N => KerOps.step_coe (View.whole cc1_scratch0) (View.whole cc1_scratch1) (ms1_0 t) (hs1_0 t) KerOps.stat200 KerOps.pool42 KerOps.layer42
    (by omega) (by omega) (by omega) Reals.ofBits_1411200 KerOps.stride84 (r0 t) ((r1 t).symm ▸ hst) ((r2 t).symm ▸ hw) ((r3 t).symm ▸ hb)
    ((r4 t).symm ▸ hg) ((r5 t).symm ▸ hbe)
  refine arrays1 V c (fun t i j o => ?_) (fun t s o => ?_)
  · rw [out1]
    exact KerOps.actOut_coe KerOps.layer42 _ _ _ (hs t) i j o
  · rw [st1]
    exact KerOps.stat_at (KerOps.statOut_coe KerOps.layer42 _ _ _ (hs t)) s o
end Cert.KernelIdeal.Gen
end
-- ==== Proof.Region2.lean ====
module
public import proofs.«01_k».proof.Proof.Gen.KernelIdeal.Frame
public import proofs.«01_k».proof.Proof.KerShapes
public import Idealize.ShloMosaic.Lib.Pipeline.ValueKit
public import Idealize.ShloMosaic.Lib.Pointwise
@[expose] public section
set_option maxRecDepth 16384

/-!
# One call of a layer

What the arrays hold after the call, of what they held before it.
-/

noncomputable section

namespace Cert.KernelIdeal.Gen

open Idealize.ShloMosaic Cert.KernelIdeal

variable (V : Dev nD → (b : Ref sig .tc) → b.ty.Contents (Elt Ideal))

/-- The activations a point of the call leaves. -/
theorem out2 (c : Dev nD) (t : Fin cfg2.N) : (outsAt2 V c t).1 = KerOps.actOut KerOps.layer21 (KerOps.step (View.whole cc2_scratch0) (View.whole cc2_scratch1) (ms2_0 t) (hs2_0 t) KerOps.stat200 KerOps.pool21 KerOps.layer21 0x48AC4400#32 KerOps.stride42
   (iblk2 V c 0 t) (iblk2 V c 1 t) (iblk2 V c 2 t) (iblk2 V c 3 t) (iblk2 V c 4 t) (iblk2 V c 5 t)) := by
  dsimp only [outsAt2]
  frame_out
  rfl
/-- The sums a point of the call leaves. -/
theorem st2 (c : Dev nD) (t : Fin cfg2.N) : (outsAt2 V c t).2 = KerOps.statOut KerOps.layer21 (KerOps.step (View.whole cc2_scratch0) (View.whole cc2_scratch1) (ms2_0 t) (hs2_0 t) KerOps.stat200 KerOps.pool21 KerOps.layer21 0x48AC4400#32 KerOps.stride42
   (iblk2 V c 0 t) (iblk2 V c 1 t) (iblk2 V c 2 t) (iblk2 V c 3 t) (iblk2 V c 4 t) (iblk2 V c 5 t)) := by
  dsimp only [outsAt2]
  frame_out
  rfl
/-- The windows' index maps of the call. -/
theorem idx2 : ∀ t : Fin cfg2.N, win2_0.index t = ![t.val, 0, 0, 0] ∧ win2_1.index t = ![0, 0, 0] ∧ win2_2.index t = ![0, 0]
    ∧ win2_3.index t = ![0, 0] ∧ win2_4.index t = ![0, 0] ∧ win2_5.index t = ![0, 0] ∧ win2_6.index t = ![t.val, 0, 0, 0]
    ∧ win2_7.index t = ![t.val, 0, 0] := (by decide +kernel : ∀ t : Fin grid2.N, _)

/-- The arrays the call leaves, from what each of its points leaves. -/
theorem arrays2 (c : Dev nD) {y : Spec.Img}
    (h6 : ∀ (t : Fin cfg2.N) (i j : Fin 21) (o : Fin 64), (outsAt2 V c t).1 (ix4 0 i j o) = ((y t.val o i j : ℝ) : EReal))
    (h7 : ∀ (t : Fin cfg2.N) (s : Fin 2) (o : Fin 64), (outsAt2 V c t).2 (ix3 0 s o) = ((KerOps.statAt 21 y t.val s o : ℝ) : EReal)) :
    KerOps.IsAct 200 21 64 ((dat2 V c).arrAt 6 cfg2.N) y ∧ KerOps.IsStat 200 21 ((dat2 V c).arrAt 7 cfg2.N) y := by
  constructor
  · intro n i j o
    refine (dat2 V c).arrAt_forall_of_covers 6 (fun x v => v = ((y (x 0).val (x 3).val (x 1).val (x 2).val : ℝ) : EReal))
      (by decide +kernel) (fun t hf z => ?_) (ix4 n i j o)
    have e := KerOps.place4 (win2_6.rect t).emb (N_2 ▸ t.isLt : t.val < 200)
      (fun z a => (win2_6.rect_emb_val t z a rfl).trans (by rw [(idx2 t).2.2.2.2.2.2.1])) z
    show (dat2 V c).after 6 t z = (fun x : (RefOps.S4 200 21 21 64).Idx => ((y (x 0).val (x 3).val (x 1).val (x 2).val : ℝ) : EReal)) ((win2_6.rect t).emb z)
    rw [e, after2_6, KerOps.unit4 z]
    exact h6 t _ _ _
  · refine KerOps.isStat_of fun z => (dat2 V c).arrAt_forall_of_covers 7
      (fun x v => v = ((KerOps.statAt 21 y (x 0).val (x 1).val (x 2).val : ℝ) : EReal)) (by decide +kernel) (fun t hf z => ?_) z
    have e := KerOps.place3 (win2_7.rect t).emb (N_2 ▸ t.isLt : t.val < 200)
      (fun z a => (win2_7.rect_emb_val t z a rfl).trans (by rw [(idx2 t).2.2.2.2.2.2.2])) z
    show (dat2 V c).after 7 t z = (fun x : (KerOps.S3 200 2 64).Idx => ((KerOps.statAt 21 y (x 0).val (x 1).val (x 2).val : ℝ) : EReal)) ((win2_7.rect t).emb z)
    rw [e, after2_7, KerOps.unit3 z]
    exact h7 t _ _

/-- The call: the previous layer's normalisation and pooling, then this layer's convolution, for every image. -/
theorem region2 (c : Dev nD) {y W : Spec.Img} {B G Be : ℕ → ℝ} (ha : KerOps.IsAct 200 42 64 (V c main_v27_0) y)
    (hst : KerOps.IsStat 200 42 (V c main_v27_1) y) (hw : KerOps.IsFilter (V c main_v6) W) (hb : KerOps.IsRow (V c main_v11) B)
    (hg : KerOps.IsRow (V c main_v14) G) (hbe : KerOps.IsRow (V c main_v18) Be) :
    KerOps.IsAct 200 21 64 ((dat2 V c).arrAt 6 cfg2.N) (Spec.convRelu 64 21 (Spec.pool (Spec.bn Reals.eps 200 42 y G Be)) W B)
      ∧ KerOps.IsStat 200 21 ((dat2 V c).arrAt 7 cfg2.N) (Spec.convRelu 64 21 (Spec.pool (Spec.bn Reals.eps 200 42 y G Be)) W B) := by
  have r0 : ∀ (t : Fin cfg2.N) (i j : Fin 42) (o : Fin 64), iblk2 V c 0 t (ix4 0 i j o) = ((y t.val o i j : ℝ) : EReal) := fun t i j o =>
    (congrArg (V c main_v27_0) (KerOps.place4 (win2_0.rect t).emb (N_2 ▸ t.isLt : t.val < 200)
      (fun z a => (win2_0.rect_emb_val t z a rfl).trans (by rw [(idx2 t).1]) ) (ix4 0 i j o))).trans (ha _ i j o)
  have r1 : ∀ t : Fin cfg2.N, iblk2 V c 1 t = V c main_v27_1 := fun t => funext fun z => congrArg (V c main_v27_1)
    (KerOps.whole3 (win2_1.rect t).emb (fun z a => (win2_1.rect_emb_val t z a rfl).trans (by rw [(idx2 t).2.1])) z)
  have r2 : ∀ t : Fin cfg2.N, iblk2 V c 2 t = V c main_v6 := fun t => funext fun z => congrArg (V c main_v6)
    (KerOps.whole2 (win2_2.rect t).emb (fun z a => (win2_2.rect_emb_val t z a rfl).trans (by rw [(idx2 t).2.2.1])) z)
  have r3 : ∀ t : Fin cfg2.N, iblk2 V c 3 t = V c main_v11 := fun t => funext fun z => congrArg (V c main_v11)
    (KerOps.whole2 (win2_3.rect t).emb (fun z a => (win2_3.rect_emb_val t z a rfl).trans (by rw [(idx2 t).2.2.2.1])) z)
  have r4 : ∀ t : Fin cfg2.N, iblk2 V c 4 t = V c main_v14 := fun t => funext fun z => congrArg (V c main_v14)
    (KerOps.whole2 (win2_4.rect t).emb (fun z a => (win2_4.rect_emb_val t z a rfl).trans (by rw [(idx2 t).2.2.2.2.1])) z)
  have r5 : ∀ t : Fin cfg2.N, iblk2 V c 5 t = V c main_v18 := fun t => funext fun z => congrArg (V c main_v18)
    (KerOps.whole2 (win2_5.rect t).emb (fun z a => (win2_5.rect_emb_val t z a rfl).trans (by rw [(idx2 t).2.2.2.2.2.1])) z)
  have hs := fun t : Fin cfg2.N => KerOps.step_coe (View.whole cc2_scratch0) (View.whole cc2_scratch1) (ms2_0 t) (hs2_0 t) KerOps.stat200 KerOps.pool21 KerOps.layer21
    (by omega) (by omega) (by omega) Reals.ofBits_352800 KerOps.stride42 (r0 t) ((r1 t).symm ▸ hst) ((r2 t).symm ▸ hw) ((r3 t).symm ▸ hb)
    ((r4 t).symm ▸ hg) ((r5 t).symm ▸ hbe)
  refine arrays2 V c (fun t i j o => ?_) (fun t s o => ?_)
  · rw [out2]
    exact KerOps.actOut_coe KerOps.layer21 _ _ _ (hs t) i j o
  · rw [st2]
    exact KerOps.stat_at (KerOps.statOut_coe KerOps.layer21 _ _ _ (hs t)) s o
end Cert.KernelIdeal.Gen
end
-- ==== Proof.Region3.lean ====
module
public import proofs.«01_k».proof.Proof.Gen.KernelIdeal.Frame
public import proofs.«01_k».proof.Proof.KerShapes
public import Idealize.ShloMosaic.Lib.Pipeline.ValueKit
public import Idealize.ShloMosaic.Lib.Pointwise
@[expose] public section
set_option maxRecDepth 16384

/-!
# One call of a layer

What the arrays hold after the call, of what they held before it.
-/

noncomputable section

namespace Cert.KernelIdeal.Gen

open Idealize.ShloMosaic Cert.KernelIdeal

variable (V : Dev nD → (b : Ref sig .tc) → b.ty.Contents (Elt Ideal))

/-- The activations a point of the call leaves. -/
theorem out3 (c : Dev nD) (t : Fin cfg3.N) : (outsAt3 V c t).1 = KerOps.actOut KerOps.layer10 (KerOps.step (View.whole cc3_scratch0) (View.whole cc3_scratch1) (ms3_0 t) (hs3_0 t) KerOps.stat200 KerOps.pool10 KerOps.layer10 0x47AC4400#32 KerOps.stride21
   (iblk3 V c 0 t) (iblk3 V c 1 t) (iblk3 V c 2 t) (iblk3 V c 3 t) (iblk3 V c 4 t) (iblk3 V c 5 t)) := by
  dsimp only [outsAt3]
  frame_out
  rfl
/-- The sums a point of the call leaves. -/
theorem st3 (c : Dev nD) (t : Fin cfg3.N) : (outsAt3 V c t).2 = KerOps.statOut KerOps.layer10 (KerOps.step (View.whole cc3_scratch0) (View.whole cc3_scratch1) (ms3_0 t) (hs3_0 t) KerOps.stat200 KerOps.pool10 KerOps.layer10 0x47AC4400#32 KerOps.stride21
   (iblk3 V c 0 t) (iblk3 V c 1 t) (iblk3 V c 2 t) (iblk3 V c 3 t) (iblk3 V c 4 t) (iblk3 V c 5 t)) := by
  dsimp only [outsAt3]
  frame_out
  rfl
/-- The windows' index maps of the call. -/
theorem idx3 : ∀ t : Fin cfg3.N, win3_0.index t = ![t.val, 0, 0, 0] ∧ win3_1.index t = ![0, 0, 0] ∧ win3_2.index t = ![0, 0]
    ∧ win3_3.index t = ![0, 0] ∧ win3_4.index t = ![0, 0] ∧ win3_5.index t = ![0, 0] ∧ win3_6.index t = ![t.val, 0, 0, 0]
    ∧ win3_7.index t = ![t.val, 0, 0] := (by decide +kernel : ∀ t : Fin grid3.N, _)

/-- The arrays the call leaves, from what each of its points leaves. -/
theorem arrays3 (c : Dev nD) {y : Spec.Img}
    (h6 : ∀ (t : Fin cfg3.N) (i j : Fin 10) (o : Fin 64), (outsAt3 V c t).1 (ix4 0 i j o) = ((y t.val o i j : ℝ) : EReal))
    (h7 : ∀ (t : Fin cfg3.N) (s : Fin 2) (o : Fin 64), (outsAt3 V c t).2 (ix3 0 s o) = ((KerOps.statAt 10 y t.val s o : ℝ) : EReal)) :
    KerOps.IsAct 200 10 64 ((dat3 V c).arrAt 6 cfg3.N) y ∧ KerOps.IsStat 200 10 ((dat3 V c).arrAt 7 cfg3.N) y := by
  constructor
  · intro n i j o
    refine (dat3 V c).arrAt_forall_of_covers 6 (fun x v => v = ((y (x 0).val (x 3).val (x 1).val (x 2).val : ℝ) : EReal))
      (by decide +kernel) (fun t hf z => ?_) (ix4 n i j o)
    have e := KerOps.place4 (win3_6.rect t).emb (N_3 ▸ t.isLt : t.val < 200)
      (fun z a => (win3_6.rect_emb_val t z a rfl).trans (by rw [(idx3 t).2.2.2.2.2.2.1])) z
    show (dat3 V c).after 6 t z = (fun x : (RefOps.S4 200 10 10 64).Idx => ((y (x 0).val (x 3).val (x 1).val (x 2).val : ℝ) : EReal)) ((win3_6.rect t).emb z)
    rw [e, after3_6, KerOps.unit4 z]
    exact h6 t _ _ _
  · refine KerOps.isStat_of fun z => (dat3 V c).arrAt_forall_of_covers 7
      (fun x v => v = ((KerOps.statAt 10 y (x 0).val (x 1).val (x 2).val : ℝ) : EReal)) (by decide +kernel) (fun t hf z => ?_) z
    have e := KerOps.place3 (win3_7.rect t).emb (N_3 ▸ t.isLt : t.val < 200)
      (fun z a => (win3_7.rect_emb_val t z a rfl).trans (by rw [(idx3 t).2.2.2.2.2.2.2])) z
    show (dat3 V c).after 7 t z = (fun x : (KerOps.S3 200 2 64).Idx => ((KerOps.statAt 10 y (x 0).val (x 1).val (x 2).val : ℝ) : EReal)) ((win3_7.rect t).emb z)
    rw [e, after3_7, KerOps.unit3 z]
    exact h7 t _ _

/-- The call: the previous layer's normalisation and pooling, then this layer's convolution, for every image. -/
theorem region3 (c : Dev nD) {y W : Spec.Img} {B G Be : ℕ → ℝ} (ha : KerOps.IsAct 200 21 64 (V c main_v28_0) y)
    (hst : KerOps.IsStat 200 21 (V c main_v28_1) y) (hw : KerOps.IsFilter (V c main_v8) W) (hb : KerOps.IsRow (V c main_v12) B)
    (hg : KerOps.IsRow (V c main_v15) G) (hbe : KerOps.IsRow (V c main_v19) Be) :
    KerOps.IsAct 200 10 64 ((dat3 V c).arrAt 6 cfg3.N) (Spec.convRelu 64 10 (Spec.pool (Spec.bn Reals.eps 200 21 y G Be)) W B)
      ∧ KerOps.IsStat 200 10 ((dat3 V c).arrAt 7 cfg3.N) (Spec.convRelu 64 10 (Spec.pool (Spec.bn Reals.eps 200 21 y G Be)) W B) := by
  have r0 : ∀ (t : Fin cfg3.N) (i j : Fin 21) (o : Fin 64), iblk3 V c 0 t (ix4 0 i j o) = ((y t.val o i j : ℝ) : EReal) := fun t i j o =>
    (congrArg (V c main_v28_0) (KerOps.place4 (win3_0.rect t).emb (N_3 ▸ t.isLt : t.val < 200)
      (fun z a => (win3_0.rect_emb_val t z a rfl).trans (by rw [(idx3 t).1]) ) (ix4 0 i j o))).trans (ha _ i j o)
  have r1 : ∀ t : Fin cfg3.N, iblk3 V c 1 t = V c main_v28_1 := fun t => funext fun z => congrArg (V c main_v28_1)
    (KerOps.whole3 (win3_1.rect t).emb (fun z a => (win3_1.rect_emb_val t z a rfl).trans (by rw [(idx3 t).2.1])) z)
  have r2 : ∀ t : Fin cfg3.N, iblk3 V c 2 t = V c main_v8 := fun t => funext fun z => congrArg (V c main_v8)
    (KerOps.whole2 (win3_2.rect t).emb (fun z a => (win3_2.rect_emb_val t z a rfl).trans (by rw [(idx3 t).2.2.1])) z)
  have r3 : ∀ t : Fin cfg3.N, iblk3 V c 3 t = V c main_v12 := fun t => funext fun z => congrArg (V c main_v12)
    (KerOps.whole2 (win3_3.rect t).emb (fun z a => (win3_3.rect_emb_val t z a rfl).trans (by rw [(idx3 t).2.2.2.1])) z)
  have r4 : ∀ t : Fin cfg3.N, iblk3 V c 4 t = V c main_v15 := fun t => funext fun z => congrArg (V c main_v15)
    (KerOps.whole2 (win3_4.rect t).emb (fun z a => (win3_4.rect_emb_val t z a rfl).trans (by rw [(idx3 t).2.2.2.2.1])) z)
  have r5 : ∀ t : Fin cfg3.N, iblk3 V c 5 t = V c main_v19 := fun t => funext fun z => congrArg (V c main_v19)
    (KerOps.whole2 (win3_5.rect t).emb (fun z a => (win3_5.rect_emb_val t z a rfl).trans (by rw [(idx3 t).2.2.2.2.2.1])) z)
  have hs := fun t : Fin cfg3.N => KerOps.step_coe (View.whole cc3_scratch0) (View.whole cc3_scratch1) (ms3_0 t) (hs3_0 t) KerOps.stat200 KerOps.pool10 KerOps.layer10
    (by omega) (by omega) (by omega) Reals.ofBits_88200 KerOps.stride21 (r0 t) ((r1 t).symm ▸ hst) ((r2 t).symm ▸ hw) ((r3 t).symm ▸ hb)
    ((r4 t).symm ▸ hg) ((r5 t).symm ▸ hbe)
  refine arrays3 V c (fun t i j o => ?_) (fun t s o => ?_)
  · rw [out3]
    exact KerOps.actOut_coe KerOps.layer10 _ _ _ (hs t) i j o
  · rw [st3]
    exact KerOps.stat_at (KerOps.statOut_coe KerOps.layer10 _ _ _ (hs t)) s o
end Cert.KernelIdeal.Gen
end
-- ==== Proof.KerHead.lean ====
module
public import proofs.«01_k».proof.Proof.KerShapes
@[expose] public section
set_option maxRecDepth 16384

/-!
# The kernel's head

The last layer's normalisation and pooling, its 25 positions along one axis.
-/

noncomputable section

namespace Cert.KerOps

open Idealize.ShloMosaic Cert.RefOps

/-- The casts of the head. -/
structure HeadFacts : Prop where
  c1 : (S3 5 5 64).ShapeCasts (S2 25 64)
  c2 : (S2 25 64).ShapeCasts (S3 1 25 64)

theorem headFacts : HeadFacts := by constructor <;> decide +kernel

/-- The head of one image. -/
def headOut {sig : RefSig} {κ₃ : Kind} {sp₃ : Space} {N : ℕ} (u : Memref sig κ₃ sp₃ (S4 1 10 10 64) .f32) (hu : u.IsWhole)
    (fs : StatFacts N) (k : BitVec 32) (a : FVec Ideal (S4 1 10 10 64) .f32) (st : FVec Ideal (S3 N 2 64) .f32)
    (g be : FVec Ideal (S2 1 64) .f32) : FVec Ideal (S3 1 25 64) .f32 :=
  shapeCast (S3 1 25 64) (shapeCast (S2 25 64) (pooled pool5 (factor fs k st g) (shift fs k st g be)
    (strided 10 5 0 0 (stride10 0 0) u hu a) (strided 10 5 0 1 (stride10 0 1) u hu a)
    (strided 10 5 1 0 (stride10 1 0) u hu a) (strided 10 5 1 1 (stride10 1 1) u hu a)) headFacts.c1) headFacts.c2

/-- The head of real blocks is the specification's normalisation and pooling. -/
theorem headOut_coe {sig : RefSig} {κ₃ : Kind} {sp₃ : Space} {N : ℕ} (u : Memref sig κ₃ sp₃ (S4 1 10 10 64) .f32) (hu : u.IsWhole)
    (fs : StatFacts N) (hN : 0 < N) {k : BitVec 32} (hk : Ideal.ofBits .f32 k = (((N * 10 * 10 : ℕ) : ℝ) : EReal))
    {a : FVec Ideal (S4 1 10 10 64) .f32} {st : FVec Ideal (S3 N 2 64) .f32} {g be : FVec Ideal (S2 1 64) .f32} {y : Spec.Img}
    {G Be : ℕ → ℝ} {n : ℕ} (ha : ∀ (i j : Fin 10) (o : Fin 64), a (ix4 0 i j o) = ((y n o i j : ℝ) : EReal)) (hst : IsStat N 10 st y)
    (hg : IsRow g G) (hbe : IsRow be Be) (p : Fin 25) (o : Fin 64) :
    headOut u hu fs k a st g be (ix3 0 p o) = ((Spec.pool (Spec.bn Reals.eps N 10 y G Be) n o (p.val / 5) (p.val % 5) : ℝ) : EReal) := by
  have hH : 0 < 10 := by omega
  rw [← Spec.kbnPool_eq hN hH]
  have hi : p.val / 5 < 5 := Nat.div_lt_of_lt_mul p.isLt
  have hj : p.val % 5 < 5 := Nat.mod_lt _ (by omega)
  have hp : p.val / 5 * 5 + p.val % 5 = p.val := Nat.div_add_mod' _ _
  unfold headOut
  rw [shapeCast_apply _ headFacts.c2 (ix3 0 p o) (ix2 p o) (by
    rw [Shape.rowMajor_val_two, Shape.rowMajor_val_three]
    show p.val * 64 + o.val = (0 * 25 + p.val) * 64 + o.val
    omega)]
  rw [shapeCast_apply _ headFacts.c1 (ix2 p o) (ix3 ⟨_, hi⟩ ⟨_, hj⟩ o) (by
    rw [Shape.rowMajor_val_two, Shape.rowMajor_val_three]
    show (p.val / 5 * 5 + p.val % 5) * 64 + o.val = p.val * 64 + o.val
    rw [hp])]
  have hs : ∀ (dh dw : ℕ) (inb : _), dh < 2 → dw < 2 →
      strided 10 5 dh dw inb u hu a (ix4 0 ⟨_, hi⟩ ⟨_, hj⟩ o) = ((y n o (2 * (p.val / 5) + dh) (2 * (p.val % 5) + dw) : ℝ) : EReal) := by
    intro dh dw inb e1 e2
    rw [strided_apply inb u hu a _ _ o (show 2 * (p.val / 5) + dh < 10 by omega) (show 2 * (p.val % 5) + dw < 10 by omega)]
    exact ha _ _ _
  exact pooled_coe pool5 ⟨_, hi⟩ ⟨_, hj⟩ o (factor_coe fs hN hH hk hst hg o) (shift_coe fs hN hH hk hst hg hbe o)
    (hs 0 0 (stride10 0 0) (by omega) (by omega)) (hs 0 1 (stride10 0 1) (by omega) (by omega)) (hs 1 0 (stride10 1 0) (by omega) (by omega))
    (hs 1 1 (stride10 1 1) (by omega) (by omega))

end Cert.KerOps

end
-- ==== Proof.Region4.lean ====
module
public import proofs.«01_k».proof.Proof.Gen.KernelIdeal.Frame
public import proofs.«01_k».proof.Proof.KerHead
@[expose] public section
set_option maxRecDepth 16384

/-!
# One call of the head

What the array of features holds after the call, of what the call's arrays held before it.
-/

noncomputable section

namespace Cert.KernelIdeal.Gen

open Idealize.ShloMosaic Cert.KernelIdeal

variable (V : Dev nD → (b : Ref sig .tc) → b.ty.Contents (Elt Ideal))

/-- The features a point of the call leaves. -/
theorem out4 (c : Dev nD) (t : Fin cfg4.N) : outsAt4 V c t = KerOps.headOut (ms4_0 t) (hs4_0 t) KerOps.stat200 0x469C4000#32
    (iblk4 V c 0 t) (iblk4 V c 1 t) (iblk4 V c 2 t) (iblk4 V c 3 t) := by
  dsimp only [outsAt4]
  frame_out
  rfl

/-- The windows' index maps of the call. -/
theorem idx4 : ∀ t : Fin cfg4.N, win4_0.index t = ![t.val, 0, 0, 0] ∧ win4_1.index t = ![0, 0, 0] ∧ win4_2.index t = ![0, 0]
    ∧ win4_3.index t = ![0, 0] ∧ win4_4.index t = ![t.val, 0, 0] := (by decide +kernel : ∀ t : Fin grid4.N, _)

/-- The call: the last layer's normalisation and pooling, for every image. -/
theorem region4 (c : Dev nD) {y : Spec.Img} {G Be : ℕ → ℝ} (ha : KerOps.IsAct 200 10 64 (V c main_v29_0) y)
    (hst : KerOps.IsStat 200 10 (V c main_v29_1) y) (hg : KerOps.IsRow (V c main_v16) G) (hbe : KerOps.IsRow (V c main_v20) Be)
    (x : (KerOps.S3 200 25 64).Idx) : (dat4 V c).arrAt 4 cfg4.N x
      = ((Spec.pool (Spec.bn Reals.eps 200 10 y G Be) (x 0).val (x 2).val ((x 1).val / 5) ((x 1).val % 5) : ℝ) : EReal) := by
  have r0 : ∀ (t : Fin cfg4.N) (i j : Fin 10) (o : Fin 64), iblk4 V c 0 t (ix4 0 i j o) = ((y t.val o i j : ℝ) : EReal) := fun t i j o =>
    (congrArg (V c main_v29_0) (KerOps.place4 (win4_0.rect t).emb (N_4 ▸ t.isLt : t.val < 200)
      (fun z a => (win4_0.rect_emb_val t z a rfl).trans (by rw [(idx4 t).1])) (ix4 0 i j o))).trans (ha _ i j o)
  have r1 : ∀ t : Fin cfg4.N, iblk4 V c 1 t = V c main_v29_1 := fun t => funext fun z => congrArg (V c main_v29_1)
    (KerOps.whole3 (win4_1.rect t).emb (fun z a => (win4_1.rect_emb_val t z a rfl).trans (by rw [(idx4 t).2.1])) z)
  have r2 : ∀ t : Fin cfg4.N, iblk4 V c 2 t = V c main_v16 := fun t => funext fun z => congrArg (V c main_v16)
    (KerOps.whole2 (win4_2.rect t).emb (fun z a => (win4_2.rect_emb_val t z a rfl).trans (by rw [(idx4 t).2.2.1])) z)
  have r3 : ∀ t : Fin cfg4.N, iblk4 V c 3 t = V c main_v20 := fun t => funext fun z => congrArg (V c main_v20)
    (KerOps.whole2 (win4_3.rect t).emb (fun z a => (win4_3.rect_emb_val t z a rfl).trans (by rw [(idx4 t).2.2.2.1])) z)
  have hs := fun t : Fin cfg4.N => KerOps.headOut_coe (ms4_0 t) (hs4_0 t) KerOps.stat200 (by omega) Reals.ofBits_20000 (r0 t)
    ((r1 t).symm ▸ hst) ((r2 t).symm ▸ hg) ((r3 t).symm ▸ hbe)
  refine (dat4 V c).arrAt_forall_of_covers 4
    (fun x v => v = ((Spec.pool (Spec.bn Reals.eps 200 10 y G Be) (x 0).val (x 2).val ((x 1).val / 5) ((x 1).val % 5) : ℝ) : EReal))
    (by decide +kernel) (fun t hf z => ?_) x
  have e := KerOps.place3 (win4_4.rect t).emb (N_4 ▸ t.isLt : t.val < 200)
    (fun z a => (win4_4.rect_emb_val t z a rfl).trans (by rw [(idx4 t).2.2.2.2])) z
  show (dat4 V c).after 4 t z = (fun x : (KerOps.S3 200 25 64).Idx => ((Spec.pool (Spec.bn Reals.eps 200 10 y G Be) (x 0).val (x 2).val
    ((x 1).val / 5) ((x 1).val % 5) : ℝ) : EReal)) ((win4_4.rect t).emb z)
  rw [e, after4_4, out4, KerOps.unit3 z]
  exact hs t _ _

end Cert.KernelIdeal.Gen

end
-- ==== Proof.Region5.lean ====
module
public import proofs.«01_k».proof.Proof.Gen.KernelIdeal.Frame
public import proofs.«01_k».proof.Proof.KerFirst
@[expose] public section
set_option maxRecDepth 16384

/-!
# One call of the first layer

What the arrays hold after the call, of what they held before it.
-/

noncomputable section

namespace Cert.KernelIdeal.Gen

open Idealize.ShloMosaic Cert.KernelIdeal

variable (V : Dev nD → (b : Ref sig .tc) → b.ty.Contents (Elt Ideal))

/-- The activations a point of the call leaves. -/
theorem out5 (c : Dev nD) (t : Fin cfg5.N) : (outsAt5 V c t).1 = KerOps.firstAct (KerOps.firstStep (View.whole cc5_scratch0) (View.whole cc5_scratch1)
    (iblk5 V c 0 t) (iblk5 V c 1 t) (iblk5 V c 2 t)) := by
  dsimp only [outsAt5]
  frame_out
  rfl

/-- The sums a point of the call leaves. -/
theorem st5 (c : Dev nD) (t : Fin cfg5.N) : (outsAt5 V c t).2 = KerOps.firstStat (KerOps.firstStep (View.whole cc5_scratch0) (View.whole cc5_scratch1)
    (iblk5 V c 0 t) (iblk5 V c 1 t) (iblk5 V c 2 t)) := by
  dsimp only [outsAt5]
  frame_out
  rfl

/-- The windows' index maps of the call. -/
theorem idx5 : ∀ t : Fin cfg5.N, win5_0.index t = ![t.val, 0, 0] ∧ win5_1.index t = ![0, 0] ∧ win5_2.index t = ![0, 0]
    ∧ win5_3.index t = ![t.val, 0, 0, 0] ∧ win5_4.index t = ![t.val, 0, 0] := (by decide +kernel : ∀ t : Fin grid5.N, _)

/-- The arrays the call leaves, from what each of its points leaves. -/
theorem arrays5 (c : Dev nD) {y : Spec.Img}
    (h3 : ∀ (t : Fin cfg5.N) (i j : Fin 84) (o : Fin 64), (outsAt5 V c t).1 (ix4 0 i j o) = ((y t.val o i j : ℝ) : EReal))
    (h4 : ∀ (t : Fin cfg5.N) (s : Fin 2) (o : Fin 64), (outsAt5 V c t).2 (ix3 0 s o) = ((KerOps.statAt 84 y t.val s o : ℝ) : EReal)) :
    KerOps.IsAct 120 84 64 ((dat5 V c).arrAt 3 cfg5.N) y ∧ KerOps.IsStat 120 84 ((dat5 V c).arrAt 4 cfg5.N) y := by
  constructor
  · intro n i j o
    refine (dat5 V c).arrAt_forall_of_covers 3 (fun x v => v = ((y (x 0).val (x 3).val (x 1).val (x 2).val : ℝ) : EReal))
      (by decide +kernel) (fun t hf z => ?_) (ix4 n i j o)
    have e := KerOps.place4 (win5_3.rect t).emb (N_5 ▸ t.isLt : t.val < 120)
      (fun z a => (win5_3.rect_emb_val t z a rfl).trans (by rw [(idx5 t).2.2.2.1])) z
    show (dat5 V c).after 3 t z = (fun x : (RefOps.S4 120 84 84 64).Idx => ((y (x 0).val (x 3).val (x 1).val (x 2).val : ℝ) : EReal)) ((win5_3.rect t).emb z)
    rw [e, after5_3, KerOps.unit4 z]
    exact h3 t _ _ _
  · refine KerOps.isStat_of fun z => (dat5 V c).arrAt_forall_of_covers 4
      (fun x v => v = ((KerOps.statAt 84 y (x 0).val (x 1).val (x 2).val : ℝ) : EReal)) (by decide +kernel) (fun t hf z => ?_) z
    have e := KerOps.place3 (win5_4.rect t).emb (N_5 ▸ t.isLt : t.val < 120)
      (fun z a => (win5_4.rect_emb_val t z a rfl).trans (by rw [(idx5 t).2.2.2.2])) z
    show (dat5 V c).after 4 t z = (fun x : (KerOps.S3 120 2 64).Idx => ((KerOps.statAt 84 y (x 0).val (x 1).val (x 2).val : ℝ) : EReal)) ((win5_4.rect t).emb z)
    rw [e, after5_4, KerOps.unit3 z]
    exact h4 t _ _

/-- The call: the first layer's convolution of every image. -/
theorem region5 (c : Dev nD) {X W : Spec.Img} {B : ℕ → ℝ}
    (hx : ∀ n : Fin 120, KerOps.IsFlat (fun x => V c main_v33 (ix3 n (x 1) (x 2))) X n)
    (hw : KerOps.IsFirstFilter (V c main_v2) W) (hb : KerOps.IsRow (V c main_v9) B) :
    KerOps.IsAct 120 84 64 ((dat5 V c).arrAt 3 cfg5.N) (Spec.convRelu 8 84 X W B)
      ∧ KerOps.IsStat 120 84 ((dat5 V c).arrAt 4 cfg5.N) (Spec.convRelu 8 84 X W B) := by
  have r0 : ∀ t : Fin cfg5.N, KerOps.IsFlat (iblk5 V c 0 t) X t.val := fun t ch a b l e =>
    (congrArg (V c main_v33) (KerOps.place3 (win5_0.rect t).emb (N_5 ▸ t.isLt : t.val < 120)
      (fun z a => (win5_0.rect_emb_val t z a rfl).trans (by rw [(idx5 t).1])) (ix3 0 ch l))).trans (hx _ ch a b l e)
  have r1 : ∀ t : Fin cfg5.N, iblk5 V c 1 t = V c main_v2 := fun t => funext fun z => congrArg (V c main_v2)
    (KerOps.whole2 (win5_1.rect t).emb (fun z a => (win5_1.rect_emb_val t z a rfl).trans (by rw [(idx5 t).2.1])) z)
  have r2 : ∀ t : Fin cfg5.N, iblk5 V c 2 t = V c main_v9 := fun t => funext fun z => congrArg (V c main_v9)
    (KerOps.whole2 (win5_2.rect t).emb (fun z a => (win5_2.rect_emb_val t z a rfl).trans (by rw [(idx5 t).2.2.1])) z)
  have hs := fun t : Fin cfg5.N => KerOps.firstStep_coe (View.whole cc5_scratch0) (View.whole cc5_scratch1) (r0 t)
    ((r1 t).symm ▸ hw) ((r2 t).symm ▸ hb)
  refine arrays5 V c (fun t i j o => ?_) (fun t s o => ?_)
  · rw [out5]
    exact (KerOps.firstAct_apply _ i j o).trans (hs t i j o)
  · rw [st5]
    exact KerOps.stat_at (KerOps.firstStat_coe _ _ _ (hs t)) s o

end Cert.KernelIdeal.Gen

end
-- ==== Proof.Region6.lean ====
module
public import proofs.«01_k».proof.Proof.Gen.KernelIdeal.Frame
public import proofs.«01_k».proof.Proof.KerShapes
public import Idealize.ShloMosaic.Lib.Pipeline.ValueKit
public import Idealize.ShloMosaic.Lib.Pointwise
@[expose] public section
set_option maxRecDepth 16384

/-!
# One call of a layer

What the arrays hold after the call, of what they held before it.
-/

noncomputable section

namespace Cert.KernelIdeal.Gen

open Idealize.ShloMosaic Cert.KernelIdeal

variable (V : Dev nD → (b : Ref sig .tc) → b.ty.Contents (Elt Ideal))

/-- The activations a point of the call leaves. -/
theorem out6 (c : Dev nD) (t : Fin cfg6.N) : (outsAt6 V c t).1 = KerOps.actOut KerOps.layer42 (KerOps.step (View.whole cc6_scratch0) (View.whole cc6_scratch1) (ms6_0 t) (hs6_0 t) KerOps.stat120 KerOps.pool42 KerOps.layer42 0x494EB800#32 KerOps.stride84
   (iblk6 V c 0 t) (iblk6 V c 1 t) (iblk6 V c 2 t) (iblk6 V c 3 t) (iblk6 V c 4 t) (iblk6 V c 5 t)) := by
  dsimp only [outsAt6]
  frame_out
  rfl
/-- The sums a point of the call leaves. -/
theorem st6 (c : Dev nD) (t : Fin cfg6.N) : (outsAt6 V c t).2 = KerOps.statOut KerOps.layer42 (KerOps.step (View.whole cc6_scratch0) (View.whole cc6_scratch1) (ms6_0 t) (hs6_0 t) KerOps.stat120 KerOps.pool42 KerOps.layer42 0x494EB800#32 KerOps.stride84
   (iblk6 V c 0 t) (iblk6 V c 1 t) (iblk6 V c 2 t) (iblk6 V c 3 t) (iblk6 V c 4 t) (iblk6 V c 5 t)) := by
  dsimp only [outsAt6]
  frame_out
  rfl
/-- The windows' index maps of the call. -/
theorem idx6 : ∀ t : Fin cfg6.N, win6_0.index t = ![t.val, 0, 0, 0] ∧ win6_1.index t = ![0, 0, 0] ∧ win6_2.index t = ![0, 0]
    ∧ win6_3.index t = ![0, 0] ∧ win6_4.index t = ![0, 0] ∧ win6_5.index t = ![0, 0] ∧ win6_6.index t = ![t.val, 0, 0, 0]
    ∧ win6_7.index t = ![t.val, 0, 0] := (by decide +kernel : ∀ t : Fin grid6.N, _)

/-- The arrays the call leaves, from what each of its points leaves. -/
theorem arrays6 (c : Dev nD) {y : Spec.Img}
    (h6 : ∀ (t : Fin cfg6.N) (i j : Fin 42) (o : Fin 64), (outsAt6 V c t).1 (ix4 0 i j o) = ((y t.val o i j : ℝ) : EReal))
    (h7 : ∀ (t : Fin cfg6.N) (s : Fin 2) (o : Fin 64), (outsAt6 V c t).2 (ix3 0 s o) = ((KerOps.statAt 42 y t.val s o : ℝ) : EReal)) :
    KerOps.IsAct 120 42 64 ((dat6 V c).arrAt 6 cfg6.N) y ∧ KerOps.IsStat 120 42 ((dat6 V c).arrAt 7 cfg6.N) y := by
  constructor
  · intro n i j o
    refine (dat6 V c).arrAt_forall_of_covers 6 (fun x v => v = ((y (x 0).val (x 3).val (x 1).val (x 2).val : ℝ) : EReal))
      (by decide +kernel) (fun t hf z => ?_) (ix4 n i j o)
    have e := KerOps.place4 (win6_6.rect t).emb (N_6 ▸ t.isLt : t.val < 120)
      (fun z a => (win6_6.rect_emb_val t z a rfl).trans (by rw [(idx6 t).2.2.2.2.2.2.1])) z
    show (dat6 V c).after 6 t z = (fun x : (RefOps.S4 120 42 42 64).Idx => ((y (x 0).val (x 3).val (x 1).val (x 2).val : ℝ) : EReal)) ((win6_6.rect t).emb z)
    rw [e, after6_6, KerOps.unit4 z]
    exact h6 t _ _ _
  · refine KerOps.isStat_of fun z => (dat6 V c).arrAt_forall_of_covers 7
      (fun x v => v = ((KerOps.statAt 42 y (x 0).val (x 1).val (x 2).val : ℝ) : EReal)) (by decide +kernel) (fun t hf z => ?_) z
    have e := KerOps.place3 (win6_7.rect t).emb (N_6 ▸ t.isLt : t.val < 120)
      (fun z a => (win6_7.rect_emb_val t z a rfl).trans (by rw [(idx6 t).2.2.2.2.2.2.2])) z
    show (dat6 V c).after 7 t z = (fun x : (KerOps.S3 120 2 64).Idx => ((KerOps.statAt 42 y (x 0).val (x 1).val (x 2).val : ℝ) : EReal)) ((win6_7.rect t).emb z)
    rw [e, after6_7, KerOps.unit3 z]
    exact h7 t _ _

/-- The call: the previous layer's normalisation and pooling, then this layer's convolution, for every image. -/
theorem region6 (c : Dev nD) {y W : Spec.Img} {B G Be : ℕ → ℝ} (ha : KerOps.IsAct 120 84 64 (V c main_v34_0) y)
    (hst : KerOps.IsStat 120 84 (V c main_v34_1) y) (hw : KerOps.IsFilter (V c main_v4) W) (hb : KerOps.IsRow (V c main_v10) B)
    (hg : KerOps.IsRow (V c main_v13) G) (hbe : KerOps.IsRow (V c main_v17) Be) :
    KerOps.IsAct 120 42 64 ((dat6 V c).arrAt 6 cfg6.N) (Spec.convRelu 64 42 (Spec.pool (Spec.bn Reals.eps 120 84 y G Be)) W B)
      ∧ KerOps.IsStat 120 42 ((dat6 V c).arrAt 7 cfg6.N) (Spec.convRelu 64 42 (Spec.pool (Spec.bn Reals.eps 120 84 y G Be)) W B) := by
  have r0 : ∀ (t : Fin cfg6.N) (i j : Fin 84) (o : Fin 64), iblk6 V c 0 t (ix4 0 i j o) = ((y t.val o i j : ℝ) : EReal) := fun t i j o =>
    (congrArg (V c main_v34_0) (KerOps.place4 (win6_0.rect t).emb (N_6 ▸ t.isLt : t.val < 120)
      (fun z a => (win6_0.rect_emb_val t z a rfl).trans (by rw [(idx6 t).1]) ) (ix4 0 i j o))).trans (ha _ i j o)
  have r1 : ∀ t : Fin cfg6.N, iblk6 V c 1 t = V c main_v34_1 := fun t => funext fun z => congrArg (V c main_v34_1)
    (KerOps.whole3 (win6_1.rect t).emb (fun z a => (win6_1.rect_emb_val t z a rfl).trans (by rw [(idx6 t).2.1])) z)
  have r2 : ∀ t : Fin cfg6.N, iblk6 V c 2 t = V c main_v4 := fun t => funext fun z => congrArg (V c main_v4)
    (KerOps.whole2 (win6_2.rect t).emb (fun z a => (win6_2.rect_emb_val t z a rfl).trans (by rw [(idx6 t).2.2.1])) z)
  have r3 : ∀ t : Fin cfg6.N, iblk6 V c 3 t = V c main_v10 := fun t => funext fun z => congrArg (V c main_v10)
    (KerOps.whole2 (win6_3.rect t).emb (fun z a => (win6_3.rect_emb_val t z a rfl).trans (by rw [(idx6 t).2.2.2.1])) z)
  have r4 : ∀ t : Fin cfg6.N, iblk6 V c 4 t = V c main_v13 := fun t => funext fun z => congrArg (V c main_v13)
    (KerOps.whole2 (win6_4.rect t).emb (fun z a => (win6_4.rect_emb_val t z a rfl).trans (by rw [(idx6 t).2.2.2.2.1])) z)
  have r5 : ∀ t : Fin cfg6.N, iblk6 V c 5 t = V c main_v17 := fun t => funext fun z => congrArg (V c main_v17)
    (KerOps.whole2 (win6_5.rect t).emb (fun z a => (win6_5.rect_emb_val t z a rfl).trans (by rw [(idx6 t).2.2.2.2.2.1])) z)
  have hs := fun t : Fin cfg6.N => KerOps.step_coe (View.whole cc6_scratch0) (View.whole cc6_scratch1) (ms6_0 t) (hs6_0 t) KerOps.stat120 KerOps.pool42 KerOps.layer42
    (by omega) (by omega) (by omega) Reals.ofBits_846720 KerOps.stride84 (r0 t) ((r1 t).symm ▸ hst) ((r2 t).symm ▸ hw) ((r3 t).symm ▸ hb)
    ((r4 t).symm ▸ hg) ((r5 t).symm ▸ hbe)
  refine arrays6 V c (fun t i j o => ?_) (fun t s o => ?_)
  · rw [out6]
    exact KerOps.actOut_coe KerOps.layer42 _ _ _ (hs t) i j o
  · rw [st6]
    exact KerOps.stat_at (KerOps.statOut_coe KerOps.layer42 _ _ _ (hs t)) s o
end Cert.KernelIdeal.Gen
end
-- ==== Proof.Region7.lean ====
module
public import proofs.«01_k».proof.Proof.Gen.KernelIdeal.Frame
public import proofs.«01_k».proof.Proof.KerShapes
public import Idealize.ShloMosaic.Lib.Pipeline.ValueKit
public import Idealize.ShloMosaic.Lib.Pointwise
@[expose] public section
set_option maxRecDepth 16384

/-!
# One call of a layer

What the arrays hold after the call, of what they held before it.
-/

noncomputable section

namespace Cert.KernelIdeal.Gen

open Idealize.ShloMosaic Cert.KernelIdeal

variable (V : Dev nD → (b : Ref sig .tc) → b.ty.Contents (Elt Ideal))

/-- The activations a point of the call leaves. -/
theorem out7 (c : Dev nD) (t : Fin cfg7.N) : (outsAt7 V c t).1 = KerOps.actOut KerOps.layer21 (KerOps.step (View.whole cc7_scratch0) (View.whole cc7_scratch1) (ms7_0 t) (hs7_0 t) KerOps.stat120 KerOps.pool21 KerOps.layer21 0x484EB800#32 KerOps.stride42
   (iblk7 V c 0 t) (iblk7 V c 1 t) (iblk7 V c 2 t) (iblk7 V c 3 t) (iblk7 V c 4 t) (iblk7 V c 5 t)) := by
  dsimp only [outsAt7]
  frame_out
  rfl
/-- The sums a point of the call leaves. -/
theorem st7 (c : Dev nD) (t : Fin cfg7.N) : (outsAt7 V c t).2 = KerOps.statOut KerOps.layer21 (KerOps.step (View.whole cc7_scratch0) (View.whole cc7_scratch1) (ms7_0 t) (hs7_0 t) KerOps.stat120 KerOps.pool21 KerOps.layer21 0x484EB800#32 KerOps.stride42
   (iblk7 V c 0 t) (iblk7 V c 1 t) (iblk7 V c 2 t) (iblk7 V c 3 t) (iblk7 V c 4 t) (iblk7 V c 5 t)) := by
  dsimp only [outsAt7]
  frame_out
  rfl
/-- The windows' index maps of the call. -/
theorem idx7 : ∀ t : Fin cfg7.N, win7_0.index t = ![t.val, 0, 0, 0] ∧ win7_1.index t = ![0, 0, 0] ∧ win7_2.index t = ![0, 0]
    ∧ win7_3.index t = ![0, 0] ∧ win7_4.index t = ![0, 0] ∧ win7_5.index t = ![0, 0] ∧ win7_6.index t = ![t.val, 0, 0, 0]
    ∧ win7_7.index t = ![t.val, 0, 0] := (by decide +kernel : ∀ t : Fin grid7.N, _)

/-- The arrays the call leaves, from what each of its points leaves. -/
theorem arrays7 (c : Dev nD) {y : Spec.Img}
    (h6 : ∀ (t : Fin cfg7.N) (i j : Fin 21) (o : Fin 64), (outsAt7 V c t).1 (ix4 0 i j o) = ((y t.val o i j : ℝ) : EReal))
    (h7 : ∀ (t : Fin cfg7.N) (s : Fin 2) (o : Fin 64), (outsAt7 V c t).2 (ix3 0 s o) = ((KerOps.statAt 21 y t.val s o : ℝ) : EReal)) :
    KerOps.IsAct 120 21 64 ((dat7 V c).arrAt 6 cfg7.N) y ∧ KerOps.IsStat 120 21 ((dat7 V c).arrAt 7 cfg7.N) y := by
  constructor
  · intro n i j o
    refine (dat7 V c).arrAt_forall_of_covers 6 (fun x v => v = ((y (x 0).val (x 3).val (x 1).val (x 2).val : ℝ) : EReal))
      (by decide +kernel) (fun t hf z => ?_) (ix4 n i j o)
    have e := KerOps.place4 (win7_6.rect t).emb (N_7 ▸ t.isLt : t.val < 120)
      (fun z a => (win7_6.rect_emb_val t z a rfl).trans (by rw [(idx7 t).2.2.2.2.2.2.1])) z
    show (dat7 V c).after 6 t z = (fun x : (RefOps.S4 120 21 21 64).Idx => ((y (x 0).val (x 3).val (x 1).val (x 2).val : ℝ) : EReal)) ((win7_6.rect t).emb z)
    rw [e, after7_6, KerOps.unit4 z]
    exact h6 t _ _ _
  · refine KerOps.isStat_of fun z => (dat7 V c).arrAt_forall_of_covers 7
      (fun x v => v = ((KerOps.statAt 21 y (x 0).val (x 1).val (x 2).val : ℝ) : EReal)) (by decide +kernel) (fun t hf z => ?_) z
    have e := KerOps.place3 (win7_7.rect t).emb (N_7 ▸ t.isLt : t.val < 120)
      (fun z a => (win7_7.rect_emb_val t z a rfl).trans (by rw [(idx7 t).2.2.2.2.2.2.2])) z
    show (dat7 V c).after 7 t z = (fun x : (KerOps.S3 120 2 64).Idx => ((KerOps.statAt 21 y (x 0).val (x 1).val (x 2).val : ℝ) : EReal)) ((win7_7.rect t).emb z)
    rw [e, after7_7, KerOps.unit3 z]
    exact h7 t _ _

/-- The call: the previous layer's normalisation and pooling, then this layer's convolution, for every image. -/
theorem region7 (c : Dev nD) {y W : Spec.Img} {B G Be : ℕ → ℝ} (ha : KerOps.IsAct 120 42 64 (V c main_v35_0) y)
    (hst : KerOps.IsStat 120 42 (V c main_v35_1) y) (hw : KerOps.IsFilter (V c main_v6) W) (hb : KerOps.IsRow (V c main_v11) B)
    (hg : KerOps.IsRow (V c main_v14) G) (hbe : KerOps.IsRow (V c main_v18) Be) :
    KerOps.IsAct 120 21 64 ((dat7 V c).arrAt 6 cfg7.N) (Spec.convRelu 64 21 (Spec.pool (Spec.bn Reals.eps 120 42 y G Be)) W B)
      ∧ KerOps.IsStat 120 21 ((dat7 V c).arrAt 7 cfg7.N) (Spec.convRelu 64 21 (Spec.pool (Spec.bn Reals.eps 120 42 y G Be)) W B) := by
  have r0 : ∀ (t : Fin cfg7.N) (i j : Fin 42) (o : Fin 64), iblk7 V c 0 t (ix4 0 i j o) = ((y t.val o i j : ℝ) : EReal) := fun t i j o =>
    (congrArg (V c main_v35_0) (KerOps.place4 (win7_0.rect t).emb (N_7 ▸ t.isLt : t.val < 120)
      (fun z a => (win7_0.rect_emb_val t z a rfl).trans (by rw [(idx7 t).1]) ) (ix4 0 i j o))).trans (ha _ i j o)
  have r1 : ∀ t : Fin cfg7.N, iblk7 V c 1 t = V c main_v35_1 := fun t => funext fun z => congrArg (V c main_v35_1)
    (KerOps.whole3 (win7_1.rect t).emb (fun z a => (win7_1.rect_emb_val t z a rfl).trans (by rw [(idx7 t).2.1])) z)
  have r2 : ∀ t : Fin cfg7.N, iblk7 V c 2 t = V c main_v6 := fun t => funext fun z => congrArg (V c main_v6)
    (KerOps.whole2 (win7_2.rect t).emb (fun z a => (win7_2.rect_emb_val t z a rfl).trans (by rw [(idx7 t).2.2.1])) z)
  have r3 : ∀ t : Fin cfg7.N, iblk7 V c 3 t = V c main_v11 := fun t => funext fun z => congrArg (V c main_v11)
    (KerOps.whole2 (win7_3.rect t).emb (fun z a => (win7_3.rect_emb_val t z a rfl).trans (by rw [(idx7 t).2.2.2.1])) z)
  have r4 : ∀ t : Fin cfg7.N, iblk7 V c 4 t = V c main_v14 := fun t => funext fun z => congrArg (V c main_v14)
    (KerOps.whole2 (win7_4.rect t).emb (fun z a => (win7_4.rect_emb_val t z a rfl).trans (by rw [(idx7 t).2.2.2.2.1])) z)
  have r5 : ∀ t : Fin cfg7.N, iblk7 V c 5 t = V c main_v18 := fun t => funext fun z => congrArg (V c main_v18)
    (KerOps.whole2 (win7_5.rect t).emb (fun z a => (win7_5.rect_emb_val t z a rfl).trans (by rw [(idx7 t).2.2.2.2.2.1])) z)
  have hs := fun t : Fin cfg7.N => KerOps.step_coe (View.whole cc7_scratch0) (View.whole cc7_scratch1) (ms7_0 t) (hs7_0 t) KerOps.stat120 KerOps.pool21 KerOps.layer21
    (by omega) (by omega) (by omega) Reals.ofBits_211680 KerOps.stride42 (r0 t) ((r1 t).symm ▸ hst) ((r2 t).symm ▸ hw) ((r3 t).symm ▸ hb)
    ((r4 t).symm ▸ hg) ((r5 t).symm ▸ hbe)
  refine arrays7 V c (fun t i j o => ?_) (fun t s o => ?_)
  · rw [out7]
    exact KerOps.actOut_coe KerOps.layer21 _ _ _ (hs t) i j o
  · rw [st7]
    exact KerOps.stat_at (KerOps.statOut_coe KerOps.layer21 _ _ _ (hs t)) s o
end Cert.KernelIdeal.Gen
end
-- ==== Proof.Region8.lean ====
module
public import proofs.«01_k».proof.Proof.Gen.KernelIdeal.Frame
public import proofs.«01_k».proof.Proof.KerShapes
public import Idealize.ShloMosaic.Lib.Pipeline.ValueKit
public import Idealize.ShloMosaic.Lib.Pointwise
@[expose] public section
set_option maxRecDepth 16384

/-!
# One call of a layer

What the arrays hold after the call, of what they held before it.
-/

noncomputable section

namespace Cert.KernelIdeal.Gen

open Idealize.ShloMosaic Cert.KernelIdeal

variable (V : Dev nD → (b : Ref sig .tc) → b.ty.Contents (Elt Ideal))

/-- The activations a point of the call leaves. -/
theorem out8 (c : Dev nD) (t : Fin cfg8.N) : (outsAt8 V c t).1 = KerOps.actOut KerOps.layer10 (KerOps.step (View.whole cc8_scratch0) (View.whole cc8_scratch1) (ms8_0 t) (hs8_0 t) KerOps.stat120 KerOps.pool10 KerOps.layer10 0x474EB800#32 KerOps.stride21
   (iblk8 V c 0 t) (iblk8 V c 1 t) (iblk8 V c 2 t) (iblk8 V c 3 t) (iblk8 V c 4 t) (iblk8 V c 5 t)) := by
  dsimp only [outsAt8]
  frame_out
  rfl
/-- The sums a point of the call leaves. -/
theorem st8 (c : Dev nD) (t : Fin cfg8.N) : (outsAt8 V c t).2 = KerOps.statOut KerOps.layer10 (KerOps.step (View.whole cc8_scratch0) (View.whole cc8_scratch1) (ms8_0 t) (hs8_0 t) KerOps.stat120 KerOps.pool10 KerOps.layer10 0x474EB800#32 KerOps.stride21
   (iblk8 V c 0 t) (iblk8 V c 1 t) (iblk8 V c 2 t) (iblk8 V c 3 t) (iblk8 V c 4 t) (iblk8 V c 5 t)) := by
  dsimp only [outsAt8]
  frame_out
  rfl
/-- The windows' index maps of the call. -/
theorem idx8 : ∀ t : Fin cfg8.N, win8_0.index t = ![t.val, 0, 0, 0] ∧ win8_1.index t = ![0, 0, 0] ∧ win8_2.index t = ![0, 0]
    ∧ win8_3.index t = ![0, 0] ∧ win8_4.index t = ![0, 0] ∧ win8_5.index t = ![0, 0] ∧ win8_6.index t = ![t.val, 0, 0, 0]
    ∧ win8_7.index t = ![t.val, 0, 0] := (by decide +kernel : ∀ t : Fin grid8.N, _)

/-- The arrays the call leaves, from what each of its points leaves. -/
theorem arrays8 (c : Dev nD) {y : Spec.Img}
    (h6 : ∀ (t : Fin cfg8.N) (i j : Fin 10) (o : Fin 64), (outsAt8 V c t).1 (ix4 0 i j o) = ((y t.val o i j : ℝ) : EReal))
    (h7 : ∀ (t : Fin cfg8.N) (s : Fin 2) (o : Fin 64), (outsAt8 V c t).2 (ix3 0 s o) = ((KerOps.statAt 10 y t.val s o : ℝ) : EReal)) :
    KerOps.IsAct 120 10 64 ((dat8 V c).arrAt 6 cfg8.N) y ∧ KerOps.IsStat 120 10 ((dat8 V c).arrAt 7 cfg8.N) y := by
  constructor
  · intro n i j o
    refine (dat8 V c).arrAt_forall_of_covers 6 (fun x v => v = ((y (x 0).val (x 3).val (x 1).val (x 2).val : ℝ) : EReal))
      (by decide +kernel) (fun t hf z => ?_) (ix4 n i j o)
    have e := KerOps.place4 (win8_6.rect t).emb (N_8 ▸ t.isLt : t.val < 120)
      (fun z a => (win8_6.rect_emb_val t z a rfl).trans (by rw [(idx8 t).2.2.2.2.2.2.1])) z
    show (dat8 V c).after 6 t z = (fun x : (RefOps.S4 120 10 10 64).Idx => ((y (x 0).val (x 3).val (x 1).val (x 2).val : ℝ) : EReal)) ((win8_6.rect t).emb z)
    rw [e, after8_6, KerOps.unit4 z]
    exact h6 t _ _ _
  · refine KerOps.isStat_of fun z => (dat8 V c).arrAt_forall_of_covers 7
      (fun x v => v = ((KerOps.statAt 10 y (x 0).val (x 1).val (x 2).val : ℝ) : EReal)) (by decide +kernel) (fun t hf z => ?_) z
    have e := KerOps.place3 (win8_7.rect t).emb (N_8 ▸ t.isLt : t.val < 120)
      (fun z a => (win8_7.rect_emb_val t z a rfl).trans (by rw [(idx8 t).2.2.2.2.2.2.2])) z
    show (dat8 V c).after 7 t z = (fun x : (KerOps.S3 120 2 64).Idx => ((KerOps.statAt 10 y (x 0).val (x 1).val (x 2).val : ℝ) : EReal)) ((win8_7.rect t).emb z)
    rw [e, after8_7, KerOps.unit3 z]
    exact h7 t _ _

/-- The call: the previous layer's normalisation and pooling, then this layer's convolution, for every image. -/
theorem region8 (c : Dev nD) {y W : Spec.Img} {B G Be : ℕ → ℝ} (ha : KerOps.IsAct 120 21 64 (V c main_v36_0) y)
    (hst : KerOps.IsStat 120 21 (V c main_v36_1) y) (hw : KerOps.IsFilter (V c main_v8) W) (hb : KerOps.IsRow (V c main_v12) B)
    (hg : KerOps.IsRow (V c main_v15) G) (hbe : KerOps.IsRow (V c main_v19) Be) :
    KerOps.IsAct 120 10 64 ((dat8 V c).arrAt 6 cfg8.N) (Spec.convRelu 64 10 (Spec.pool (Spec.bn Reals.eps 120 21 y G Be)) W B)
      ∧ KerOps.IsStat 120 10 ((dat8 V c).arrAt 7 cfg8.N) (Spec.convRelu 64 10 (Spec.pool (Spec.bn Reals.eps 120 21 y G Be)) W B) := by
  have r0 : ∀ (t : Fin cfg8.N) (i j : Fin 21) (o : Fin 64), iblk8 V c 0 t (ix4 0 i j o) = ((y t.val o i j : ℝ) : EReal) := fun t i j o =>
    (congrArg (V c main_v36_0) (KerOps.place4 (win8_0.rect t).emb (N_8 ▸ t.isLt : t.val < 120)
      (fun z a => (win8_0.rect_emb_val t z a rfl).trans (by rw [(idx8 t).1]) ) (ix4 0 i j o))).trans (ha _ i j o)
  have r1 : ∀ t : Fin cfg8.N, iblk8 V c 1 t = V c main_v36_1 := fun t => funext fun z => congrArg (V c main_v36_1)
    (KerOps.whole3 (win8_1.rect t).emb (fun z a => (win8_1.rect_emb_val t z a rfl).trans (by rw [(idx8 t).2.1])) z)
  have r2 : ∀ t : Fin cfg8.N, iblk8 V c 2 t = V c main_v8 := fun t => funext fun z => congrArg (V c main_v8)
    (KerOps.whole2 (win8_2.rect t).emb (fun z a => (win8_2.rect_emb_val t z a rfl).trans (by rw [(idx8 t).2.2.1])) z)
  have r3 : ∀ t : Fin cfg8.N, iblk8 V c 3 t = V c main_v12 := fun t => funext fun z => congrArg (V c main_v12)
    (KerOps.whole2 (win8_3.rect t).emb (fun z a => (win8_3.rect_emb_val t z a rfl).trans (by rw [(idx8 t).2.2.2.1])) z)
  have r4 : ∀ t : Fin cfg8.N, iblk8 V c 4 t = V c main_v15 := fun t => funext fun z => congrArg (V c main_v15)
    (KerOps.whole2 (win8_4.rect t).emb (fun z a => (win8_4.rect_emb_val t z a rfl).trans (by rw [(idx8 t).2.2.2.2.1])) z)
  have r5 : ∀ t : Fin cfg8.N, iblk8 V c 5 t = V c main_v19 := fun t => funext fun z => congrArg (V c main_v19)
    (KerOps.whole2 (win8_5.rect t).emb (fun z a => (win8_5.rect_emb_val t z a rfl).trans (by rw [(idx8 t).2.2.2.2.2.1])) z)
  have hs := fun t : Fin cfg8.N => KerOps.step_coe (View.whole cc8_scratch0) (View.whole cc8_scratch1) (ms8_0 t) (hs8_0 t) KerOps.stat120 KerOps.pool10 KerOps.layer10
    (by omega) (by omega) (by omega) Reals.ofBits_52920 KerOps.stride21 (r0 t) ((r1 t).symm ▸ hst) ((r2 t).symm ▸ hw) ((r3 t).symm ▸ hb)
    ((r4 t).symm ▸ hg) ((r5 t).symm ▸ hbe)
  refine arrays8 V c (fun t i j o => ?_) (fun t s o => ?_)
  · rw [out8]
    exact KerOps.actOut_coe KerOps.layer10 _ _ _ (hs t) i j o
  · rw [st8]
    exact KerOps.stat_at (KerOps.statOut_coe KerOps.layer10 _ _ _ (hs t)) s o
end Cert.KernelIdeal.Gen
end
-- ==== Proof.Region9.lean ====
module
public import proofs.«01_k».proof.Proof.Gen.KernelIdeal.Frame
public import proofs.«01_k».proof.Proof.KerHead
@[expose] public section
set_option maxRecDepth 16384

/-!
# One call of the head

What the array of features holds after the call, of what the call's arrays held before it.
-/

noncomputable section

namespace Cert.KernelIdeal.Gen

open Idealize.ShloMosaic Cert.KernelIdeal

variable (V : Dev nD → (b : Ref sig .tc) → b.ty.Contents (Elt Ideal))

/-- The features a point of the call leaves. -/
theorem out9 (c : Dev nD) (t : Fin cfg9.N) : outsAt9 V c t = KerOps.headOut (ms9_0 t) (hs9_0 t) KerOps.stat120 0x463B8000#32
    (iblk9 V c 0 t) (iblk9 V c 1 t) (iblk9 V c 2 t) (iblk9 V c 3 t) := by
  dsimp only [outsAt9]
  frame_out
  rfl

/-- The windows' index maps of the call. -/
theorem idx9 : ∀ t : Fin cfg9.N, win9_0.index t = ![t.val, 0, 0, 0] ∧ win9_1.index t = ![0, 0, 0] ∧ win9_2.index t = ![0, 0]
    ∧ win9_3.index t = ![0, 0] ∧ win9_4.index t = ![t.val, 0, 0] := (by decide +kernel : ∀ t : Fin grid9.N, _)

/-- The call: the last layer's normalisation and pooling, for every image. -/
theorem region9 (c : Dev nD) {y : Spec.Img} {G Be : ℕ → ℝ} (ha : KerOps.IsAct 120 10 64 (V c main_v37_0) y)
    (hst : KerOps.IsStat 120 10 (V c main_v37_1) y) (hg : KerOps.IsRow (V c main_v16) G) (hbe : KerOps.IsRow (V c main_v20) Be)
    (x : (KerOps.S3 120 25 64).Idx) : (dat9 V c).arrAt 4 cfg9.N x
      = ((Spec.pool (Spec.bn Reals.eps 120 10 y G Be) (x 0).val (x 2).val ((x 1).val / 5) ((x 1).val % 5) : ℝ) : EReal) := by
  have r0 : ∀ (t : Fin cfg9.N) (i j : Fin 10) (o : Fin 64), iblk9 V c 0 t (ix4 0 i j o) = ((y t.val o i j : ℝ) : EReal) := fun t i j o =>
    (congrArg (V c main_v37_0) (KerOps.place4 (win9_0.rect t).emb (N_9 ▸ t.isLt : t.val < 120)
      (fun z a => (win9_0.rect_emb_val t z a rfl).trans (by rw [(idx9 t).1])) (ix4 0 i j o))).trans (ha _ i j o)
  have r1 : ∀ t : Fin cfg9.N, iblk9 V c 1 t = V c main_v37_1 := fun t => funext fun z => congrArg (V c main_v37_1)
    (KerOps.whole3 (win9_1.rect t).emb (fun z a => (win9_1.rect_emb_val t z a rfl).trans (by rw [(idx9 t).2.1])) z)
  have r2 : ∀ t : Fin cfg9.N, iblk9 V c 2 t = V c main_v16 := fun t => funext fun z => congrArg (V c main_v16)
    (KerOps.whole2 (win9_2.rect t).emb (fun z a => (win9_2.rect_emb_val t z a rfl).trans (by rw [(idx9 t).2.2.1])) z)
  have r3 : ∀ t : Fin cfg9.N, iblk9 V c 3 t = V c main_v20 := fun t => funext fun z => congrArg (V c main_v20)
    (KerOps.whole2 (win9_3.rect t).emb (fun z a => (win9_3.rect_emb_val t z a rfl).trans (by rw [(idx9 t).2.2.2.1])) z)
  have hs := fun t : Fin cfg9.N => KerOps.headOut_coe (ms9_0 t) (hs9_0 t) KerOps.stat120 (by omega) Reals.ofBits_12000 (r0 t)
    ((r1 t).symm ▸ hst) ((r2 t).symm ▸ hg) ((r3 t).symm ▸ hbe)
  refine (dat9 V c).arrAt_forall_of_covers 4
    (fun x v => v = ((Spec.pool (Spec.bn Reals.eps 120 10 y G Be) (x 0).val (x 2).val ((x 1).val / 5) ((x 1).val % 5) : ℝ) : EReal))
    (by decide +kernel) (fun t hf z => ?_) x
  have e := KerOps.place3 (win9_4.rect t).emb (N_9 ▸ t.isLt : t.val < 120)
    (fun z a => (win9_4.rect_emb_val t z a rfl).trans (by rw [(idx9 t).2.2.2.2])) z
  show (dat9 V c).after 4 t z = (fun x : (KerOps.S3 120 25 64).Idx => ((Spec.pool (Spec.bn Reals.eps 120 10 y G Be) (x 0).val (x 2).val
    ((x 1).val / 5) ((x 1).val % 5) : ℝ) : EReal)) ((win9_4.rect t).emb z)
  rw [e, after9_4, out9, KerOps.unit3 z]
  exact hs t _ _

end Cert.KernelIdeal.Gen

end
-- ==== Proof.Gram.lean ====
/- Elimination without pivoting on a Gram matrix gives its determinant, also where a pivot is zero. -/
module

public import Idealize.ShloMosaic.PureOps.Ideal
public import Mathlib.LinearAlgebra.Matrix.Determinant.Basic

@[expose] public section

noncomputable section

namespace Cert.Spec

open Idealize.ShloMosaic

/-- The matrix of the dot products of `n` vectors with `d` coordinates. -/
def gram {n d : ℕ} (v : Fin n → Fin d → ℝ) : Matrix (Fin n) (Fin n) ℝ := fun i j => ∑ k, v i k * v j k

/-- One step of elimination: the matrix left after the first row and column are cleared. -/
def schur {n : ℕ} (G : Matrix (Fin (n + 1)) (Fin (n + 1)) ℝ) : Matrix (Fin n) (Fin n) ℝ :=
  fun i j => G i.succ j.succ - G i.succ 0 * G 0 j.succ * (G 0 0)⁻¹

/-- A Gram matrix is symmetric. -/
theorem gram_symm {n d : ℕ} (v : Fin n → Fin d → ℝ) (i j : Fin n) : gram v i j = gram v j i :=
  Finset.sum_congr rfl fun k _ => mul_comm _ _

/-- Where the first diagonal entry of a Gram matrix is zero, so is its first column. -/
theorem gram_col_zero {n d : ℕ} (v : Fin (n + 1) → Fin d → ℝ) (h : gram v 0 0 = 0) (i : Fin (n + 1)) : gram v i 0 = 0 := by
  have hz : ∀ k, v 0 k = 0 := fun k => by
    have := (Finset.sum_eq_zero_iff_of_nonneg (fun k _ => mul_self_nonneg (v 0 k))).1 h k (Finset.mem_univ k)
    exact mul_self_eq_zero.1 this
  exact Finset.sum_eq_zero fun k _ => by rw [hz, mul_zero]

/-- What elimination leaves of a Gram matrix is the Gram matrix of the projected vectors. -/
theorem schur_gram {n d : ℕ} (v : Fin (n + 1) → Fin d → ℝ) :
    schur (gram v) = gram fun i k => v i.succ k - gram v i.succ 0 * (gram v 0 0)⁻¹ * v 0 k := by
  funext i j
  have e : ∀ (a b : ℝ), ∑ k, (v i.succ k - a * v 0 k) * (v j.succ k - b * v 0 k)
      = gram v i.succ j.succ - b * gram v i.succ 0 - a * gram v 0 j.succ + a * b * gram v 0 0 := fun a b => by
    simp only [gram, Finset.mul_sum, ← Finset.sum_sub_distrib, ← Finset.sum_add_distrib]
    exact Finset.sum_congr rfl fun k _ => by ring
  show schur (gram v) i j = ∑ k, _
  rw [e, schur, gram_symm v j.succ 0]
  by_cases h : gram v 0 0 = 0
  · rw [h, inv_zero]; ring
  · field_simp; ring

/-- The determinant of a Gram matrix is its first diagonal entry times the determinant of what elimination leaves. -/
theorem det_gram_succ {n d : ℕ} (v : Fin (n + 1) → Fin d → ℝ) :
    (gram v).det = gram v 0 0 * (schur (gram v)).det := by
  let c : Fin (n + 1) → ℝ := fun i => if i = 0 then 0 else gram v i 0 * (gram v 0 0)⁻¹
  let A : Matrix (Fin (n + 1)) (Fin (n + 1)) ℝ := fun i j => gram v i j - c i * gram v 0 j
  have hA : (gram v).det = A.det := Matrix.det_eq_of_forall_row_eq_smul_add_const c 0 (if_pos rfl) fun i j => by
    show gram v i j = A i j + c i * A 0 j
    simp only [A, c, if_pos, zero_mul, sub_zero]; ring
  rw [hA, Matrix.det_succ_column_zero, Fin.sum_univ_succ]
  have hz : ∀ i : Fin n, A i.succ 0 = 0 := fun i => by
    show gram v i.succ 0 - c i.succ * gram v 0 0 = 0
    by_cases h : gram v 0 0 = 0
    · rw [h, gram_col_zero v h]; ring
    · simp only [c, Fin.succ_ne_zero, if_false]; field_simp; ring
  rw [Finset.sum_eq_zero fun i _ => by rw [hz i]; ring]
  have h0 : A 0 0 = gram v 0 0 := by simp [A, c]
  rw [h0, Fin.val_zero, pow_zero, one_mul, add_zero]
  congr 2
  funext i j
  show A i.succ (Fin.succAbove 0 j) = _
  simp only [A, c, Fin.succAbove_zero, schur, Fin.succ_ne_zero, if_false]; ring

/-- The determinant of the empty matrix is one, of a single entry the entry. -/
theorem det_gram_one {d : ℕ} (v : Fin 1 → Fin d → ℝ) : (gram v).det = gram v 0 0 := Matrix.det_fin_one _

/-- The elimination step written with a quotient over the extended reals, at an entry of a Gram matrix: it is the real
    step's entry, also where the pivot is zero. -/
theorem schur_ideal {n d : ℕ} (v : Fin (n + 1) → Fin d → ℝ) (i j : Fin n) :
    (gram v i.succ j.succ : EReal) - (gram v i.succ 0 : EReal) * (gram v 0 j.succ : EReal) * Ideal.div 1 (gram v 0 0 : EReal)
      = (schur (gram v) i j : EReal) := by
  by_cases h : gram v 0 0 = 0
  · rw [gram_col_zero v h, schur, h, gram_col_zero v h]
    simp
  · rw [Ideal.div_coe h, one_mul, schur, one_div]
    norm_cast

end Cert.Spec

end
-- ==== Proof.KerSimplex.lean ====
module
public import proofs.«01_k».proof.Proof.KerShapes
public import proofs.«01_k».proof.Proof.Gram
@[expose] public section
set_option maxRecDepth 16384

/-!
# The kernel's quotient of Gram determinants

The Gram matrices are put together from the dot products of the class features with one another and with the query features, and
their determinants are found by elimination. Every step is of one entry, so it is followed at one index; there the matrices left by
the elimination are again Gram matrices, of the projected vectors.
-/

noncomputable section

namespace Cert.Spec

open Idealize.ShloMosaic

/-- The vectors that elimination leaves. -/
def proj {n d : ℕ} (v : Fin (n + 1) → Fin d → ℝ) : Fin n → Fin d → ℝ :=
  fun i k => v i.succ k - gram v i.succ 0 * (gram v 0 0)⁻¹ * v 0 k

/-- The determinant is the first diagonal entry times the determinant of the vectors left. -/
theorem det_proj {n d : ℕ} (v : Fin (n + 1) → Fin d → ℝ) : (gram v).det = gram v 0 0 * (gram (proj v)).det := by
  rw [det_gram_succ, schur_gram]
  rfl

/-- One step of elimination over the extended reals, from the entries on and above the diagonal. -/
theorem proj_ideal {n d : ℕ} (v : Fin (n + 1) → Fin d → ℝ) (i j : Fin n) :
    ((gram v i.succ j.succ : ℝ) : EReal) - ((gram v 0 i.succ : ℝ) : EReal) * ((gram v 0 j.succ : ℝ) : EReal)
      * Ideal.div 1 ((gram v 0 0 : ℝ) : EReal) = ((gram (proj v) i j : ℝ) : EReal) := by
  rw [gram_symm v 0 i.succ]
  refine (schur_ideal v i j).trans ?_
  rw [schur_gram]
  rfl

end Cert.Spec

namespace Cert.KerOps

open Idealize.ShloMosaic Cert.RefOps

/-! ## Elimination -/

/-- One step of elimination, entry by entry. -/
def elimM {n : ℕ} {s : Shape} (G : Fin (n + 1) → Fin (n + 1) → FVec Ideal s .f32) : Fin n → Fin n → FVec Ideal s .f32 := fun i j =>
  subf (G i.succ j.succ) (mulf (mulf (G 0 i.succ) (G 0 j.succ))
    (divf (broadcast s (Scalar.ofBits .f32 0x3F800000#32)) (G 0 0)))

/-- The product of the pivots of five rows. -/
def elim5 {s : Shape} (G : Fin 5 → Fin 5 → FVec Ideal s .f32) : FVec Ideal s .f32 :=
  mulf (mulf (mulf (mulf (G 0 0) (elimM G 0 0)) (elimM (elimM G) 0 0)) (elimM (elimM (elimM G)) 0 0)) (elimM (elimM (elimM (elimM G))) 0 0)

/-- The product of the pivots of four rows. -/
def elim4 {s : Shape} (G : Fin 4 → Fin 4 → FVec Ideal s .f32) : FVec Ideal s .f32 :=
  mulf (mulf (mulf (G 0 0) (elimM G 0 0)) (elimM (elimM G) 0 0)) (elimM (elimM (elimM G)) 0 0)

/-- At an index the entries on and above the diagonal are those of a Gram matrix. -/
def IsGram {n d : ℕ} {s : Shape} (G : Fin n → Fin n → FVec Ideal s .f32) (z : s.Idx) (v : Fin n → Fin d → ℝ) : Prop :=
  ∀ i j, i ≤ j → G i j z = ((Spec.gram v i j : ℝ) : EReal)

theorem ofBits_one : Ideal.ofBits .f32 0x3F800000#32 = (1 : EReal) := by
  simp [Ideal.ofBits, Ideal.ieee, -EReal.coe_mul]; norm_num

theorem isGram_elim {n d : ℕ} {s : Shape} {G : Fin (n + 1) → Fin (n + 1) → FVec Ideal s .f32} {z : s.Idx} {v : Fin (n + 1) → Fin d → ℝ}
    (h : IsGram G z v) : IsGram (elimM G) z (Spec.proj v) := fun i j hij => by
  show G i.succ j.succ z - G 0 i.succ z * G 0 j.succ z * Ideal.div (Ideal.ofBits .f32 0x3F800000#32) (G 0 0 z) = _
  rw [h i.succ j.succ (Fin.succ_le_succ_iff.mpr hij), h 0 i.succ (Fin.zero_le _), h 0 j.succ (Fin.zero_le _), h 0 0 le_rfl, ofBits_one]
  exact Spec.proj_ideal v i j

theorem elim5_coe {d : ℕ} {s : Shape} {G : Fin 5 → Fin 5 → FVec Ideal s .f32} {z : s.Idx} {v : Fin 5 → Fin d → ℝ} (h : IsGram G z v) :
    elim5 G z = (((Spec.gram v).det : ℝ) : EReal) := by
  have h1 := isGram_elim h
  have h2 := isGram_elim h1
  have h3 := isGram_elim h2
  have h4 := isGram_elim h3
  show G 0 0 z * elimM G 0 0 z * elimM (elimM G) 0 0 z * elimM (elimM (elimM G)) 0 0 z * elimM (elimM (elimM (elimM G))) 0 0 z = _
  rw [h 0 0 le_rfl, h1 0 0 le_rfl, h2 0 0 le_rfl, h3 0 0 le_rfl, h4 0 0 le_rfl, Spec.det_proj, Spec.det_proj, Spec.det_proj,
    Spec.det_proj, Spec.det_gram_one, ← EReal.coe_mul, ← EReal.coe_mul, ← EReal.coe_mul, ← EReal.coe_mul]
  congr 1
  ring

theorem elim4_coe {d : ℕ} {s : Shape} {G : Fin 4 → Fin 4 → FVec Ideal s .f32} {z : s.Idx} {v : Fin 4 → Fin d → ℝ} (h : IsGram G z v) :
    elim4 G z = (((Spec.gram v).det : ℝ) : EReal) := by
  have h1 := isGram_elim h
  have h2 := isGram_elim h1
  have h3 := isGram_elim h2
  show G 0 0 z * elimM G 0 0 z * elimM (elimM G) 0 0 z * elimM (elimM (elimM G)) 0 0 z = _
  rw [h 0 0 le_rfl, h1 0 0 le_rfl, h2 0 0 le_rfl, h3 0 0 le_rfl, Spec.det_proj, Spec.det_proj, Spec.det_proj,
    Spec.det_gram_one, ← EReal.coe_mul, ← EReal.coe_mul, ← EReal.coe_mul]
  congr 1
  ring

/-! ## The dot products -/

/-- The product of the query features with the class features. -/
abbrev crossDims (wf : DotDims.WF (S2 15 1600) (S2 25 1600) (S2 15 25) [1] [1] [0] [0] [] []) :
    DotDims (S2 15 1600) (S2 25 1600) (S2 15 25) where
  lhsContracting := [1]
  rhsContracting := [1]
  lhsNonContracting := [0]
  rhsNonContracting := [0]
  lhsBatch := []
  rhsBatch := []
  wf := wf

/-- The shape conditions of the last call. -/
structure SimplexFacts : Prop where
  wf : DotDims.WF (S2 15 1600) (S2 25 1600) (S2 15 25) [1] [1] [0] [0] [] []
  c25 : (S3 1 25 1600).ShapeCasts (S2 25 1600)
  c15 : (S3 1 15 1600).ShapeCasts (S2 15 1600)
  su : ∀ i : Fin 5, (S2 25 1600).Slices ![5 * (i : ℕ), 0] (S2 5 1600)
  sp : ∀ i : Fin 5, (S2 15 25).Slices ![0, 5 * (i : ℕ)] (S2 15 5)
  rd : (S2 5 1600).Reduces [1] (S1 5)
  rm : (S2 15 1600).Reduces [1] (S1 15)
  cm : (S1 15).ShapeCasts (S2 15 1)
  cd : (S1 5).ShapeCasts (S2 1 5)
  bd : (S2 1 5).Broadcasts (S2 15 5)
  bm : (S2 15 1).Broadcasts (S2 15 5)
  co : (S2 15 5).ShapeCasts (S3 1 15 5)

theorem simplexFacts : SimplexFacts := by constructor <;> decide +kernel

/-- The features of the five classes' images in one position. -/
def feat (x : FVec Ideal (S3 1 25 1600) .f32) (i : Fin 5) : FVec Ideal (S2 5 1600) .f32 :=
  extractStridedSlice (S2 5 1600) ![5 * (i : ℕ), 0] (shapeCast (S2 25 1600) x simplexFacts.c25) (simplexFacts.su i)

/-- The dot products of two positions, class by class. -/
def dots (x : FVec Ideal (S3 1 25 1600) .f32) (i j : Fin 5) : FVec Ideal (S1 5) .f32 :=
  multiReduction .add [1] (S1 5) (mulf (feat x i) (feat x j)) 0x00000000#32 simplexFacts.rd (.inl rfl) rfl

/-- The dot products of the queries with one position. -/
def cross (x : FVec Ideal (S3 1 25 1600) .f32) (y : FVec Ideal (S3 1 15 1600) .f32) (i : Fin 5) : FVec Ideal (S2 15 5) .f32 :=
  extractStridedSlice (S2 15 5) ![0, 5 * (i : ℕ)] (matmul (crossDims simplexFacts.wf) (some .fp32) (shapeCast (S2 15 1600) y simplexFacts.c15)
    (shapeCast (S2 25 1600) x simplexFacts.c25) (constant (S2 15 25) .f32 0x00000000#32)) (simplexFacts.sp i)

/-- The squared lengths of the queries. -/
def norms (y : FVec Ideal (S3 1 15 1600) .f32) : FVec Ideal (S2 15 1) .f32 :=
  shapeCast (S2 15 1) (multiReduction .add [1] (S1 15) (mulf (shapeCast (S2 15 1600) y simplexFacts.c15) (shapeCast (S2 15 1600) y simplexFacts.c15))
    0x00000000#32 simplexFacts.rm (.inl rfl) rfl : FVec Ideal (S1 15) .f32) simplexFacts.cm

/-- The Gram matrix of the class features less the query. -/
def gramB (x : FVec Ideal (S3 1 25 1600) .f32) (y : FVec Ideal (S3 1 15 1600) .f32) (i j : Fin 5) : FVec Ideal (S2 15 5) .f32 :=
  addf (subf (subf (broadcastTo (S2 15 5) (shapeCast (S2 1 5) (dots x i j) simplexFacts.cd) simplexFacts.bd) (cross x y i)) (cross x y j))
    (broadcastTo (S2 15 5) (norms y) simplexFacts.bm)

/-- The Gram matrix of the class features less the first of them. -/
def gramA (x : FVec Ideal (S3 1 25 1600) .f32) (i j : Fin 4) : FVec Ideal (S2 1 5) .f32 :=
  shapeCast (S2 1 5) (addf (subf (subf (dots x i.succ j.succ) (dots x 0 i.succ)) (dots x 0 j.succ)) (dots x 0 0)) simplexFacts.cd

/-- What the last call stores. -/
def simplexOut (x : FVec Ideal (S3 1 25 1600) .f32) (y : FVec Ideal (S3 1 15 1600) .f32) : FVec Ideal (S3 1 15 5) .f32 :=
  shapeCast (S3 1 15 5) (subf (broadcast (S2 15 5) (Scalar.ofBits .f32 0x00000000#32))
    (divf (elim5 (gramB x y)) (broadcastTo (S2 15 5) (elim4 (gramA x)) simplexFacts.bd))) simplexFacts.co

/-! ## Their values -/

/-- A sum over the last axis of rank two, at an index. -/
theorem sum_last2 {a b : ℕ} (x : FVec Ideal (S2 a b) .f32) (w : BitVec 32) (h : (S2 a b).Reduces [1] (S1 a))
    (hf : FKind.Formats FTy.f32) (hw : w = FKind.add.neutral .f32 hf) (j : Fin a) :
    multiReduction .add [1] (S1 a) x w h hf hw (ix1 j) = ∑ i : Fin b, x (ix2 j i) := by
  rw [Ideal.multiReduction_add_single]
  refine Finset.sum_congr rfl fun i _ => congrArg x (funext fun e => Fin.ext ?_)
  match e with
  | ⟨0, _⟩ => rfl
  | ⟨1, _⟩ => rfl

/-- Dropping a leading axis of extent one. -/
theorem drop_apply {α : Type} {n p : ℕ} (x : (S3 1 n p).Idx → α) (h : (S3 1 n p).ShapeCasts (S2 n p)) (i : Fin n) (j : Fin p) :
    shapeCast (S2 n p) x h (ix2 i j) = x (ix3 0 i j) :=
  shapeCast_apply x h _ _ (by
    rw [Shape.rowMajor_val_two, Shape.rowMajor_val_three]
    show (0 * n + i.val) * p + j.val = i.val * p + j.val
    rw [Nat.zero_mul, Nat.zero_add])

/-- The class features are the reals `S position class coordinate`. -/
def IsClass (x : FVec Ideal (S3 1 25 1600) .f32) (S : Fin 5 → Fin 5 → Fin 1600 → ℝ) : Prop :=
  ∀ (i m : Fin 5) (k : Fin 1600), x (ix3 0 ⟨5 * i.val + m.val, by omega⟩ k) = ((S i m k : ℝ) : EReal)

/-- The query features are the reals `Q query coordinate`. -/
def IsQuery (y : FVec Ideal (S3 1 15 1600) .f32) (Q : Fin 15 → Fin 1600 → ℝ) : Prop :=
  ∀ (r : Fin 15) (k : Fin 1600), y (ix3 0 r k) = ((Q r k : ℝ) : EReal)

section
variable {x : FVec Ideal (S3 1 25 1600) .f32} {y : FVec Ideal (S3 1 15 1600) .f32}
  {S : Fin 5 → Fin 5 → Fin 1600 → ℝ} {Q : Fin 15 → Fin 1600 → ℝ}

theorem feat_coe (hx : IsClass x S) (i m : Fin 5) (k : Fin 1600) : feat x i (ix2 m k) = ((S i m k : ℝ) : EReal) := by
  unfold feat
  rw [extractStridedSlice_apply _ _ _ _ (ix2 ⟨5 * i.val + m.val, by omega⟩ k) (fun a => by
    match a with
    | ⟨0, _⟩ => rfl
    | ⟨1, _⟩ => exact (Nat.zero_add _).symm), drop_apply]
  exact hx i m k

theorem dots_coe (hx : IsClass x S) (i j m : Fin 5) : dots x i j (ix1 m) = ((∑ k, S i m k * S j m k : ℝ) : EReal) := by
  refine (sum_last2 (mulf (feat x i) (feat x j)) _ _ _ _ m).trans ?_
  rw [Reals.coe_sum]
  refine Finset.sum_congr rfl fun k _ => ?_
  show feat x i (ix2 m k) * feat x j (ix2 m k) = _
  rw [feat_coe hx, feat_coe hx, EReal.coe_mul]

theorem cross_coe (hx : IsClass x S) (hy : IsQuery y Q) (i m : Fin 5) (r : Fin 15) :
    cross x y i (ix2 r m) = ((∑ k, Q r k * S i m k : ℝ) : EReal) := by
  unfold cross
  rw [extractStridedSlice_apply _ _ _ _ (ix2 r (⟨5 * i.val + m.val, by omega⟩ : Fin 25)) (fun a => by
    match a with
    | ⟨0, _⟩ => exact (Nat.zero_add _).symm
    | ⟨1, _⟩ => rfl)]
  show Ideal.matmul (crossDims simplexFacts.wf) _ _ (constant (F := Ideal) (S2 15 25) .f32 0x00000000#32) _ = _
  rw [Ideal.matmul_apply₁_of (crossDims simplexFacts.wf) (a := 1) rfl (K := 1600) rfl _ _ _ _ (fun k => ix2 r k)
    (fun k => ix2 ⟨5 * i.val + m.val, by omega⟩ k)]
  · show Ideal.ofBits .f32 0x00000000#32 + _ = _
    rw [Reals.ofBits_zero, EReal.coe_zero, zero_add, Reals.coe_sum]
    refine Finset.sum_congr rfl fun k _ => ?_
    rw [drop_apply, drop_apply, hy, hx, EReal.coe_mul]
  · intro k
    funext a
    match a with
    | ⟨0, _⟩ => exact Fin.ext rfl
    | ⟨1, _⟩ => exact Fin.ext rfl
  · intro k
    funext a
    match a with
    | ⟨0, _⟩ => exact Fin.ext rfl
    | ⟨1, _⟩ => exact Fin.ext rfl

theorem norms_coe (hy : IsQuery y Q) (r : Fin 15) : norms y (ix2 r 0) = ((∑ k, Q r k * Q r k : ℝ) : EReal) := by
  unfold norms
  rw [shapeCast_apply _ _ (ix2 r 0) (ix1 r) (by
    rw [Shape.rowMajor_val_one, Shape.rowMajor_val_two]
    show r.val = r.val * 1 + 0
    omega)]
  refine (sum_last2 (mulf (shapeCast (S2 15 1600) y simplexFacts.c15) (shapeCast (S2 15 1600) y simplexFacts.c15)) _ _ _ _ r).trans ?_
  rw [Reals.coe_sum]
  refine Finset.sum_congr rfl fun k _ => ?_
  show shapeCast (S2 15 1600) y simplexFacts.c15 (ix2 r k) * shapeCast (S2 15 1600) y simplexFacts.c15 (ix2 r k) = _
  rw [drop_apply, hy, EReal.coe_mul]

theorem gramB_coe (hx : IsClass x S) (hy : IsQuery y Q) (r : Fin 15) (m : Fin 5) :
    IsGram (gramB x y) (ix2 r m) (fun i k => S i m k - Q r k) := fun i j _ => by
  show broadcastTo (S2 15 5) (shapeCast (S2 1 5) (dots x i j) simplexFacts.cd) simplexFacts.bd (ix2 r m) - cross x y i (ix2 r m)
    - cross x y j (ix2 r m) + broadcastTo (S2 15 5) (norms y) simplexFacts.bm (ix2 r m) = _
  rw [broadcastTo_apply _ _ (ix2 r m) (ix2 0 m) (fun a => by
      match a with
      | ⟨0, _⟩ => rfl
      | ⟨1, _⟩ => rfl), broadcastTo_apply _ _ (ix2 r m) (ix2 r 0) (fun a => by
      match a with
      | ⟨0, _⟩ => rfl
      | ⟨1, _⟩ => rfl), unrow_apply, dots_coe hx, cross_coe hx hy, cross_coe hx hy, norms_coe hy, ← EReal.coe_sub, ← EReal.coe_sub,
    ← EReal.coe_add]
  congr 1
  unfold Spec.gram
  rw [← Finset.sum_sub_distrib, ← Finset.sum_sub_distrib, ← Finset.sum_add_distrib]
  exact Finset.sum_congr rfl fun k _ => by ring

theorem gramA_coe (hx : IsClass x S) (m : Fin 5) : IsGram (gramA x) (ix2 0 m) (fun i k => S i.succ m k - S 0 m k) := fun i j _ => by
  unfold gramA
  rw [unrow_apply]
  show dots x i.succ j.succ (ix1 m) - dots x 0 i.succ (ix1 m) - dots x 0 j.succ (ix1 m) + dots x 0 0 (ix1 m) = _
  rw [dots_coe hx, dots_coe hx, dots_coe hx, dots_coe hx, ← EReal.coe_sub, ← EReal.coe_sub, ← EReal.coe_add]
  congr 1
  unfold Spec.gram
  rw [← Finset.sum_sub_distrib, ← Finset.sum_sub_distrib, ← Finset.sum_add_distrib]
  exact Finset.sum_congr rfl fun k _ => by ring

/-- The last call's value: the quotient of the two Gram determinants, negated. -/
theorem simplexOut_coe (hx : IsClass x S) (hy : IsQuery y Q) (r : Fin 15) (m : Fin 5) :
    simplexOut x y (ix3 0 r m) = 0 - Ideal.div (((Spec.gram fun i k => S i m k - Q r k).det : ℝ) : EReal)
      (((Spec.gram fun (i : Fin 4) k => S i.succ m k - S 0 m k).det : ℝ) : EReal) := by
  unfold simplexOut
  rw [shapeCast_apply _ _ (ix3 0 r m) (ix2 r m) (by
    rw [Shape.rowMajor_val_two, Shape.rowMajor_val_three]
    show r.val * 5 + m.val = (0 * 15 + r.val) * 5 + m.val
    omega)]
  show Ideal.ofBits .f32 0x00000000#32 - Ideal.div (elim5 (gramB x y) (ix2 r m))
    (broadcastTo (S2 15 5) (elim4 (gramA x)) simplexFacts.bd (ix2 r m)) = _
  rw [broadcastTo_apply _ _ (ix2 r m) (ix2 0 m) (fun a => by
      match a with
      | ⟨0, _⟩ => rfl
      | ⟨1, _⟩ => rfl), elim5_coe (gramB_coe hx hy r m), elim4_coe (gramA_coe hx m), Reals.ofBits_zero, EReal.coe_zero]

end

end Cert.KerOps

end
-- ==== Proof.Region10.lean ====
module
public import proofs.«01_k».proof.Proof.Gen.KernelIdeal.Frame
public import proofs.«01_k».proof.Proof.KerSimplex
public import proofs.«01_k».proof.Proof.KerPlace
@[expose] public section
set_option maxRecDepth 16384

/-!
# The last call

What the array holds after the call, of what the arrays held before it.
-/

noncomputable section

namespace Cert.KernelIdeal.Gen

open Idealize.ShloMosaic Cert.KernelIdeal

variable (V : Dev nD → (b : Ref sig .tc) → b.ty.Contents (Elt Ideal))

/-- The five rows' pivots, of the entries and the first elimination step. -/
theorem pivots5 (G : Fin 5 → Fin 5 → FVec Ideal S15x5 .f32) :
    k10_pay50 (G 0 0) (G 0 2) (G 0 3) (G 0 4) (G 2 3) (G 2 4) (G 3 3) (G 3 4) (G 4 4) (k10_pay44 (G 0 0))
      (KerOps.elimM G 0 0) (KerOps.elimM G 0 1) (KerOps.elimM G 0 2) (KerOps.elimM G 0 3) (KerOps.elimM G 1 1) = KerOps.elim5 G := rfl

/-- The stored quotient, of the four rows' entries and the first elimination step. -/
theorem quotient (d : FVec Ideal S15x5 .f32) (A : Fin 4 → Fin 4 → FVec Ideal S1x5 .f32) :
    k10_pay1 d (KerOps.elimM A 0 0) (KerOps.elimM A 0 1) (KerOps.elimM A 0 2) (KerOps.elimM A 1 1) (KerOps.elimM A 1 2) (KerOps.elimM A 2 2)
      (mulf (A 0 0) (KerOps.elimM A 0 0)) = shapeCast S1x15x5 (subf (broadcast S15x5 (Scalar.ofBits .f32 0x00000000#32))
        (divf d (broadcastTo S15x5 (KerOps.elim4 A) KerOps.simplexFacts.bd))) KerOps.simplexFacts.co := rfl

/-- The dot products the call names, of the whole blocks. -/
theorem named10 (x : Vec Ideal S1x25x1600 .f32) (y : Vec Ideal S1x15x1600 .f32) :
    k10_pay66 x y = KerOps.cross x y 0
    ∧ k10_pay67 x y = KerOps.cross x y 1
    ∧ k10_pay68 x y = KerOps.cross x y 2
    ∧ k10_pay69 x y = KerOps.cross x y 3
    ∧ k10_pay70 x y = KerOps.cross x y 4
    ∧ k10_pay71 x y = KerOps.norms y
    ∧ k10_pay72 x y = KerOps.dots x 0 0
    ∧ k10_pay73 x y = KerOps.dots x 0 1
    ∧ k10_pay74 x y = KerOps.dots x 0 2
    ∧ k10_pay75 x y = KerOps.dots x 0 3
    ∧ k10_pay76 x y = KerOps.dots x 0 4
    ∧ k10_pay77 x y = KerOps.dots x 1 1
    ∧ k10_pay78 x y = KerOps.dots x 1 2
    ∧ k10_pay79 x y = KerOps.dots x 1 3
    ∧ k10_pay80 x y = KerOps.dots x 1 4
    ∧ k10_pay81 x y = KerOps.dots x 2 2
    ∧ k10_pay82 x y = KerOps.dots x 2 3
    ∧ k10_pay83 x y = KerOps.dots x 2 4
    ∧ k10_pay84 x y = KerOps.dots x 3 3
    ∧ k10_pay85 x y = KerOps.dots x 3 4
    ∧ k10_pay86 x y = KerOps.dots x 4 4 := by
  have e0 : View.ld x r10_0 = x := View.ld_unit_lit' _ _ (by decide)
  have e1 : View.ld y r10_1 = y := View.ld_unit_lit' _ _ (by decide)
  unfold k10_pay66 k10_pay67 k10_pay68 k10_pay69 k10_pay70 k10_pay71 k10_pay72 k10_pay73 k10_pay74 k10_pay75 k10_pay76 k10_pay77 k10_pay78
    k10_pay79 k10_pay80 k10_pay81 k10_pay82 k10_pay83 k10_pay84 k10_pay85 k10_pay86 k10_pay64 k10_pay65
  rw [e0, e1]
  refine ⟨rfl, rfl, rfl, rfl, rfl, rfl, rfl, rfl, rfl, rfl, rfl, rfl, rfl, rfl, rfl, rfl, rfl, rfl, rfl, rfl, rfl⟩

/-- What the call stores, of its blocks. -/
theorem store10 (x : Vec Ideal S1x25x1600 .f32) (y : Vec Ideal S1x15x1600 .f32) : out10_2 x y = KerOps.simplexOut x y := by
  obtain ⟨h66, h67, h68, h69, h70, h71, h72, h73, h74, h75, h76, h77, h78, h79, h80, h81, h82, h83, h84, h85, h86⟩ := named10 x y
  refine (View.canon_cons_unit_lit' _ _ _ (by decide)).trans ?_
  refine Eq.trans ?_ (quotient (KerOps.elim5 (KerOps.gramB x y)) (KerOps.gramA x))
  rw [← pivots5]
  unfold k10_pay87 k10_pay88 k10_pay89 k10_pay90 k10_pay91 k10_pay92
  rw [h66, h67, h68, h69, h70, h71, h72, h73, h74, h75, h76, h77, h78, h79, h80, h81, h82, h83, h84, h85, h86]
  rfl

/-- The windows' index maps of the call. -/
theorem idx10 : ∀ t : Fin cfg10.N, win10_0.index t = ![t.val, 0, 0] ∧ win10_1.index t = ![t.val, 0, 0]
    ∧ win10_2.index t = ![t.val, 0, 0] := (by decide +kernel : ∀ t : Fin grid10.N, _)

/-- The negated quotient of the Gram determinants of a task, a query and a class. -/
def ratio (S : Fin 8 → Fin 5 → Fin 5 → Fin 1600 → ℝ) (Q : Fin 8 → Fin 15 → Fin 1600 → ℝ) (x : (KerOps.S3 8 15 5).Idx) : EReal :=
  0 - Ideal.div (((Spec.gram fun i k => S (x 0) i (x 2) k - Q (x 0) (x 1) k).det : ℝ) : EReal)
    (((Spec.gram fun (i : Fin 4) k => S (x 0) i.succ (x 2) k - S (x 0) 0 (x 2) k).det : ℝ) : EReal)

section
variable (c : Dev nD) {S : Fin 8 → Fin 5 → Fin 5 → Fin 1600 → ℝ} {Q : Fin 8 → Fin 15 → Fin 1600 → ℝ}

/-- The class features a point reads. -/
theorem class10 (hx : ∀ t : Fin 8, KerOps.IsClass (fun x => V c main_v41 (ix3 t (x 1) (x 2))) (S t)) (t : Fin cfg10.N) :
    KerOps.IsClass (iblk10 V c 0 t) (S ⟨t.val, N_10 ▸ t.isLt⟩) := fun i m k =>
  (congrArg (V c main_v41) (KerOps.place3 (win10_0.rect t).emb (N_10 ▸ t.isLt : t.val < 8)
    (fun z a => (win10_0.rect_emb_val t z a rfl).trans (by rw [(idx10 t).1])) (ix3 0 ⟨5 * i.val + m.val, by omega⟩ k))).trans
      (hx ⟨t.val, N_10 ▸ t.isLt⟩ i m k)

/-- The query features a point reads. -/
theorem query10 (hy : ∀ t : Fin 8, KerOps.IsQuery (fun x => V c main_v42 (ix3 t (x 1) (x 2))) (Q t)) (t : Fin cfg10.N) :
    KerOps.IsQuery (iblk10 V c 1 t) (Q ⟨t.val, N_10 ▸ t.isLt⟩) := fun r k =>
  (congrArg (V c main_v42) (KerOps.place3 (win10_1.rect t).emb (N_10 ▸ t.isLt : t.val < 8)
    (fun z a => (win10_1.rect_emb_val t z a rfl).trans (by rw [(idx10 t).2.1])) (ix3 0 r k))).trans
      (hy ⟨t.val, N_10 ▸ t.isLt⟩ r k)

/-- A stored value of a point. -/
theorem value10 (hx : ∀ t : Fin 8, KerOps.IsClass (fun x => V c main_v41 (ix3 t (x 1) (x 2))) (S t))
    (hy : ∀ t : Fin 8, KerOps.IsQuery (fun x => V c main_v42 (ix3 t (x 1) (x 2))) (Q t)) (t : Fin cfg10.N) (r : Fin 15) (m : Fin 5) :
    KerOps.simplexOut (iblk10 V c 0 t) (iblk10 V c 1 t) (ix3 0 r m) = ratio S Q (ix3 ⟨t.val, N_10 ▸ t.isLt⟩ r m) := by
  rw [KerOps.simplexOut_coe (class10 V c hx t) (query10 V c hy t) r m]
  unfold ratio
  rfl

/-- The call: the negated quotients of the Gram determinants, for every task. -/
theorem region10 (hx : ∀ t : Fin 8, KerOps.IsClass (fun x => V c main_v41 (ix3 t (x 1) (x 2))) (S t))
    (hy : ∀ t : Fin 8, KerOps.IsQuery (fun x => V c main_v42 (ix3 t (x 1) (x 2))) (Q t))
    (x : (KerOps.S3 8 15 5).Idx) : (dat10 V c).arrAt 2 cfg10.N x = ratio S Q x := by
  refine (dat10 V c).arrAt_forall_of_covers 2 (fun x v => v = ratio S Q x) (by decide +kernel) (fun t hf z => ?_) x
  have e := KerOps.place3 (win10_2.rect t).emb (N_10 ▸ t.isLt : t.val < 8)
    (fun z a => (win10_2.rect_emb_val t z a rfl).trans (by rw [(idx10 t).2.2])) z
  show (dat10 V c).after 2 t z = (fun x : (KerOps.S3 8 15 5).Idx => ratio S Q x) ((win10_2.rect t).emb z)
  rw [e, after10_2, store10, KerOps.unit3 z]
  exact value10 V c hx hy t _ _

end

end Cert.KernelIdeal.Gen

end
-- ==== Proof.KerRun.lean ====
module
public import proofs.«01_k».proof.Proof.KerHosts
public import proofs.«01_k».proof.Proof.Net
public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Region5
public import proofs.«01_k».proof.Proof.Region6
public import proofs.«01_k».proof.Proof.Region7
public import proofs.«01_k».proof.Proof.Region8
public import proofs.«01_k».proof.Proof.Region9
public import proofs.«01_k».proof.Proof.Region10
@[expose] public section
set_option maxRecDepth 16384

/-!
# The kernel's calls in order

Each call's arrays are read by the next one: the support images through five calls, the query images through five, and the last
call of the features of both.
-/

noncomputable section

namespace Cert.KernelIdeal.Gen

open Idealize.ShloMosaic Idealize.ShloMosaic.TcCoe Cert.KernelIdeal Cert.RefOps Cert.KerOps

variable (m : (ℓ : Loc nD τ sig) → Buf (Elt Ideal) ℓ) (ρ : Dev nD → PrngReg) (c : Dev nD) {P : Spec.Net} (X : Spec.Img)

/-- The arguments of a device hold the network's parameters. -/
def Holds (P : Spec.Net) : Prop := Reads (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13))
  (m ((c : Thread nD τ).loc main_arg14)) (m ((c : Thread nD τ).loc main_arg15)) (m ((c : Thread nD τ).loc main_arg16))
  (m ((c : Thread nD τ).loc main_arg17)) (m ((c : Thread nD τ).loc main_arg18)) P

/-! ## What the host's buffers hold -/

theorem holds_v2 (h : Holds m c P) : IsFirstFilter (W3 m ρ c (Proc.devRef .tc main_v2)) (Spec.ext P.w1) := by
  rw [at_v2]
  exact isFirstFilter_turn _ _ _ _ _ _ h.w1
theorem holds_v4 (h : Holds m c P) : IsFilter (W3 m ρ c (Proc.devRef .tc main_v4)) P.w2 := by
  rw [at_v4]
  exact isFilter_turn _ _ _ _ h.w2
theorem holds_v6 (h : Holds m c P) : IsFilter (W3 m ρ c (Proc.devRef .tc main_v6)) P.w3 := by
  rw [at_v6]
  exact isFilter_turn _ _ _ _ h.w3
theorem holds_v8 (h : Holds m c P) : IsFilter (W3 m ρ c (Proc.devRef .tc main_v8)) P.w4 := by
  rw [at_v8]
  exact isFilter_turn _ _ _ _ h.w4
theorem holds_v9 (h : Holds m c P) : IsRow (W3 m ρ c (Proc.devRef .tc main_v9)) P.b1 := by
  rw [at_v9]
  exact isRow_cast _ _ _ h.b1
theorem holds_v10 (h : Holds m c P) : IsRow (W3 m ρ c (Proc.devRef .tc main_v10)) P.b2 := by
  rw [at_v10]
  exact isRow_cast _ _ _ h.b2
theorem holds_v11 (h : Holds m c P) : IsRow (W3 m ρ c (Proc.devRef .tc main_v11)) P.b3 := by
  rw [at_v11]
  exact isRow_cast _ _ _ h.b3
theorem holds_v12 (h : Holds m c P) : IsRow (W3 m ρ c (Proc.devRef .tc main_v12)) P.b4 := by
  rw [at_v12]
  exact isRow_cast _ _ _ h.b4
theorem holds_v13 (h : Holds m c P) : IsRow (W3 m ρ c (Proc.devRef .tc main_v13)) P.g1 := by
  rw [at_v13]
  exact isRow_cast _ _ _ h.g1
theorem holds_v14 (h : Holds m c P) : IsRow (W3 m ρ c (Proc.devRef .tc main_v14)) P.g2 := by
  rw [at_v14]
  exact isRow_cast _ _ _ h.g2
theorem holds_v15 (h : Holds m c P) : IsRow (W3 m ρ c (Proc.devRef .tc main_v15)) P.g3 := by
  rw [at_v15]
  exact isRow_cast _ _ _ h.g3
theorem holds_v16 (h : Holds m c P) : IsRow (W3 m ρ c (Proc.devRef .tc main_v16)) P.g4 := by
  rw [at_v16]
  exact isRow_cast _ _ _ h.g4
theorem holds_v17 (h : Holds m c P) : IsRow (W3 m ρ c (Proc.devRef .tc main_v17)) P.be1 := by
  rw [at_v17]
  exact isRow_cast _ _ _ h.be1
theorem holds_v18 (h : Holds m c P) : IsRow (W3 m ρ c (Proc.devRef .tc main_v18)) P.be2 := by
  rw [at_v18]
  exact isRow_cast _ _ _ h.be2
theorem holds_v19 (h : Holds m c P) : IsRow (W3 m ρ c (Proc.devRef .tc main_v19)) P.be3 := by
  rw [at_v19]
  exact isRow_cast _ _ _ h.be3
theorem holds_v20 (h : Holds m c P) : IsRow (W3 m ρ c (Proc.devRef .tc main_v20)) P.be4 := by
  rw [at_v20]
  exact isRow_cast _ _ _ h.be4

/-! ## The support images -/

/-- After the first call. -/
theorem stage0 (h : Holds m c P) (hx : ∀ n ch i j, shapeCast (S4 200 3 84 84) (m ((c : Thread nD τ).loc main_arg0))
      shapeCasts_S8x25x3x84x84_S200x3x84x84 (ix4 n ch i j) = ((X n ch i j : ℝ) : EReal)) :
    IsAct 200 84 64 (V7 m ρ c main_v26_0) (Spec.conv1 P X) ∧ IsStat 200 84 (V7 m ρ c main_v26_1) (Spec.conv1 P X) := by
  have e0 : V7 m ρ c main_v26_0 = (dat0 (V6 m ρ) c).arrAt 3 cfg0.N := W7_arr m ρ c 3
  have e1 : V7 m ρ c main_v26_1 = (dat0 (V6 m ρ) c).arrAt 4 cfg0.N := W7_arr m ρ c 4
  have hw : IsFirstFilter (V6 m ρ c main_v2) (Spec.ext P.w1) := by
    have e : V6 m ρ c main_v2 = W3 m ρ c (Proc.devRef .tc main_v2) := kept6 m ρ c main_v2 (by decide +kernel)
    rw [e]
    exact holds_v2 m ρ c h
  have hb : IsRow (V6 m ρ c main_v9) P.b1 := by
    have e : V6 m ρ c main_v9 = W3 m ρ c (Proc.devRef .tc main_v9) := kept6 m ρ c main_v9 (by decide +kernel)
    rw [e]
    exact holds_v9 m ρ c h
  have hi : ∀ n : Fin 200, IsFlat (fun x => V6 m ρ c main_v25 (ix3 n (x 1) (x 2))) (Spec.ext X) n := fun n => by
    have e : V6 m ρ c main_v25 = alongLanes input200 (shapeCast (S4 200 3 84 84) (m ((c : Thread nD τ).loc main_arg0))
      shapeCasts_S8x25x3x84x84_S200x3x84x84) := at_v25 m ρ c
    rw [e]
    exact flat_coe input200 _ X hx n
  have := region0 (V6 m ρ) c hi hw hb
  rw [e0, e1, Spec.conv1, ← Spec.convRelu_ext]
  exact this

/-- After call 1. -/
theorem stage1 (h : Holds m c P) (hp : IsAct 200 84 64 (V7 m ρ c main_v26_0) (Spec.conv1 P X) ∧ IsStat 200 84 (V7 m ρ c main_v26_1) (Spec.conv1 P X)) :
    IsAct 200 42 64 (V8 m ρ c main_v27_0) (Spec.conv2 P 200 X) ∧ IsStat 200 42 (V8 m ρ c main_v27_1) (Spec.conv2 P 200 X) := by
  have e0 : V8 m ρ c main_v27_0 = (dat1 (V7 m ρ) c).arrAt 6 cfg1.N := W8_arr m ρ c 6
  have e1 : V8 m ρ c main_v27_1 = (dat1 (V7 m ρ) c).arrAt 7 cfg1.N := W8_arr m ρ c 7
  have hw : V7 m ρ c main_v4 = W3 m ρ c (Proc.devRef .tc main_v4) := kept7 m ρ c main_v4 (by decide +kernel)
  have hb : V7 m ρ c main_v10 = W3 m ρ c (Proc.devRef .tc main_v10) := kept7 m ρ c main_v10 (by decide +kernel)
  have hg : V7 m ρ c main_v13 = W3 m ρ c (Proc.devRef .tc main_v13) := kept7 m ρ c main_v13 (by decide +kernel)
  have hbe : V7 m ρ c main_v17 = W3 m ρ c (Proc.devRef .tc main_v17) := kept7 m ρ c main_v17 (by decide +kernel)
  rw [e0, e1]
  exact region1 (V7 m ρ) c hp.1 hp.2 (hw ▸ holds_v4 m ρ c h) (hb ▸ holds_v10 m ρ c h) (hg ▸ holds_v13 m ρ c h) (hbe ▸ holds_v17 m ρ c h)

/-- After call 2. -/
theorem stage2 (h : Holds m c P) (hp : IsAct 200 42 64 (V8 m ρ c main_v27_0) (Spec.conv2 P 200 X) ∧ IsStat 200 42 (V8 m ρ c main_v27_1) (Spec.conv2 P 200 X)) :
    IsAct 200 21 64 (V9 m ρ c main_v28_0) (Spec.conv3 P 200 X) ∧ IsStat 200 21 (V9 m ρ c main_v28_1) (Spec.conv3 P 200 X) := by
  have e0 : V9 m ρ c main_v28_0 = (dat2 (V8 m ρ) c).arrAt 6 cfg2.N := W9_arr m ρ c 6
  have e1 : V9 m ρ c main_v28_1 = (dat2 (V8 m ρ) c).arrAt 7 cfg2.N := W9_arr m ρ c 7
  have hw : V8 m ρ c main_v6 = W3 m ρ c (Proc.devRef .tc main_v6) := kept8 m ρ c main_v6 (by decide +kernel)
  have hb : V8 m ρ c main_v11 = W3 m ρ c (Proc.devRef .tc main_v11) := kept8 m ρ c main_v11 (by decide +kernel)
  have hg : V8 m ρ c main_v14 = W3 m ρ c (Proc.devRef .tc main_v14) := kept8 m ρ c main_v14 (by decide +kernel)
  have hbe : V8 m ρ c main_v18 = W3 m ρ c (Proc.devRef .tc main_v18) := kept8 m ρ c main_v18 (by decide +kernel)
  rw [e0, e1]
  exact region2 (V8 m ρ) c hp.1 hp.2 (hw ▸ holds_v6 m ρ c h) (hb ▸ holds_v11 m ρ c h) (hg ▸ holds_v14 m ρ c h) (hbe ▸ holds_v18 m ρ c h)

/-- After call 3. -/
theorem stage3 (h : Holds m c P) (hp : IsAct 200 21 64 (V9 m ρ c main_v28_0) (Spec.conv3 P 200 X) ∧ IsStat 200 21 (V9 m ρ c main_v28_1) (Spec.conv3 P 200 X)) :
    IsAct 200 10 64 (V10 m ρ c main_v29_0) (Spec.conv4 P 200 X) ∧ IsStat 200 10 (V10 m ρ c main_v29_1) (Spec.conv4 P 200 X) := by
  have e0 : V10 m ρ c main_v29_0 = (dat3 (V9 m ρ) c).arrAt 6 cfg3.N := W10_arr m ρ c 6
  have e1 : V10 m ρ c main_v29_1 = (dat3 (V9 m ρ) c).arrAt 7 cfg3.N := W10_arr m ρ c 7
  have hw : V9 m ρ c main_v8 = W3 m ρ c (Proc.devRef .tc main_v8) := kept9 m ρ c main_v8 (by decide +kernel)
  have hb : V9 m ρ c main_v12 = W3 m ρ c (Proc.devRef .tc main_v12) := kept9 m ρ c main_v12 (by decide +kernel)
  have hg : V9 m ρ c main_v15 = W3 m ρ c (Proc.devRef .tc main_v15) := kept9 m ρ c main_v15 (by decide +kernel)
  have hbe : V9 m ρ c main_v19 = W3 m ρ c (Proc.devRef .tc main_v19) := kept9 m ρ c main_v19 (by decide +kernel)
  rw [e0, e1]
  exact region3 (V9 m ρ) c hp.1 hp.2 (hw ▸ holds_v8 m ρ c h) (hb ▸ holds_v12 m ρ c h) (hg ▸ holds_v15 m ρ c h) (hbe ▸ holds_v19 m ρ c h)

/-- After call 4: the features. -/
theorem stage4 (h : Holds m c P) (hp : IsAct 200 10 64 (V10 m ρ c main_v29_0) (Spec.conv4 P 200 X) ∧ IsStat 200 10 (V10 m ρ c main_v29_1) (Spec.conv4 P 200 X))
    (x : (S3 200 25 64).Idx) :
    V11 m ρ c main_v30 x = ((Spec.feats P 200 X (x 0) (x 2) ((x 1).val / 5) ((x 1).val % 5) : ℝ) : EReal) := by
  have e0 : V11 m ρ c main_v30 = (dat4 (V10 m ρ) c).arrAt 4 cfg4.N := W11_arr m ρ c 4
  have hg : V10 m ρ c main_v16 = W3 m ρ c (Proc.devRef .tc main_v16) := kept10 m ρ c main_v16 (by decide +kernel)
  have hbe : V10 m ρ c main_v20 = W3 m ρ c (Proc.devRef .tc main_v20) := kept10 m ρ c main_v20 (by decide +kernel)
  rw [e0]
  exact region4 (V10 m ρ) c hp.1 hp.2 (hg ▸ holds_v16 m ρ c h) (hbe ▸ holds_v20 m ρ c h) x

/-! ## The query images -/

/-- After the first call. -/
theorem stage5 (h : Holds m c P) (hx : ∀ n ch i j, shapeCast (S4 120 3 84 84) (m ((c : Thread nD τ).loc main_arg2))
      shapeCasts_S8x15x3x84x84_S120x3x84x84 (ix4 n ch i j) = ((X n ch i j : ℝ) : EReal)) :
    IsAct 120 84 64 (V16 m ρ c main_v34_0) (Spec.conv1 P X) ∧ IsStat 120 84 (V16 m ρ c main_v34_1) (Spec.conv1 P X) := by
  have e0 : V16 m ρ c main_v34_0 = (dat5 (V15 m ρ) c).arrAt 3 cfg5.N := W16_arr m ρ c 3
  have e1 : V16 m ρ c main_v34_1 = (dat5 (V15 m ρ) c).arrAt 4 cfg5.N := W16_arr m ρ c 4
  have hw : IsFirstFilter (V15 m ρ c main_v2) (Spec.ext P.w1) := by
    have e : V15 m ρ c main_v2 = W3 m ρ c (Proc.devRef .tc main_v2) := (kept15 m ρ c main_v2 (by decide +kernel)).trans (kept11 m ρ c main_v2 (by decide +kernel))
    rw [e]
    exact holds_v2 m ρ c h
  have hb : IsRow (V15 m ρ c main_v9) P.b1 := by
    have e : V15 m ρ c main_v9 = W3 m ρ c (Proc.devRef .tc main_v9) := (kept15 m ρ c main_v9 (by decide +kernel)).trans (kept11 m ρ c main_v9 (by decide +kernel))
    rw [e]
    exact holds_v9 m ρ c h
  have hi : ∀ n : Fin 120, IsFlat (fun x => V15 m ρ c main_v33 (ix3 n (x 1) (x 2))) (Spec.ext X) n := fun n => by
    have e : V15 m ρ c main_v33 = alongLanes input120 (shapeCast (S4 120 3 84 84) (m ((c : Thread nD τ).loc main_arg2))
      shapeCasts_S8x15x3x84x84_S120x3x84x84) := (at_v33 m ρ c).trans (congrArg (alongLanes input120) ((kept11 m ρ c main_v22 (by decide +kernel)).trans (at_v22 m ρ c)))
    rw [e]
    exact flat_coe input120 _ X hx n
  have := region5 (V15 m ρ) c hi hw hb
  rw [e0, e1, Spec.conv1, ← Spec.convRelu_ext]
  exact this

/-- After call 6. -/
theorem stage6 (h : Holds m c P) (hp : IsAct 120 84 64 (V16 m ρ c main_v34_0) (Spec.conv1 P X) ∧ IsStat 120 84 (V16 m ρ c main_v34_1) (Spec.conv1 P X)) :
    IsAct 120 42 64 (V17 m ρ c main_v35_0) (Spec.conv2 P 120 X) ∧ IsStat 120 42 (V17 m ρ c main_v35_1) (Spec.conv2 P 120 X) := by
  have e0 : V17 m ρ c main_v35_0 = (dat6 (V16 m ρ) c).arrAt 6 cfg6.N := W17_arr m ρ c 6
  have e1 : V17 m ρ c main_v35_1 = (dat6 (V16 m ρ) c).arrAt 7 cfg6.N := W17_arr m ρ c 7
  have hw : V16 m ρ c main_v4 = W3 m ρ c (Proc.devRef .tc main_v4) := (kept16 m ρ c main_v4 (by decide +kernel)).trans (kept11 m ρ c main_v4 (by decide +kernel))
  have hb : V16 m ρ c main_v10 = W3 m ρ c (Proc.devRef .tc main_v10) := (kept16 m ρ c main_v10 (by decide +kernel)).trans (kept11 m ρ c main_v10 (by decide +kernel))
  have hg : V16 m ρ c main_v13 = W3 m ρ c (Proc.devRef .tc main_v13) := (kept16 m ρ c main_v13 (by decide +kernel)).trans (kept11 m ρ c main_v13 (by decide +kernel))
  have hbe : V16 m ρ c main_v17 = W3 m ρ c (Proc.devRef .tc main_v17) := (kept16 m ρ c main_v17 (by decide +kernel)).trans (kept11 m ρ c main_v17 (by decide +kernel))
  rw [e0, e1]
  exact region6 (V16 m ρ) c hp.1 hp.2 (hw ▸ holds_v4 m ρ c h) (hb ▸ holds_v10 m ρ c h) (hg ▸ holds_v13 m ρ c h) (hbe ▸ holds_v17 m ρ c h)

/-- After call 7. -/
theorem stage7 (h : Holds m c P) (hp : IsAct 120 42 64 (V17 m ρ c main_v35_0) (Spec.conv2 P 120 X) ∧ IsStat 120 42 (V17 m ρ c main_v35_1) (Spec.conv2 P 120 X)) :
    IsAct 120 21 64 (V18 m ρ c main_v36_0) (Spec.conv3 P 120 X) ∧ IsStat 120 21 (V18 m ρ c main_v36_1) (Spec.conv3 P 120 X) := by
  have e0 : V18 m ρ c main_v36_0 = (dat7 (V17 m ρ) c).arrAt 6 cfg7.N := W18_arr m ρ c 6
  have e1 : V18 m ρ c main_v36_1 = (dat7 (V17 m ρ) c).arrAt 7 cfg7.N := W18_arr m ρ c 7
  have hw : V17 m ρ c main_v6 = W3 m ρ c (Proc.devRef .tc main_v6) := (kept17 m ρ c main_v6 (by decide +kernel)).trans (kept11 m ρ c main_v6 (by decide +kernel))
  have hb : V17 m ρ c main_v11 = W3 m ρ c (Proc.devRef .tc main_v11) := (kept17 m ρ c main_v11 (by decide +kernel)).trans (kept11 m ρ c main_v11 (by decide +kernel))
  have hg : V17 m ρ c main_v14 = W3 m ρ c (Proc.devRef .tc main_v14) := (kept17 m ρ c main_v14 (by decide +kernel)).trans (kept11 m ρ c main_v14 (by decide +kernel))
  have hbe : V17 m ρ c main_v18 = W3 m ρ c (Proc.devRef .tc main_v18) := (kept17 m ρ c main_v18 (by decide +kernel)).trans (kept11 m ρ c main_v18 (by decide +kernel))
  rw [e0, e1]
  exact region7 (V17 m ρ) c hp.1 hp.2 (hw ▸ holds_v6 m ρ c h) (hb ▸ holds_v11 m ρ c h) (hg ▸ holds_v14 m ρ c h) (hbe ▸ holds_v18 m ρ c h)

/-- After call 8. -/
theorem stage8 (h : Holds m c P) (hp : IsAct 120 21 64 (V18 m ρ c main_v36_0) (Spec.conv3 P 120 X) ∧ IsStat 120 21 (V18 m ρ c main_v36_1) (Spec.conv3 P 120 X)) :
    IsAct 120 10 64 (V19 m ρ c main_v37_0) (Spec.conv4 P 120 X) ∧ IsStat 120 10 (V19 m ρ c main_v37_1) (Spec.conv4 P 120 X) := by
  have e0 : V19 m ρ c main_v37_0 = (dat8 (V18 m ρ) c).arrAt 6 cfg8.N := W19_arr m ρ c 6
  have e1 : V19 m ρ c main_v37_1 = (dat8 (V18 m ρ) c).arrAt 7 cfg8.N := W19_arr m ρ c 7
  have hw : V18 m ρ c main_v8 = W3 m ρ c (Proc.devRef .tc main_v8) := (kept18 m ρ c main_v8 (by decide +kernel)).trans (kept11 m ρ c main_v8 (by decide +kernel))
  have hb : V18 m ρ c main_v12 = W3 m ρ c (Proc.devRef .tc main_v12) := (kept18 m ρ c main_v12 (by decide +kernel)).trans (kept11 m ρ c main_v12 (by decide +kernel))
  have hg : V18 m ρ c main_v15 = W3 m ρ c (Proc.devRef .tc main_v15) := (kept18 m ρ c main_v15 (by decide +kernel)).trans (kept11 m ρ c main_v15 (by decide +kernel))
  have hbe : V18 m ρ c main_v19 = W3 m ρ c (Proc.devRef .tc main_v19) := (kept18 m ρ c main_v19 (by decide +kernel)).trans (kept11 m ρ c main_v19 (by decide +kernel))
  rw [e0, e1]
  exact region8 (V18 m ρ) c hp.1 hp.2 (hw ▸ holds_v8 m ρ c h) (hb ▸ holds_v12 m ρ c h) (hg ▸ holds_v15 m ρ c h) (hbe ▸ holds_v19 m ρ c h)

/-- After call 9: the features. -/
theorem stage9 (h : Holds m c P) (hp : IsAct 120 10 64 (V19 m ρ c main_v37_0) (Spec.conv4 P 120 X) ∧ IsStat 120 10 (V19 m ρ c main_v37_1) (Spec.conv4 P 120 X))
    (x : (S3 120 25 64).Idx) :
    V20 m ρ c main_v38 x = ((Spec.feats P 120 X (x 0) (x 2) ((x 1).val / 5) ((x 1).val % 5) : ℝ) : EReal) := by
  have e0 : V20 m ρ c main_v38 = (dat9 (V19 m ρ) c).arrAt 4 cfg9.N := W20_arr m ρ c 4
  have hg : V19 m ρ c main_v16 = W3 m ρ c (Proc.devRef .tc main_v16) := (kept19 m ρ c main_v16 (by decide +kernel)).trans (kept11 m ρ c main_v16 (by decide +kernel))
  have hbe : V19 m ρ c main_v20 = W3 m ρ c (Proc.devRef .tc main_v20) := (kept19 m ρ c main_v20 (by decide +kernel)).trans (kept11 m ρ c main_v20 (by decide +kernel))
  rw [e0]
  exact region9 (V19 m ρ) c hp.1 hp.2 (hg ▸ holds_v16 m ρ c h) (hbe ▸ holds_v20 m ρ c h) x

/-! ## The last call -/

/-- The kernel's result: the negated quotients of the Gram determinants of the network's features. -/
theorem kernel_value (h : Holds m c P) (Y : Spec.Img)
    (hx : ∀ n ch i j, shapeCast (S4 200 3 84 84) (m ((c : Thread nD τ).loc main_arg0))
      shapeCasts_S8x25x3x84x84_S200x3x84x84 (ix4 n ch i j) = ((X n ch i j : ℝ) : EReal))
    (hy : ∀ n ch i j, shapeCast (S4 120 3 84 84) (m ((c : Thread nD τ).loc main_arg2))
      shapeCasts_S8x15x3x84x84_S120x3x84x84 (ix4 n ch i j) = ((Y n ch i j : ℝ) : EReal)) (x : (S3 8 15 5).Idx) :
    W22 m ρ c (Proc.devRef .tc main_v43) x = ratio (Spec.support P X) (Spec.query P Y) x := by
  have e : W22 m ρ c (Proc.devRef .tc main_v43) = (dat10 (V21 m ρ) c).arrAt 2 cfg10.N := W22_arr m ρ c 2
  rw [e]
  refine region10 (V21 m ρ) c (fun t i l k => ?_) (fun t r k => ?_) x
  · have e1 : V21 m ρ c main_v41 = _ := at_v41 m ρ c
    have e2 : W20 m ρ c (Proc.devRef .tc main_v30) = V11 m ρ c main_v30 := kept20 m ρ c main_v30 (by decide +kernel)
    show V21 m ρ c main_v41 (ix3 t ⟨5 * i.val + l.val, _⟩ k) = _
    rw [e1, class_apply featFacts, e2]
    exact stage4 m ρ c X h (stage3 m ρ c X h (stage2 m ρ c X h (stage1 m ρ c X h (stage0 m ρ c X h hx)))) _
  · have e1 : V21 m ρ c main_v42 = _ := at_v42 m ρ c
    show V21 m ρ c main_v42 (ix3 t r k) = _
    rw [e1, query_apply featFacts]
    exact stage9 m ρ c Y h (stage8 m ρ c Y h (stage7 m ρ c Y h (stage6 m ρ c Y h (stage5 m ρ c Y h hy)))) _

end Cert.KernelIdeal.Gen

end
-- ==== Proof.Finite.lean ====
module
public import proofs.«01_k».proof.Defs
public import proofs.«01_k».proof.Proof.Gen.Pre_finite
public import proofs.«01_k».proof.Proof.KerRun
@[expose] public section
set_option maxRecDepth 16384

/-!
# The precondition

An array all of whose elements are below infinity in absolute value holds real numbers; so the arguments hold the parameters
of a network and two stacks of images.
-/

noncomputable section

namespace Cert.RefOps

open Idealize.ShloMosaic

/-- An array whose absolute values compare below infinity has no infinite element. -/
theorem finite_of_below {s : Shape} (x : FVec Ideal s .f32)
    (hb : Cert.Pre_finite.S_.BroadcastsInDim s (![] : Fin 0 → Fin s.rank))
    (h : cmpf .olt (Host.absf x) (broadcastInDim s ![] hb (constant Cert.Pre_finite.S_ .f32 0x7F800000#32)) = fun _ => 1#1) :
    Finite x := by
  intro i
  have e : Ideal.cmp .olt (max (x i : EReal) (-(x i : EReal))) (Ideal.ofBits .f32 0x7F800000#32) = 1#1 := congrFun h i
  have htop : Ideal.ofBits .f32 0x7F800000#32 = ⊤ := by simp [Ideal.ofBits, Ideal.ieee]
  rw [htop] at e
  refine ⟨fun hx => ?_, fun hx => ?_⟩ <;> rw [hx] at e <;> simp [Ideal.cmp] at e

/-- Two arrays of bits whose conjunction is everywhere one are everywhere one. -/
theorem both_one {s : Shape} (a b : IVec s 1) (h : andi a b = fun _ => 1#1) : (a = fun _ => 1#1) ∧ (b = fun _ => 1#1) := by
  have key (u v : BitVec 1) (e : u &&& v = 1#1) : u = 1#1 ∧ v = 1#1 := by revert u v; decide
  exact ⟨funext fun i => (key _ _ (congrFun h i)).1, funext fun i => (key _ _ (congrFun h i)).2⟩

/-- Recasting the shape of an array adds no infinite element. -/
theorem finite_shapeCast {s t : Shape} (x : FVec Ideal s .f32) (hx : Finite x) (hc : s.ShapeCasts t) : Finite (shapeCast t x hc) :=
  fun i => hx _

end Cert.RefOps

namespace Cert.KernelIdeal.Gen

open Idealize.ShloMosaic Idealize.ShloMosaic.TcCoe Cert.KernelIdeal Cert.RefOps Cert.KerOps

variable (m : (ℓ : Loc nD τ sig) → Buf (Elt Ideal) ℓ)

/-- What finite arguments hold on a device: the parameters of a network, support images and query images. -/
structure Inputs (c : Dev nD) (P : Spec.Net) (X Y : Spec.Img) : Prop where
  params : Holds m c P
  support : ∀ n ch i j, shapeCast (S4 200 3 84 84) (m ((c : Thread nD τ).loc main_arg0))
    shapeCasts_S8x25x3x84x84_S200x3x84x84 (ix4 n ch i j) = ((X n ch i j : ℝ) : EReal)
  query : ∀ n ch i j, shapeCast (S4 120 3 84 84) (m ((c : Thread nD τ).loc main_arg2))
    shapeCasts_S8x15x3x84x84_S120x3x84x84 (ix4 n ch i j) = ((Y n ch i j : ℝ) : EReal)

/-- Under the precondition every device's arguments hold some network's parameters and some images. -/
theorem inputs_of_finite (h : Pre_KernelIdeal_finite m) (c : Dev nD) : ∃ P X Y, Inputs m c P X Y := by
  obtain ⟨h0, h2, h3, r15, r18⟩ := h c
  obtain ⟨r11, h15⟩ := both_one _ _ r15
  obtain ⟨h7, h11⟩ := both_one _ _ r11
  obtain ⟨r17, h18⟩ := both_one _ _ r18
  obtain ⟨r16, h17⟩ := both_one _ _ r17
  obtain ⟨r14, h16⟩ := both_one _ _ r16
  obtain ⟨r13, h14⟩ := both_one _ _ r14
  obtain ⟨r12, h13⟩ := both_one _ _ r13
  obtain ⟨r10, h12⟩ := both_one _ _ r12
  obtain ⟨r9, h10⟩ := both_one _ _ r10
  obtain ⟨r8, h9⟩ := both_one _ _ r9
  obtain ⟨r6, h8⟩ := both_one _ _ r8
  obtain ⟨r5, h6⟩ := both_one _ _ r6
  obtain ⟨h4, h5⟩ := both_one _ _ r5
  have f0 : Finite (s := S8x25x3x84x84) (m ((c : Thread nD τ).loc main_arg0)) := finite_of_below _ Cert.Pre_finite.Gen.bcast_S_S8x25x3x84x84 h0
  have f2 : Finite (s := S8x15x3x84x84) (m ((c : Thread nD τ).loc main_arg2)) := finite_of_below _ Cert.Pre_finite.Gen.bcast_S_S8x15x3x84x84 h2
  have row (x : FVec Ideal (S1 64) .f32) (hx : cmpf .olt (Host.absf x) (broadcastInDim (S1 64) ![] Cert.Pre_finite.Gen.bcast_S_S64
      (constant Cert.Pre_finite.S_ .f32 0x7F800000#32)) = fun _ => 1#1) := rowOf_coe x (finite_of_below x _ hx)
  have filter (x : FVec Ideal (S4 64 64 3 3) .f32) (hx : cmpf .olt (Host.absf x) (broadcastInDim (S4 64 64 3 3) ![]
      Cert.Pre_finite.Gen.bcast_S_S64x64x3x3 (constant Cert.Pre_finite.S_ .f32 0x7F800000#32)) = fun _ => 1#1) :=
    imgOf_coe x (finite_of_below x _ hx)
  exact ⟨
    { w1 := imgOf (a := 64) (b := 3) (c := 3) (d := 3) (m ((c : Thread nD τ).loc main_arg3))
      b1 := rowOf (a := 64) (m ((c : Thread nD τ).loc main_arg4))
      g1 := rowOf (a := 64) (m ((c : Thread nD τ).loc main_arg5))
      be1 := rowOf (a := 64) (m ((c : Thread nD τ).loc main_arg6))
      w2 := imgOf (a := 64) (b := 64) (c := 3) (d := 3) (m ((c : Thread nD τ).loc main_arg7))
      b2 := rowOf (a := 64) (m ((c : Thread nD τ).loc main_arg8))
      g2 := rowOf (a := 64) (m ((c : Thread nD τ).loc main_arg9))
      be2 := rowOf (a := 64) (m ((c : Thread nD τ).loc main_arg10))
      w3 := imgOf (a := 64) (b := 64) (c := 3) (d := 3) (m ((c : Thread nD τ).loc main_arg11))
      b3 := rowOf (a := 64) (m ((c : Thread nD τ).loc main_arg12))
      g3 := rowOf (a := 64) (m ((c : Thread nD τ).loc main_arg13))
      be3 := rowOf (a := 64) (m ((c : Thread nD τ).loc main_arg14))
      w4 := imgOf (a := 64) (b := 64) (c := 3) (d := 3) (m ((c : Thread nD τ).loc main_arg15))
      b4 := rowOf (a := 64) (m ((c : Thread nD τ).loc main_arg16))
      g4 := rowOf (a := 64) (m ((c : Thread nD τ).loc main_arg17))
      be4 := rowOf (a := 64) (m ((c : Thread nD τ).loc main_arg18)) },
    imgOf (shapeCast (S4 200 3 84 84) (m ((c : Thread nD τ).loc main_arg0)) shapeCasts_S8x25x3x84x84_S200x3x84x84),
    imgOf (shapeCast (S4 120 3 84 84) (m ((c : Thread nD τ).loc main_arg2)) shapeCasts_S8x15x3x84x84_S120x3x84x84),
    { params :=
        { w1 := imgOf_coe (a := 64) (b := 3) (c := 3) (d := 3) (m ((c : Thread nD τ).loc main_arg3))
            (finite_of_below _ Cert.Pre_finite.Gen.bcast_S_S64x3x3x3 h3)
          b1 := row _ h4, g1 := row _ h5, be1 := row _ h6
          w2 := filter _ h7, b2 := row _ h8, g2 := row _ h9, be2 := row _ h10
          w3 := filter _ h11, b3 := row _ h12, g3 := row _ h13, be3 := row _ h14
          w4 := filter _ h15, b4 := row _ h16, g4 := row _ h17, be4 := row _ h18 }
      support := imgOf_coe _ (finite_shapeCast _ f0 _)
      query := imgOf_coe _ (finite_shapeCast _ f2 _) }⟩

end Cert.KernelIdeal.Gen
-- ==== Proof.KerEnd.lean ====
module
public import proofs.«01_k».proof.Proof.Gen.KernelIdeal.Frame
@[expose] public section
set_option maxRecDepth 16384

/-!
# The kernel's run

Every run of the kernel ends, and ends with each array of the device's memory at the contents the generated fold of the
program gives it: `frame` is the part of this that speaks of the arguments, `kernel_run` also has the result.
-/

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every run of the kernel ends with each unscoped array at the fold's contents. -/
theorem kernel_memory : θ_run defs (onTc (τ := τ) (main (F := F))) ⟨m, fun _ => 0, ρ⟩ (fun r => ∀ c : Dev nD,
    ∀ b ∈ Pipeline.ucRefs τ sig, r.2.mem (((c : Thread nD τ)).1, b) = W22 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun _ h _ => h)

/-- Every run of the kernel ends with the result at the fold's contents and every argument as it was. -/
theorem kernel_run : θ_run defs (onTc (τ := τ) (main (F := F))) ⟨m, fun _ => 0, ρ⟩ (fun r => ∀ c : Dev nD,
      r.2.mem ((c.tc : Thread nD τ).loc main_v43) = W22 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c =>
    ⟨h c _ (mem_uc main_v43 (by decide)),
     (h c _ (mem_uc main_arg0 (by decide))).trans (W22_main_arg0 m ρ c),
     (h c _ (mem_uc main_arg1 (by decide))).trans (W22_main_arg1 m ρ c),
     (h c _ (mem_uc main_arg2 (by decide))).trans (W22_main_arg2 m ρ c),
     (h c _ (mem_uc main_arg3 (by decide))).trans (W22_main_arg3 m ρ c),
     (h c _ (mem_uc main_arg4 (by decide))).trans (W22_main_arg4 m ρ c),
     (h c _ (mem_uc main_arg5 (by decide))).trans (W22_main_arg5 m ρ c),
     (h c _ (mem_uc main_arg6 (by decide))).trans (W22_main_arg6 m ρ c),
     (h c _ (mem_uc main_arg7 (by decide))).trans (W22_main_arg7 m ρ c),
     (h c _ (mem_uc main_arg8 (by decide))).trans (W22_main_arg8 m ρ c),
     (h c _ (mem_uc main_arg9 (by decide))).trans (W22_main_arg9 m ρ c),
     (h c _ (mem_uc main_arg10 (by decide))).trans (W22_main_arg10 m ρ c),
     (h c _ (mem_uc main_arg11 (by decide))).trans (W22_main_arg11 m ρ c),
     (h c _ (mem_uc main_arg12 (by decide))).trans (W22_main_arg12 m ρ c),
     (h c _ (mem_uc main_arg13 (by decide))).trans (W22_main_arg13 m ρ c),
     (h c _ (mem_uc main_arg14 (by decide))).trans (W22_main_arg14 m ρ c),
     (h c _ (mem_uc main_arg15 (by decide))).trans (W22_main_arg15 m ρ c),
     (h c _ (mem_uc main_arg16 (by decide))).trans (W22_main_arg16 m ρ c),
     (h c _ (mem_uc main_arg17 (by decide))).trans (W22_main_arg17 m ρ c),
     (h c _ (mem_uc main_arg18 (by decide))).trans (W22_main_arg18 m ρ c)⟩) (kernel_memory m ρ)

end Cert.KernelIdeal.Gen
-- ==== Proof.RefLayer.lean ====
/- One layer of the reference — convolution, rectification, batch normalisation, pooling — as its operations compose it at
   any shape of a layer, and its value at real inputs. -/
module

public import proofs.«01_k».proof.Proof.RefOps

@[expose] public section

set_option maxRecDepth 16384

noncomputable section

namespace Cert.RefOps

open Idealize.ShloMosaic

/-- The shape conditions of a layer's operations: `N` images of `C` channels and `H` rows, padded to `Hp` rows, pooled to `H2`. -/
structure Facts (N C H Hp H2 : ℕ) : Prop where
  pd : (S4 N C H H).Pads ![0, 0, 1, 1] ![0, 0, 1, 1] ![0, 0, 0, 0] (S4 N C Hp Hp)
  wf : DotDims.WF (S2 64 C) (S4 N C H H) (S4 64 N H H) [1] [1] [0] [0, 2, 3] [] []
  sw : ∀ dh dw : Fin 3, (S4 64 C 3 3).Slices ![0, 0, (dh : ℕ), (dw : ℕ)] (S4 64 C 1 1)
  sc : (S4 64 C 1 1).ShapeCasts (S2 64 C)
  sx : ∀ dh dw : Fin 3, (S4 N C Hp Hp).Slices ![0, 0, (dh : ℕ), (dw : ℕ)] (S4 N C H H)
  tr : (S4 64 N H H).Transposes [1, 0, 2, 3] (S4 N 64 H H)
  b1 : (S1 64).BroadcastsInDim (S4 1 64 1 1) ![1]
  b4 : (S4 1 64 1 1).BroadcastsInDim (S4 N 64 H H) ![0, 1, 2, 3]
  b0 : S0.BroadcastsInDim (S4 N 64 H H) ![]
  b00 : S0.BroadcastsInDim (S4 1 64 1 1) ![]
  bss : S0.BroadcastsInDim S0 ![]
  red : (S4 N 64 H H).ReducesTo [0, 2, 3] (S1 64)
  win : (S4 N 64 H H).ReduceWindows ![1, 1, 2, 2] ![1, 1, 2, 2] ![0, 0, 0, 0] ![0, 0, 0, 0] (S4 N 64 H2 H2)
  hu : 0 < S0.numel

variable {N C H Hp H2 : ℕ}

/-- The images with a border of zeros. -/
def padded (h : Facts N C H Hp H2) (x : FVec Ideal (S4 N C H H) .f32) : FVec Ideal (S4 N C Hp Hp) .f32 :=
  pad (S4 N C Hp Hp) ![0, 0, 1, 1] ![0, 0, 1, 1] ![0, 0, 0, 0] x (constant S0 .f32 0x00000000#32) h.pd h.hu

/-- One tap of the convolution. -/
def tap (h : Facts N C H Hp H2) (w : FVec Ideal (S4 64 C 3 3) .f32) (x : FVec Ideal (S4 N C Hp Hp) .f32) (dh dw : Fin 3) :
    FVec Ideal (S4 64 N H H) .f32 :=
  Host.dotGeneral (tapDims N C H h.wf) none
    (shapeCast (S2 64 C) (extractStridedSlice (S4 64 C 1 1) ![0, 0, (dh : ℕ), (dw : ℕ)] w (h.sw dh dw)) h.sc)
    (extractStridedSlice (S4 N C H H) ![0, 0, (dh : ℕ), (dw : ℕ)] x (h.sx dh dw))

/-- The nine taps added in order. -/
def taps (h : Facts N C H Hp H2) (w : FVec Ideal (S4 64 C 3 3) .f32) (x : FVec Ideal (S4 N C Hp Hp) .f32) :
    FVec Ideal (S4 64 N H H) .f32 :=
  addf (addf (addf (addf (addf (addf (addf (addf (tap h w x 0 0) (tap h w x 0 1)) (tap h w x 0 2)) (tap h w x 1 0))
    (tap h w x 1 1)) (tap h w x 1 2)) (tap h w x 2 0)) (tap h w x 2 1)) (tap h w x 2 2)

/-- A value for each channel, one unit axis elsewhere. -/
def chan (h : Facts N C H Hp H2) (b : FVec Ideal (S1 64) .f32) : FVec Ideal (S4 1 64 1 1) .f32 :=
  broadcastInDim (S4 1 64 1 1) ![1] h.b1 b

/-- A value for each channel at every image, row and column. -/
def spread (h : Facts N C H Hp H2) (b : FVec Ideal (S4 1 64 1 1) .f32) : FVec Ideal (S4 N 64 H H) .f32 :=
  broadcastInDim (S4 N 64 H H) ![0, 1, 2, 3] h.b4 b

/-- The rectified convolution. -/
def act (h : Facts N C H Hp H2) (x : FVec Ideal (S4 N C H H) .f32) (w : FVec Ideal (S4 64 C 3 3) .f32)
    (b : FVec Ideal (S1 64) .f32) : FVec Ideal (S4 N 64 H H) .f32 :=
  maximumf (addf (transpose (S4 N 64 H H) [1, 0, 2, 3] (taps h w (padded h x)) h.tr) (spread h (chan h b)))
    (broadcastInDim (S4 N 64 H H) ![] h.b0 (constant S0 .f32 0x00000000#32))

/-- The mean of each channel: `k` is the word of the number of elements. -/
def avg (h : Facts N C H Hp H2) (k : BitVec 32) (y : FVec Ideal (S4 N 64 H H) .f32) : FVec Ideal (S4 1 64 1 1) .f32 :=
  Host.divf (chan h (Host.reduceAdd y (constant S0 .f32 0x00000000#32) h.red h.hu))
    (broadcastInDim (S4 1 64 1 1) ![] h.b00 (constant S0 .f32 k))

/-- The deviation from the mean of a channel. -/
def dev (h : Facts N C H Hp H2) (k : BitVec 32) (y : FVec Ideal (S4 N 64 H H) .f32) : FVec Ideal (S4 N 64 H H) .f32 :=
  subf y (spread h (avg h k y))

/-- Batch normalisation. -/
def normed (h : Facts N C H Hp H2) (k : BitVec 32) (y : FVec Ideal (S4 N 64 H H) .f32) (g be : FVec Ideal (S1 64) .f32) :
    FVec Ideal (S4 N 64 H H) .f32 :=
  addf (mulf (mulf (dev h k y) (spread h (Host.rsqrt (addf (avg h k (mulf (dev h k y) (dev h k y)))
    (broadcastInDim (S4 1 64 1 1) ![] h.b00 (constant S0 .f32 0x3727C5AC#32)))))) (spread h (chan h g))) (spread h (chan h be))

/-- The layer. -/
def layer (h : Facts N C H Hp H2) (k : BitVec 32) (x : FVec Ideal (S4 N C H H) .f32) (w : FVec Ideal (S4 64 C 3 3) .f32)
    (b g be : FVec Ideal (S1 64) .f32) : FVec Ideal (S4 N 64 H2 H2) .f32 :=
  Host.reduceWindow FloatOps.maximumf ![1, 1, 2, 2] ![1, 1, 2, 2] ![0, 0, 0, 0] ![0, 0, 0, 0] (normed h k (act h x w b) g be)
    (broadcastInDim S0 ![] h.bss (constant S0 .f32 0xFF800000#32)) h.win h.hu

/-- A spread value at an index is the channel's. -/
theorem spread_apply (h : Facts N C H Hp H2) (b : FVec Ideal (S4 1 64 1 1) .f32) (n : Fin N) (o : Fin 64) (i j : Fin H) :
    spread h b (ix4 n o i j) = b (ix4 0 o 0 0) :=
  broadcastInDim_apply _ h.b4 b _ _ fun a => by
    match a with
    | ⟨0, _⟩ => rfl
    | ⟨1, _⟩ => rfl
    | ⟨2, _⟩ => rfl
    | ⟨3, _⟩ => rfl

theorem chan_apply (h : Facts N C H Hp H2) (b : FVec Ideal (S1 64) .f32) (o : Fin 64) :
    chan h b (ix4 0 o 0 0) = b (ix1 o) :=
  broadcastInDim_apply _ h.b1 b _ _ fun a => by
    match a with
    | ⟨0, _⟩ => rfl

/-- The rectified convolution of real images is the specification's. -/
theorem act_coe (h : Facts N C H Hp H2) (hH : Hp = H + 2) (x : FVec Ideal (S4 N C H H) .f32) (w : FVec Ideal (S4 64 C 3 3) .f32)
    (b : FVec Ideal (S1 64) .f32) (X W : Spec.Img) (B : ℕ → ℝ) (hx : ∀ n c i j, x (ix4 n c i j) = ((X n c i j : ℝ) : EReal))
    (hw : ∀ n c i j, w (ix4 n c i j) = ((W n c i j : ℝ) : EReal)) (hb : ∀ o, b (ix1 o) = ((B o : ℝ) : EReal))
    (n : Fin N) (o : Fin 64) (i j : Fin H) :
    act h x w b (ix4 n o i j) = ((Spec.convRelu C H X W B n o i j : ℝ) : EReal) := by
  have ht : ∀ dh dw : Fin 3, tap h w (padded h x) dh dw (ix4 o n i j)
      = ((∑ c : Fin C, Spec.padv H X n c (i + dh) (j + dw) * W o c dh dw : ℝ) : EReal) := by
    intro dh dw
    unfold tap
    rw [tap_apply h.wf dh dw hH, Reals.coe_sum]
    refine Finset.sum_congr rfl fun c _ => ?_
    rw [hw]
    unfold padded
    rw [pad_coe hH x X hx (constant S0 .f32 0x00000000#32) (fun _ => Reals.ofBits_zero) h.pd h.hu, ← EReal.coe_mul, mul_comm]
    show ((Spec.padv H X n c (dh + i) (dw + j) * W o c dh dw : ℝ) : EReal) = _
    rw [Nat.add_comm, Nat.add_comm dw.val]
  have htr : transpose (S4 N 64 H H) [1, 0, 2, 3] (taps h w (padded h x)) h.tr (ix4 n o i j) = taps h w (padded h x) (ix4 o n i j) :=
    transpose_apply _ _ h.tr _ _ fun a => by
      match a with
      | ⟨0, _⟩ => rfl
      | ⟨1, _⟩ => rfl
      | ⟨2, _⟩ => rfl
      | ⟨3, _⟩ => rfl
  show max (transpose (S4 N 64 H H) [1, 0, 2, 3] (taps h w (padded h x)) h.tr (ix4 n o i j) + spread h (chan h b) (ix4 n o i j))
    (Ideal.ofBits .f32 0x00000000#32) = _
  rw [htr, spread_apply, chan_apply, hb, Reals.ofBits_zero]
  show max (((((((((tap h w (padded h x) 0 0 (ix4 o n i j) + tap h w (padded h x) 0 1 (ix4 o n i j)) + tap h w (padded h x) 0 2 (ix4 o n i j))
    + tap h w (padded h x) 1 0 (ix4 o n i j)) + tap h w (padded h x) 1 1 (ix4 o n i j)) + tap h w (padded h x) 1 2 (ix4 o n i j))
    + tap h w (padded h x) 2 0 (ix4 o n i j)) + tap h w (padded h x) 2 1 (ix4 o n i j)) + tap h w (padded h x) 2 2 (ix4 o n i j)) + (B o : EReal)) ((0 : ℝ) : EReal) = _
  simp only [ht, ← EReal.coe_add, ← Reals.coe_max]
  unfold Spec.convRelu
  rw [Fin.sum_univ_castSucc, Fin.sum_univ_eight]
  rfl

theorem avg_coe (h : Facts N C H Hp H2) (hN : 0 < N) (hH : 0 < H) (k : BitVec 32) (hk : Ideal.ofBits .f32 k = (((N * H * H : ℕ) : ℝ) : EReal))
    (y : FVec Ideal (S4 N 64 H H) .f32) (Y : Spec.Img) (hy : ∀ n c i j, y (ix4 n c i j) = ((Y n c i j : ℝ) : EReal)) (o : Fin 64) :
    avg h k y (ix4 0 o 0 0) = ((Spec.mean N H Y o : ℝ) : EReal) := by
  show Ideal.div (chan h (Host.reduceAdd y (constant S0 .f32 0x00000000#32) h.red h.hu) (ix4 0 o 0 0)) (Ideal.ofBits .f32 k) = _
  rw [chan_apply, sum_coe y Y hy (constant S0 .f32 0x00000000#32) (fun _ => Reals.ofBits_zero) h.red h.hu, hk,
    Reals.div_coe _ _ (Nat.cast_ne_zero.2 (Nat.mul_pos (Nat.mul_pos hN hH) hH).ne')]
  rfl

theorem dev_coe (h : Facts N C H Hp H2) (hN : 0 < N) (hH : 0 < H) (k : BitVec 32) (hk : Ideal.ofBits .f32 k = (((N * H * H : ℕ) : ℝ) : EReal))
    (y : FVec Ideal (S4 N 64 H H) .f32) (Y : Spec.Img) (hy : ∀ n c i j, y (ix4 n c i j) = ((Y n c i j : ℝ) : EReal))
    (n : Fin N) (o : Fin 64) (i j : Fin H) :
    dev h k y (ix4 n o i j) = ((Y n o i j - Spec.mean N H Y o : ℝ) : EReal) := by
  show y (ix4 n o i j) - spread h (avg h k y) (ix4 n o i j) = _
  rw [hy, spread_apply, avg_coe h hN hH k hk y Y hy, ← EReal.coe_sub]

/-- Batch normalisation of real images is the specification's. -/
theorem normed_coe (h : Facts N C H Hp H2) (hN : 0 < N) (hH : 0 < H) (k : BitVec 32) (hk : Ideal.ofBits .f32 k = (((N * H * H : ℕ) : ℝ) : EReal))
    (y : FVec Ideal (S4 N 64 H H) .f32) (Y : Spec.Img) (hy : ∀ n c i j, y (ix4 n c i j) = ((Y n c i j : ℝ) : EReal))
    (g be : FVec Ideal (S1 64) .f32) (G Be : ℕ → ℝ) (hg : ∀ o, g (ix1 o) = ((G o : ℝ) : EReal)) (hbe : ∀ o, be (ix1 o) = ((Be o : ℝ) : EReal))
    (n : Fin N) (o : Fin 64) (i j : Fin H) :
    normed h k y g be (ix4 n o i j) = ((Spec.bn Reals.eps N H Y G Be n o i j : ℝ) : EReal) := by
  have hd := dev_coe h hN hH k hk y Y hy
  have hv : avg h k (mulf (dev h k y) (dev h k y)) (ix4 0 o 0 0) = ((Spec.var N H Y o : ℝ) : EReal) := by
    rw [avg_coe h hN hH k hk _ (fun n o i j => (Y n o i j - Spec.mean N H Y o) * (Y n o i j - Spec.mean N H Y o)) (fun n c i j => by
      show dev h k y (ix4 n c i j) * dev h k y (ix4 n c i j) = _
      rw [hd, ← EReal.coe_mul])]
    rfl
  show dev h k y (ix4 n o i j) * spread h (Host.rsqrt (addf (avg h k (mulf (dev h k y) (dev h k y)))
    (broadcastInDim (S4 1 64 1 1) ![] h.b00 (constant S0 .f32 0x3727C5AC#32)))) (ix4 n o i j) * spread h (chan h g) (ix4 n o i j)
    + spread h (chan h be) (ix4 n o i j) = _
  simp only [spread_apply, chan_apply, hd, hg, hbe]
  show _ * Ideal.rsqrt (avg h k (mulf (dev h k y) (dev h k y)) (ix4 0 o 0 0) + Ideal.ofBits .f32 0x3727C5AC#32) * _ + _ = _
  rw [hv, Reals.ofBits_eps, ← EReal.coe_add, Reals.rsqrt_coe _ (add_pos_of_nonneg_of_pos (Spec.var_nonneg _ _ _ _) Reals.eps_pos),
    ← EReal.coe_mul, ← EReal.coe_mul, ← EReal.coe_add]
  rfl

/-- The layer at real inputs is the specification's. -/
theorem layer_coe (h : Facts N C H Hp H2) (hN : 0 < N) (hH : 0 < H) (hp : Hp = H + 2) (h2 : 2 * H2 ≤ H) (k : BitVec 32)
    (hk : Ideal.ofBits .f32 k = (((N * H * H : ℕ) : ℝ) : EReal))
    (x : FVec Ideal (S4 N C H H) .f32) (w : FVec Ideal (S4 64 C 3 3) .f32)
    (b g be : FVec Ideal (S1 64) .f32) (X W : Spec.Img) (B G Be : ℕ → ℝ) (hx : ∀ n c i j, x (ix4 n c i j) = ((X n c i j : ℝ) : EReal))
    (hw : ∀ n c i j, w (ix4 n c i j) = ((W n c i j : ℝ) : EReal)) (hb : ∀ o, b (ix1 o) = ((B o : ℝ) : EReal))
    (hg : ∀ o, g (ix1 o) = ((G o : ℝ) : EReal)) (hbe : ∀ o, be (ix1 o) = ((Be o : ℝ) : EReal))
    (n : Fin N) (o : Fin 64) (i j : Fin H2) :
    layer h k x w b g be (ix4 n o i j)
      = ((Spec.pool (Spec.bn Reals.eps N H (Spec.convRelu C H X W B) G Be) n o i j : ℝ) : EReal) :=
  pool_coe h2 _ _ (normed_coe h hN hH k hk _ _ (act_coe h hp x w b X W B hx hw hb) g be G Be hg hbe) _
    (fun _ => Reals.ofBits_bot) h.win h.hu n o i j

end Cert.RefOps

end
-- ==== Proof.RefNet.lean ====
module
public import proofs.«01_k».proof.Proof.Gen.ReferenceIdeal.Read
public import proofs.«01_k».proof.Proof.RefLayer
public import proofs.«01_k».proof.Proof.Net
@[expose] public section
set_option maxRecDepth 16384

/-!
# The reference's layers

Each of its eight layers is the layer of `RefLayer`, so the features it computes are the network's.
-/

noncomputable section

namespace Cert.ReferenceIdeal.Read

open Idealize.ShloMosaic Cert.ReferenceIdeal Cert.RefOps

theorem s84 : RefOps.Facts 200 3 84 86 42 := by constructor <;> decide +kernel
theorem s42 : RefOps.Facts 200 64 42 44 21 := by constructor <;> decide +kernel
theorem s21 : RefOps.Facts 200 64 21 23 10 := by constructor <;> decide +kernel
theorem s10 : RefOps.Facts 200 64 10 12 5 := by constructor <;> decide +kernel
theorem q84 : RefOps.Facts 120 3 84 86 42 := by constructor <;> decide +kernel
theorem q42 : RefOps.Facts 120 64 42 44 21 := by constructor <;> decide +kernel
theorem q21 : RefOps.Facts 120 64 21 23 10 := by constructor <;> decide +kernel
theorem q10 : RefOps.Facts 120 64 10 12 5 := by constructor <;> decide +kernel

section
variable (x0 : (⟨S8x25x3x84x84, .f32⟩ : BufTy).Contents (Elt Ideal)) (x2 : (⟨S8x15x3x84x84, .f32⟩ : BufTy).Contents (Elt Ideal))
  (x3 : (⟨S64x3x3x3, .f32⟩ : BufTy).Contents (Elt Ideal)) (x4 x5 x6 : (⟨S64, .f32⟩ : BufTy).Contents (Elt Ideal))
  (x7 : (⟨S64x64x3x3, .f32⟩ : BufTy).Contents (Elt Ideal)) (x8 x9 x10 : (⟨S64, .f32⟩ : BufTy).Contents (Elt Ideal))
  (x11 : (⟨S64x64x3x3, .f32⟩ : BufTy).Contents (Elt Ideal)) (x12 x13 x14 : (⟨S64, .f32⟩ : BufTy).Contents (Elt Ideal))
  (x15 : (⟨S64x64x3x3, .f32⟩ : BufTy).Contents (Elt Ideal)) (x16 x17 x18 : (⟨S64, .f32⟩ : BufTy).Contents (Elt Ideal))

theorem sup1 : val_main_v77 (F := Ideal) x0 x3 x4 x5 x6 = RefOps.layer s84 0x49AC4400#32 (val_main_v0 (F := Ideal) x0) x3 x4 x5 x6 := rfl
theorem sup2 : val_main_v154 (F := Ideal) x0 x3 x4 x5 x6 x7 x8 x9 x10
    = RefOps.layer s42 0x48AC4400#32 (val_main_v77 (F := Ideal) x0 x3 x4 x5 x6) x7 x8 x9 x10 := rfl
theorem sup3 : val_main_v231 (F := Ideal) x0 x3 x4 x5 x6 x7 x8 x9 x10 x11 x12 x13 x14
    = RefOps.layer s21 0x47AC4400#32 (val_main_v154 (F := Ideal) x0 x3 x4 x5 x6 x7 x8 x9 x10) x11 x12 x13 x14 := rfl
theorem sup4 : val_main_v308 (F := Ideal) x0 x3 x4 x5 x6 x7 x8 x9 x10 x11 x12 x13 x14 x15 x16 x17 x18
    = RefOps.layer s10 0x469C4000#32 (val_main_v231 (F := Ideal) x0 x3 x4 x5 x6 x7 x8 x9 x10 x11 x12 x13 x14) x15 x16 x17 x18 := rfl
theorem qry1 : val_main_v388 (F := Ideal) x2 x3 x4 x5 x6 = RefOps.layer q84 0x494EB800#32 (val_main_v311 (F := Ideal) x2) x3 x4 x5 x6 := rfl
theorem qry2 : val_main_v465 (F := Ideal) x2 x3 x4 x5 x6 x7 x8 x9 x10
    = RefOps.layer q42 0x484EB800#32 (val_main_v388 (F := Ideal) x2 x3 x4 x5 x6) x7 x8 x9 x10 := rfl
theorem qry3 : val_main_v542 (F := Ideal) x2 x3 x4 x5 x6 x7 x8 x9 x10 x11 x12 x13 x14
    = RefOps.layer q21 0x474EB800#32 (val_main_v465 (F := Ideal) x2 x3 x4 x5 x6 x7 x8 x9 x10) x11 x12 x13 x14 := rfl
theorem qry4 : val_main_v619 (F := Ideal) x2 x3 x4 x5 x6 x7 x8 x9 x10 x11 x12 x13 x14 x15 x16 x17 x18
    = RefOps.layer q10 0x463B8000#32 (val_main_v542 (F := Ideal) x2 x3 x4 x5 x6 x7 x8 x9 x10 x11 x12 x13 x14) x15 x16 x17 x18 := rfl

variable {x3 x4 x5 x6 x7 x8 x9 x10 x11 x12 x13 x14 x15 x16 x17 x18} {P : Spec.Net}

/-- The support features of the reference are the network's. -/
theorem sup_coe (h : Reads x3 x4 x5 x6 x7 x8 x9 x10 x11 x12 x13 x14 x15 x16 x17 x18 P) (X : Spec.Img)
    (hx : ∀ n c i j, val_main_v0 (F := Ideal) x0 (ix4 n c i j) = ((X n c i j : ℝ) : EReal)) (n : Fin 200) (o : Fin 64) (i j : Fin 5) :
    val_main_v308 (F := Ideal) x0 x3 x4 x5 x6 x7 x8 x9 x10 x11 x12 x13 x14 x15 x16 x17 x18 (ix4 n o i j)
      = ((Spec.feats P 200 X n o i j : ℝ) : EReal) := by
  rw [sup4]
  refine RefOps.layer_coe s10 (by norm_num) (by norm_num) rfl (by norm_num) _ Reals.ofBits_20000 _ _ _ _ _
    (Spec.pool (Spec.bn Reals.eps 200 21 (Spec.conv3 P 200 X) P.g3 P.be3)) P.w4 P.b4 P.g4 P.be4 ?_ h.w4 h.b4 h.g4 h.be4 n o i j
  rw [sup3]
  refine RefOps.layer_coe s21 (by norm_num) (by norm_num) rfl (by norm_num) _ Reals.ofBits_88200 _ _ _ _ _
    (Spec.pool (Spec.bn Reals.eps 200 42 (Spec.conv2 P 200 X) P.g2 P.be2)) P.w3 P.b3 P.g3 P.be3 ?_ h.w3 h.b3 h.g3 h.be3
  rw [sup2]
  refine RefOps.layer_coe s42 (by norm_num) (by norm_num) rfl (by norm_num) _ Reals.ofBits_352800 _ _ _ _ _
    (Spec.pool (Spec.bn Reals.eps 200 84 (Spec.conv1 P X) P.g1 P.be1)) P.w2 P.b2 P.g2 P.be2 ?_ h.w2 h.b2 h.g2 h.be2
  rw [sup1]
  exact RefOps.layer_coe s84 (by norm_num) (by norm_num) rfl (by norm_num) _ Reals.ofBits_1411200 _ _ _ _ _
    X P.w1 P.b1 P.g1 P.be1 hx h.w1 h.b1 h.g1 h.be1

/-- The query features of the reference are the network's. -/
theorem qry_coe (h : Reads x3 x4 x5 x6 x7 x8 x9 x10 x11 x12 x13 x14 x15 x16 x17 x18 P) (X : Spec.Img)
    (hx : ∀ n c i j, val_main_v311 (F := Ideal) x2 (ix4 n c i j) = ((X n c i j : ℝ) : EReal)) (n : Fin 120) (o : Fin 64) (i j : Fin 5) :
    val_main_v619 (F := Ideal) x2 x3 x4 x5 x6 x7 x8 x9 x10 x11 x12 x13 x14 x15 x16 x17 x18 (ix4 n o i j)
      = ((Spec.feats P 120 X n o i j : ℝ) : EReal) := by
  rw [qry4]
  refine RefOps.layer_coe q10 (by norm_num) (by norm_num) rfl (by norm_num) _ Reals.ofBits_12000 _ _ _ _ _
    (Spec.pool (Spec.bn Reals.eps 120 21 (Spec.conv3 P 120 X) P.g3 P.be3)) P.w4 P.b4 P.g4 P.be4 ?_ h.w4 h.b4 h.g4 h.be4 n o i j
  rw [qry3]
  refine RefOps.layer_coe q21 (by norm_num) (by norm_num) rfl (by norm_num) _ Reals.ofBits_52920 _ _ _ _ _
    (Spec.pool (Spec.bn Reals.eps 120 42 (Spec.conv2 P 120 X) P.g2 P.be2)) P.w3 P.b3 P.g3 P.be3 ?_ h.w3 h.b3 h.g3 h.be3
  rw [qry2]
  refine RefOps.layer_coe q42 (by norm_num) (by norm_num) rfl (by norm_num) _ Reals.ofBits_211680 _ _ _ _ _
    (Spec.pool (Spec.bn Reals.eps 120 84 (Spec.conv1 P X) P.g1 P.be1)) P.w2 P.b2 P.g2 P.be2 ?_ h.w2 h.b2 h.g2 h.be2
  rw [qry1]
  exact RefOps.layer_coe q84 (by norm_num) (by norm_num) rfl (by norm_num) _ Reals.ofBits_846720 _ _ _ _ _
    X P.w1 P.b1 P.g1 P.be1 hx h.w1 h.b1 h.g1 h.be1

end

end Cert.ReferenceIdeal.Read

end
-- ==== Proof.Laplace.lean ====
module
public import proofs.«01_k».proof.Proof.Gram
public import proofs.«01_k».proof.Proof.KerOps
public import Mathlib.LinearAlgebra.Matrix.Determinant.Basic
@[expose] public section
set_option maxRecDepth 16384

/-!
# Expansion of determinants along the first row

The minors of the last rows, of two rows, three, four and five, by operations given from outside: the same expressions serve the
arrays of the reference, the extended reals and the reals.
-/

noncomputable section

namespace Cert.Spec

section
variable {α β : Type} (add sub mul : α → α → α) {k : ℕ} (r s t u v : Fin k → α)

/-- The minor of two rows in two columns. -/
def m2 (a b : Fin k) : α := sub (mul (u a) (v b)) (mul (u b) (v a))
/-- The minor of three rows in three columns. -/
def m3 (a b c : Fin k) : α := add (sub (mul (t a) (m2 sub mul u v b c)) (mul (t b) (m2 sub mul u v a c))) (mul (t c) (m2 sub mul u v a b))
/-- The minor of four rows in four columns. -/
def m4 (a b c d : Fin k) : α :=
  sub (add (sub (mul (s a) (m3 add sub mul t u v b c d)) (mul (s b) (m3 add sub mul t u v a c d))) (mul (s c) (m3 add sub mul t u v a b d)))
    (mul (s d) (m3 add sub mul t u v a b c))
/-- The minor of five rows in five columns. -/
def m5 (a b c d e : Fin k) : α :=
  add (sub (add (sub (mul (r a) (m4 add sub mul s t u v b c d e)) (mul (r b) (m4 add sub mul s t u v a c d e)))
    (mul (r c) (m4 add sub mul s t u v a b d e))) (mul (r d) (m4 add sub mul s t u v a b c e))) (mul (r e) (m4 add sub mul s t u v a b c d))

variable {add sub mul} {add' sub' mul' : β → β → β} (f : α → β)

/-- A map that keeps the operations keeps the minors. -/
theorem m4_map (ha : ∀ x y, f (add x y) = add' (f x) (f y)) (hs : ∀ x y, f (sub x y) = sub' (f x) (f y))
    (hm : ∀ x y, f (mul x y) = mul' (f x) (f y)) (a b c d : Fin k) :
    f (m4 add sub mul s t u v a b c d)
      = m4 add' sub' mul' (fun j => f (s j)) (fun j => f (t j)) (fun j => f (u j)) (fun j => f (v j)) a b c d := by
  simp only [m4, m3, m2, ha, hs, hm]

theorem m5_map (ha : ∀ x y, f (add x y) = add' (f x) (f y)) (hs : ∀ x y, f (sub x y) = sub' (f x) (f y))
    (hm : ∀ x y, f (mul x y) = mul' (f x) (f y)) (a b c d e : Fin k) :
    f (m5 add sub mul r s t u v a b c d e)
      = m5 add' sub' mul' (fun j => f (r j)) (fun j => f (s j)) (fun j => f (t j)) (fun j => f (u j)) (fun j => f (v j)) a b c d e := by
  simp only [m5, m4_map s t u v f ha hs hm, ha, hs, hm]

end

/-- The determinant of order four. -/
theorem det_four (A : Matrix (Fin 4) (Fin 4) ℝ) :
    A.det = m4 (· + ·) (· - ·) (· * ·) (A 0) (A 1) (A 2) (A 3) 0 1 2 3 := by
  rw [Matrix.det_succ_row_zero, Fin.sum_univ_four]
  simp only [Matrix.det_fin_three]
  show (-1) ^ 0 * A 0 0 * (A 1 1 * A 2 2 * A 3 3 - A 1 1 * A 2 3 * A 3 2 - A 1 2 * A 2 1 * A 3 3 + A 1 2 * A 2 3 * A 3 1 + A 1 3 * A 2 1 * A 3 2 - A 1 3 * A 2 2 * A 3 1)
    + (-1) ^ 1 * A 0 1 * (A 1 0 * A 2 2 * A 3 3 - A 1 0 * A 2 3 * A 3 2 - A 1 2 * A 2 0 * A 3 3 + A 1 2 * A 2 3 * A 3 0 + A 1 3 * A 2 0 * A 3 2 - A 1 3 * A 2 2 * A 3 0)
    + (-1) ^ 2 * A 0 2 * (A 1 0 * A 2 1 * A 3 3 - A 1 0 * A 2 3 * A 3 1 - A 1 1 * A 2 0 * A 3 3 + A 1 1 * A 2 3 * A 3 0 + A 1 3 * A 2 0 * A 3 1 - A 1 3 * A 2 1 * A 3 0)
    + (-1) ^ 3 * A 0 3 * (A 1 0 * A 2 1 * A 3 2 - A 1 0 * A 2 2 * A 3 1 - A 1 1 * A 2 0 * A 3 2 + A 1 1 * A 2 2 * A 3 0 + A 1 2 * A 2 0 * A 3 1 - A 1 2 * A 2 1 * A 3 0) = _
  simp only [m4, m3, m2]
  ring

/-- The determinant of order five. -/
theorem det_five (A : Matrix (Fin 5) (Fin 5) ℝ) :
    A.det = m5 (· + ·) (· - ·) (· * ·) (A 0) (A 1) (A 2) (A 3) (A 4) 0 1 2 3 4 := by
  rw [Matrix.det_succ_row_zero, Fin.sum_univ_five]
  simp only [det_four]
  show (-1) ^ 0 * A 0 0 * m4 (· + ·) (· - ·) (· * ·) (A 1) (A 2) (A 3) (A 4) 1 2 3 4
    + (-1) ^ 1 * A 0 1 * m4 (· + ·) (· - ·) (· * ·) (A 1) (A 2) (A 3) (A 4) 0 2 3 4
    + (-1) ^ 2 * A 0 2 * m4 (· + ·) (· - ·) (· * ·) (A 1) (A 2) (A 3) (A 4) 0 1 3 4
    + (-1) ^ 3 * A 0 3 * m4 (· + ·) (· - ·) (· * ·) (A 1) (A 2) (A 3) (A 4) 0 1 2 4
    + (-1) ^ 4 * A 0 4 * m4 (· + ·) (· - ·) (· * ·) (A 1) (A 2) (A 3) (A 4) 0 1 2 3 = _
  unfold m5
  ring

end Cert.Spec

namespace Cert.RefOps

open Idealize.ShloMosaic Cert.KerOps

/-- The shape conditions of taking an entry out of each matrix of a stack. -/
structure EntryFacts (n k : ℕ) : Prop where
  sl : ∀ r j : Fin k, (S3 n k k).Slices ![0, (r : ℕ), (j : ℕ)] (S3 n 1 1)
  sc : (S3 n 1 1).ShapeCasts (S1 n)

/-- An entry of each matrix of a stack. -/
def entry {n k : ℕ} (h : EntryFacts n k) (g : FVec Ideal (S3 n k k) .f32) (r j : Fin k) : FVec Ideal (S1 n) .f32 :=
  shapeCast (S1 n) (extractStridedSlice (S3 n 1 1) ![0, (r : ℕ), (j : ℕ)] g (h.sl r j)) h.sc

theorem entry_apply {n k : ℕ} (h : EntryFacts n k) (g : FVec Ideal (S3 n k k) .f32) (r j : Fin k) (q : Fin n) :
    entry h g r j (ix1 q) = g (ix3 q r j) := by
  unfold entry
  rw [shapeCast_apply _ h.sc _ (ix3 q 0 0) (by
      rw [Shape.rowMajor_val_one, Shape.rowMajor_val_three]
      show (q.val * 1 + 0) * 1 + 0 = q.val
      omega), extractStridedSlice_apply _ _ (h.sl r j) _ (ix3 q r j) (fun a => by
      match a with
      | ⟨0, _⟩ => show q.val = 0 + q.val; omega
      | ⟨1, _⟩ => rfl
      | ⟨2, _⟩ => rfl)]

/-- The determinants of a stack of matrices of order four, expanded. -/
def detFour {n : ℕ} (h : EntryFacts n 4) (g : FVec Ideal (S3 n 4 4) .f32) : FVec Ideal (S1 n) .f32 :=
  Spec.m4 addf subf mulf (entry h g 0) (entry h g 1) (entry h g 2) (entry h g 3) 0 1 2 3

/-- The determinants of a stack of matrices of order five, expanded. -/
def detFive {n : ℕ} (h : EntryFacts n 5) (g : FVec Ideal (S3 n 5 5) .f32) : FVec Ideal (S1 n) .f32 :=
  Spec.m5 addf subf mulf (entry h g 0) (entry h g 1) (entry h g 2) (entry h g 3) (entry h g 4) 0 1 2 3 4

theorem detFour_coe {n : ℕ} (h : EntryFacts n 4) (g : FVec Ideal (S3 n 4 4) .f32) (q : Fin n) (A : Matrix (Fin 4) (Fin 4) ℝ)
    (hA : ∀ i j, g (ix3 q i j) = ((A i j : ℝ) : EReal)) : detFour h g (ix1 q) = ((A.det : ℝ) : EReal) := by
  unfold detFour
  rw [Spec.m4_map (add' := (· + · : EReal → EReal → EReal)) (sub' := (· - ·)) (mul' := (· * ·)) _ _ _ _
    (fun x : FVec Ideal (S1 n) .f32 => (x (ix1 q) : EReal)) (fun _ _ => rfl) (fun _ _ => rfl) (fun _ _ => rfl)]
  simp only [entry_apply, hA]
  rw [Spec.det_four, Spec.m4_map (add' := (· + · : EReal → EReal → EReal)) (sub' := (· - ·)) (mul' := (· * ·)) _ _ _ _
    (fun x : ℝ => (x : EReal)) EReal.coe_add EReal.coe_sub EReal.coe_mul]

theorem detFive_coe {n : ℕ} (h : EntryFacts n 5) (g : FVec Ideal (S3 n 5 5) .f32) (q : Fin n) (A : Matrix (Fin 5) (Fin 5) ℝ)
    (hA : ∀ i j, g (ix3 q i j) = ((A i j : ℝ) : EReal)) : detFive h g (ix1 q) = ((A.det : ℝ) : EReal) := by
  unfold detFive
  rw [Spec.m5_map (add' := (· + · : EReal → EReal → EReal)) (sub' := (· - ·)) (mul' := (· * ·)) _ _ _ _ _
    (fun x : FVec Ideal (S1 n) .f32 => (x (ix1 q) : EReal)) (fun _ _ => rfl) (fun _ _ => rfl) (fun _ _ => rfl)]
  simp only [entry_apply, hA]
  rw [Spec.det_five, Spec.m5_map (add' := (· + · : EReal → EReal → EReal)) (sub' := (· - ·)) (mul' := (· * ·)) _ _ _ _ _
    (fun x : ℝ => (x : EReal)) EReal.coe_add EReal.coe_sub EReal.coe_mul]

end Cert.RefOps

end
-- ==== Proof.RefSimplex.lean ====
module
public import proofs.«01_k».proof.Proof.RefNet
public import proofs.«01_k».proof.Proof.Laplace
@[expose] public section
set_option maxRecDepth 16384

/-!
# The reference's last step

The features of the reference, the Gram matrices of their differences, the determinants and their quotients.
-/

noncomputable section

namespace Cert.Spec

/-- The reference lays channels before positions: the place there of the feature `k` of the kernel. -/
def place : Fin 1600 ≃ Fin 1600 where
  toFun k := ⟨k.val % 64 * 25 + k.val / 64, by omega⟩
  invFun k := ⟨k.val % 25 * 64 + k.val / 25, by omega⟩
  left_inv k := Fin.ext (by
    have := k.isLt
    show (k.val % 64 * 25 + k.val / 64) % 25 * 64 + (k.val % 64 * 25 + k.val / 64) / 25 = k.val
    omega)
  right_inv k := Fin.ext (by
    have := k.isLt
    show (k.val % 25 * 64 + k.val / 25) % 64 * 25 + (k.val % 25 * 64 + k.val / 25) / 64 = k.val
    omega)

/-- The support features, channels before positions. -/
def supportRef (P : Net) (X : Img) : Fin 8 → Fin 5 → Fin 5 → Fin 1600 → ℝ := fun t i m k =>
  feats P 200 X (25 * t + 5 * m + i) (k / 25) (k % 25 / 5) (k % 5)

/-- The query features, channels before positions. -/
def queryRef (P : Net) (X : Img) : Fin 8 → Fin 15 → Fin 1600 → ℝ := fun t r k =>
  feats P 120 X (15 * t + r) (k / 25) (k % 25 / 5) (k % 5)

theorem supportRef_place (P : Net) (X : Img) (t : Fin 8) (i m : Fin 5) (k : Fin 1600) :
    supportRef P X t i m (place k) = support P X t i m k := by
  have hk := k.isLt
  show feats P 200 X _ ((k.val % 64 * 25 + k.val / 64) / 25) ((k.val % 64 * 25 + k.val / 64) % 25 / 5) ((k.val % 64 * 25 + k.val / 64) % 5)
    = feats P 200 X _ (k.val % 64) (k.val / 64 / 5) (k.val / 64 % 5)
  congr 1 <;> omega

theorem queryRef_place (P : Net) (X : Img) (t : Fin 8) (r : Fin 15) (k : Fin 1600) :
    queryRef P X t r (place k) = query P X t r k := by
  have hk := k.isLt
  show feats P 120 X _ ((k.val % 64 * 25 + k.val / 64) / 25) ((k.val % 64 * 25 + k.val / 64) % 25 / 5) ((k.val % 64 * 25 + k.val / 64) % 5)
    = feats P 120 X _ (k.val % 64) (k.val / 64 / 5) (k.val / 64 % 5)
  congr 1 <;> omega

/-- The order of the features is nothing to a Gram matrix. -/
theorem gram_place {n : ℕ} (v w : Fin n → Fin 1600 → ℝ) (h : ∀ i k, v i (place k) = w i k) : gram v = gram w := by
  funext i j
  show ∑ k, v i k * v j k = ∑ k, w i k * w j k
  rw [← Equiv.sum_comp place]
  exact Finset.sum_congr rfl fun k _ => by rw [h, h]

end Cert.Spec

namespace Cert.ReferenceIdeal.Read

open Idealize.ShloMosaic Cert.ReferenceIdeal Cert.RefOps

theorem e40 : EntryFacts 40 4 := by constructor <;> decide +kernel
theorem e600 : EntryFacts 600 5 := by constructor <;> decide +kernel

section
variable (x0 : (⟨S8x25x3x84x84, .f32⟩ : BufTy).Contents (Elt Ideal)) (x2 : (⟨S8x15x3x84x84, .f32⟩ : BufTy).Contents (Elt Ideal))
  (x3 : (⟨S64x3x3x3, .f32⟩ : BufTy).Contents (Elt Ideal)) (x4 x5 x6 : (⟨S64, .f32⟩ : BufTy).Contents (Elt Ideal))
  (x7 : (⟨S64x64x3x3, .f32⟩ : BufTy).Contents (Elt Ideal)) (x8 x9 x10 : (⟨S64, .f32⟩ : BufTy).Contents (Elt Ideal))
  (x11 : (⟨S64x64x3x3, .f32⟩ : BufTy).Contents (Elt Ideal)) (x12 x13 x14 : (⟨S64, .f32⟩ : BufTy).Contents (Elt Ideal))
  (x15 : (⟨S64x64x3x3, .f32⟩ : BufTy).Contents (Elt Ideal)) (x16 x17 x18 : (⟨S64, .f32⟩ : BufTy).Contents (Elt Ideal))

theorem vol_a : val_main_v704 (F := Ideal) x0 x3 x4 x5 x6 x7 x8 x9 x10 x11 x12 x13 x14 x15 x16 x17 x18
    = detFour e40 (val_main_v627 (F := Ideal) x0 x3 x4 x5 x6 x7 x8 x9 x10 x11 x12 x13 x14 x15 x16 x17 x18) := rfl
theorem vol_b : val_main_v886 (F := Ideal) x0 x2 x3 x4 x5 x6 x7 x8 x9 x10 x11 x12 x13 x14 x15 x16 x17 x18
    = detFive e600 (val_main_v712 (F := Ideal) x0 x2 x3 x4 x5 x6 x7 x8 x9 x10 x11 x12 x13 x14 x15 x16 x17 x18) := rfl

variable {x3 x4 x5 x6 x7 x8 x9 x10 x11 x12 x13 x14 x15 x16 x17 x18} {P : Spec.Net}
  (h : Reads x3 x4 x5 x6 x7 x8 x9 x10 x11 x12 x13 x14 x15 x16 x17 x18 P) (X Y : Spec.Img)
  (hx : ∀ n c i j, val_main_v0 (F := Ideal) x0 (ix4 n c i j) = ((X n c i j : ℝ) : EReal))
  (hy : ∀ n c i j, val_main_v311 (F := Ideal) x2 (ix4 n c i j) = ((Y n c i j : ℝ) : EReal))

include h hx in
/-- The support features at a task, class and position. -/
theorem sup_feat (t : Fin 8) (i m : Fin 5) (k : Fin 1600) :
    val_main_v310 (F := Ideal) x0 x3 x4 x5 x6 x7 x8 x9 x10 x11 x12 x13 x14 x15 x16 x17 x18 (ix3 t ⟨5 * m.val + i.val, by omega⟩ k)
      = ((Spec.supportRef P X t i m k : ℝ) : EReal) := by
  have hk := k.isLt
  refine (shapeCast_apply _ _ _ (ix2 (⟨25 * t.val + 5 * m.val + i.val, by omega⟩ : Fin 200) k) ?_).trans ?_
  · rw [Shape.rowMajor_val_two, Shape.rowMajor_val_three]
    show (25 * t.val + 5 * m.val + i.val) * 1600 + k.val = (t.val * 25 + (5 * m.val + i.val)) * 1600 + k.val
    omega
  refine (shapeCast_apply _ _ _ (ix4 (⟨25 * t.val + 5 * m.val + i.val, by omega⟩ : Fin 200) (⟨k.val / 25, by omega⟩ : Fin 64)
    (⟨k.val % 25 / 5, by omega⟩ : Fin 5) (⟨k.val % 5, by omega⟩ : Fin 5)) ?_).trans (sup_coe x0 h X hx _ _ _ _)
  rw [Shape.rowMajor_val_two, Shape.rowMajor_val_four]
  show (((25 * t.val + 5 * m.val + i.val) * 64 + k.val / 25) * 5 + k.val % 25 / 5) * 5 + k.val % 5 = (25 * t.val + 5 * m.val + i.val) * 1600 + k.val
  omega

include h hy in
/-- The query features at a task and query. -/
theorem qry_feat (t : Fin 8) (r : Fin 15) (k : Fin 1600) :
    val_main_v621 (F := Ideal) x2 x3 x4 x5 x6 x7 x8 x9 x10 x11 x12 x13 x14 x15 x16 x17 x18 (ix3 t r k)
      = ((Spec.queryRef P Y t r k : ℝ) : EReal) := by
  have hk := k.isLt
  refine (shapeCast_apply _ _ _ (ix2 (⟨15 * t.val + r.val, by omega⟩ : Fin 120) k) ?_).trans ?_
  · rw [Shape.rowMajor_val_two, Shape.rowMajor_val_three]
    show (15 * t.val + r.val) * 1600 + k.val = (t.val * 15 + r.val) * 1600 + k.val
    omega
  refine (shapeCast_apply _ _ _ (ix4 (⟨15 * t.val + r.val, by omega⟩ : Fin 120) (⟨k.val / 25, by omega⟩ : Fin 64)
    (⟨k.val % 25 / 5, by omega⟩ : Fin 5) (⟨k.val % 5, by omega⟩ : Fin 5)) ?_).trans (qry_coe x2 h Y hy _ _ _ _)
  rw [Shape.rowMajor_val_two, Shape.rowMajor_val_four]
  show (((15 * t.val + r.val) * 64 + k.val / 25) * 5 + k.val % 25 / 5) * 5 + k.val % 5 = (15 * t.val + r.val) * 1600 + k.val
  omega

include h hx in
/-- The support features regrouped by task and class. -/
theorem sup_rows (t : Fin 8) (i m : Fin 5) (k : Fin 1600) :
    val_main_v622 (F := Ideal) x0 x3 x4 x5 x6 x7 x8 x9 x10 x11 x12 x13 x14 x15 x16 x17 x18
      (ix3 (⟨t.val * 5 + m.val, by omega⟩ : Fin 40) i k) = ((Spec.supportRef P X t i m k : ℝ) : EReal) := by
  refine (shapeCast_apply _ _ _ (ix3 t (⟨5 * m.val + i.val, by omega⟩ : Fin 25) k) ?_).trans (sup_feat x0 h X hx t i m k)
  rw [Shape.rowMajor_val_three, Shape.rowMajor_val_three]
  show (t.val * 25 + (5 * m.val + i.val)) * 1600 + k.val = ((t.val * 5 + m.val) * 5 + i.val) * 1600 + k.val
  omega

include h hx in
/-- The positions after the first less the first. -/
theorem sup_edges (t : Fin 8) (i : Fin 4) (m : Fin 5) (k : Fin 1600) :
    val_main_v626 (F := Ideal) x0 x3 x4 x5 x6 x7 x8 x9 x10 x11 x12 x13 x14 x15 x16 x17 x18
      (ix3 (⟨t.val * 5 + m.val, by omega⟩ : Fin 40) i k)
      = ((Spec.supportRef P X t i.succ m k - Spec.supportRef P X t 0 m k : ℝ) : EReal) := by
  rw [val_main_v626_apply, val_main_v623_apply, val_main_v625_apply, val_main_v624_apply, EReal.coe_sub,
    ← sup_rows x0 h X hx t i.succ m k, ← sup_rows x0 h X hx t 0 m k]
  congr 2
  · funext a
    match a with
    | ⟨0, _⟩ => rfl
    | ⟨1, _⟩ => exact Fin.ext (Nat.add_comm 1 i.val)
    | ⟨2, _⟩ => rfl
  · funext a
    match a with
    | ⟨0, _⟩ => rfl
    | ⟨1, _⟩ => rfl
    | ⟨2, _⟩ => rfl

include h hx in
/-- The squared volume of a class. -/
theorem sup_vol (t : Fin 8) (m : Fin 5) :
    val_main_v704 (F := Ideal) x0 x3 x4 x5 x6 x7 x8 x9 x10 x11 x12 x13 x14 x15 x16 x17 x18 (ix1 (⟨t.val * 5 + m.val, by omega⟩ : Fin 40))
      = (((Spec.gram fun (i : Fin 4) k => Spec.supportRef P X t i.succ m k - Spec.supportRef P X t 0 m k).det : ℝ) : EReal) := by
  rw [vol_a]
  refine detFour_coe e40 _ _ _ fun i j => ?_
  rw [val_main_v627_apply]
  show _ = ((∑ k, _ : ℝ) : EReal)
  rw [Reals.coe_sum]
  refine Finset.sum_congr rfl fun k _ => ?_
  rw [EReal.coe_mul, ← sup_edges x0 h X hx, ← sup_edges x0 h X hx]
  congr 2
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

include h hx hy in
/-- The positions less a query. -/
theorem diff_rows (t : Fin 8) (r : Fin 15) (i m : Fin 5) (k : Fin 1600) :
    val_main_v711 (F := Ideal) x0 x2 x3 x4 x5 x6 x7 x8 x9 x10 x11 x12 x13 x14 x15 x16 x17 x18
      (ix3 (⟨(t.val * 15 + r.val) * 5 + m.val, by omega⟩ : Fin 600) i k)
      = ((Spec.supportRef P X t i m k - Spec.queryRef P Y t r k : ℝ) : EReal) := by
  refine (shapeCast_apply _ _ _ (ix4 t r (⟨5 * m.val + i.val, by omega⟩ : Fin 25) k) ?_).trans ?_
  · rw [Shape.rowMajor_val_three, Shape.rowMajor_val_four]
    show ((t.val * 15 + r.val) * 25 + (5 * m.val + i.val)) * 1600 + k.val = (((t.val * 15 + r.val) * 5 + m.val) * 5 + i.val) * 1600 + k.val
    omega
  rw [val_main_v710_apply, val_main_v708_apply, val_main_v706_apply, val_main_v709_apply, val_main_v707_apply, EReal.coe_sub,
    ← sup_feat x0 h X hx, ← qry_feat x2 h Y hy]
  congr 2
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

include h hx hy in
/-- The squared volume with a query. -/
theorem diff_vol (t : Fin 8) (r : Fin 15) (m : Fin 5) :
    val_main_v886 (F := Ideal) x0 x2 x3 x4 x5 x6 x7 x8 x9 x10 x11 x12 x13 x14 x15 x16 x17 x18
      (ix1 (⟨(t.val * 15 + r.val) * 5 + m.val, by omega⟩ : Fin 600))
      = (((Spec.gram fun i k => Spec.supportRef P X t i m k - Spec.queryRef P Y t r k).det : ℝ) : EReal) := by
  rw [vol_b]
  refine detFive_coe e600 _ _ _ fun i j => ?_
  rw [val_main_v712_apply]
  show _ = ((∑ k, _ : ℝ) : EReal)
  rw [Reals.coe_sum]
  refine Finset.sum_congr rfl fun k _ => ?_
  rw [EReal.coe_mul, ← diff_rows x0 x2 h X Y hx hy, ← diff_rows x0 x2 h X Y hx hy]
  congr 2
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl

include h hx hy in
/-- The reference's result: the negated quotients of the squared volumes. -/
theorem reference_value (t : Fin 8) (r : Fin 15) (m : Fin 5) :
    val_main_v891 (F := Ideal) x0 x2 x3 x4 x5 x6 x7 x8 x9 x10 x11 x12 x13 x14 x15 x16 x17 x18 (ix3 t r m)
      = -Ideal.div (((Spec.gram fun i k => Spec.support P X t i m k - Spec.query P Y t r k).det : ℝ) : EReal)
          (((Spec.gram fun (i : Fin 4) k => Spec.support P X t i.succ m k - Spec.support P X t 0 m k).det : ℝ) : EReal) := by
  have ea : val_main_v889 (F := Ideal) x0 x3 x4 x5 x6 x7 x8 x9 x10 x11 x12 x13 x14 x15 x16 x17 x18 (ix3 t r m)
      = val_main_v704 (F := Ideal) x0 x3 x4 x5 x6 x7 x8 x9 x10 x11 x12 x13 x14 x15 x16 x17 x18 (ix1 (⟨t.val * 5 + m.val, by omega⟩ : Fin 40)) := by
    rw [val_main_v889_apply, val_main_v888_apply, val_main_v705_apply]
    congr 1
    funext a
    match a with
    | ⟨0, _⟩ => rfl
  have eb : val_main_v887 (F := Ideal) x0 x2 x3 x4 x5 x6 x7 x8 x9 x10 x11 x12 x13 x14 x15 x16 x17 x18 (ix3 t r m)
      = val_main_v886 (F := Ideal) x0 x2 x3 x4 x5 x6 x7 x8 x9 x10 x11 x12 x13 x14 x15 x16 x17 x18
        (ix1 (⟨(t.val * 15 + r.val) * 5 + m.val, by omega⟩ : Fin 600)) := by
    refine shapeCast_apply _ _ _ _ ?_
    rw [Shape.rowMajor_val_one, Shape.rowMajor_val_three]
    rfl
  rw [val_main_v891_apply, val_main_v890_apply, ea, eb, sup_vol x0 h X hx, diff_vol x0 x2 h X Y hx hy]
  rw [Spec.gram_place (fun i k => Spec.supportRef P X t i m k - Spec.queryRef P Y t r k) (fun i k => Spec.support P X t i m k - Spec.query P Y t r k)
      (fun i k => by rw [Spec.supportRef_place, Spec.queryRef_place]),
    Spec.gram_place (fun (i : Fin 4) k => Spec.supportRef P X t i.succ m k - Spec.supportRef P X t 0 m k)
      (fun i k => Spec.support P X t i.succ m k - Spec.support P X t 0 m k) (fun i k => by rw [Spec.supportRef_place, Spec.supportRef_place])]
  rfl

end

end Cert.ReferenceIdeal.Read

end
-- ==== Proof.RefEnd.lean ====
module
public import proofs.«01_k».proof.Proof.Gen.ReferenceIdeal.Run
public import proofs.«01_k».proof.Proof.Gen.ReferenceIdeal.Read
@[expose] public section
set_option maxRecDepth 16384

/-!
# The reference's run

Every run of the reference ends with its result at the reference's function of the arguments, which are as they were.
-/

noncomputable section

namespace Cert.ReferenceIdeal.Read

open Idealize.ShloMosaic Idealize.ShloMosaic.StableHlo Idealize.SL.Sem Cert.ReferenceIdeal

variable (m : (ℓ : Loc nD τ sig) → Buf (Elt Ideal) ℓ) (ρ : Dev nD → PrngReg)

/-- The reference's result as a function of a device's arguments. -/
def result (c : Dev nD) : (⟨S8x15x5, .f32⟩ : BufTy).Contents (Elt Ideal) :=
  val_main_v891 (F := Ideal) (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))
    (m ((c.tc : Thread nD τ).loc main_arg13)) (m ((c.tc : Thread nD τ).loc main_arg14)) (m ((c.tc : Thread nD τ).loc main_arg15))
    (m ((c.tc : Thread nD τ).loc main_arg16)) (m ((c.tc : Thread nD τ).loc main_arg17)) (m ((c.tc : Thread nD τ).loc main_arg18))

/-- Every run of the reference ends with the result at its function of the arguments and every argument as it was. -/
theorem reference_run : θ_run defs (onTc (τ := τ) (main (F := Ideal))) ⟨m, fun _ => 0, ρ⟩ (fun r => ∀ c : Dev nD,
      r.2.mem ((c.tc : Thread nD τ).loc main_v891) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c).1.trans (val_main_v891_eq (launchContents m c)), (h c).2⟩)
    (Value.run (F := Ideal) m ρ)

end Cert.ReferenceIdeal.Read
-- ==== Proof.Agree.lean ====
module
public import proofs.«01_k».proof.Defs
public import proofs.«01_k».proof.Proof.Finite
public import proofs.«01_k».proof.Proof.KerEnd
public import proofs.«01_k».proof.Proof.RefSimplex
public import proofs.«01_k».proof.Proof.RefEnd
@[expose] public section
set_option maxRecDepth 16384

/-!
# Kernel and reference agree

On finite arguments both programs end with the negated quotients of the same Gram determinants of the same features.
-/

noncomputable section

namespace Cert.Agree

open Idealize.ShloMosaic Idealize.ShloMosaic.TcCoe Idealize.SL.Sem Cert.KernelIdeal Cert.KernelIdeal.Gen Cert.RefOps Cert.KerOps

variable (m : (ℓ : Loc nD τ sig) → Buf (Elt Ideal) ℓ) (ρ : Dev nD → PrngReg) (c : Dev nD)

/-- The reference's function of the kernel's arguments is the array the kernel leaves, when these are finite. -/
theorem values_agree (h : Pre_KernelIdeal_finite m)
    (x0 : FVec Ideal S8x25x3x84x84 .f32) (x2 : FVec Ideal S8x15x3x84x84 .f32) (x3 : FVec Ideal (S4 64 3 3 3) .f32)
    (x4 x5 x6 : FVec Ideal (S1 64) .f32) (x7 : FVec Ideal (S4 64 64 3 3) .f32) (x8 x9 x10 : FVec Ideal (S1 64) .f32)
    (x11 : FVec Ideal (S4 64 64 3 3) .f32) (x12 x13 x14 : FVec Ideal (S1 64) .f32) (x15 : FVec Ideal (S4 64 64 3 3) .f32)
    (x16 x17 x18 : FVec Ideal (S1 64) .f32)
    (e0 : x0 = m ((c : Thread nD τ).loc main_arg0))
    (e2 : x2 = m ((c : Thread nD τ).loc main_arg2))
    (e3 : x3 = m ((c : Thread nD τ).loc main_arg3))
    (e4 : x4 = m ((c : Thread nD τ).loc main_arg4))
    (e5 : x5 = m ((c : Thread nD τ).loc main_arg5))
    (e6 : x6 = m ((c : Thread nD τ).loc main_arg6))
    (e7 : x7 = m ((c : Thread nD τ).loc main_arg7))
    (e8 : x8 = m ((c : Thread nD τ).loc main_arg8))
    (e9 : x9 = m ((c : Thread nD τ).loc main_arg9))
    (e10 : x10 = m ((c : Thread nD τ).loc main_arg10))
    (e11 : x11 = m ((c : Thread nD τ).loc main_arg11))
    (e12 : x12 = m ((c : Thread nD τ).loc main_arg12))
    (e13 : x13 = m ((c : Thread nD τ).loc main_arg13))
    (e14 : x14 = m ((c : Thread nD τ).loc main_arg14))
    (e15 : x15 = m ((c : Thread nD τ).loc main_arg15))
    (e16 : x16 = m ((c : Thread nD τ).loc main_arg16))
    (e17 : x17 = m ((c : Thread nD τ).loc main_arg17))
    (e18 : x18 = m ((c : Thread nD τ).loc main_arg18)) :
    Cert.ReferenceIdeal.Read.val_main_v891 (F := Ideal) x0 x2 x3 x4 x5 x6 x7 x8 x9 x10 x11 x12 x13 x14 x15 x16 x17 x18
      = W22 m ρ c (Proc.devRef .tc main_v43) := by
  obtain ⟨P, X, Y, hi⟩ := inputs_of_finite m h c
  subst e0 e2 e3 e4 e5 e6 e7 e8 e9 e10 e11 e12 e13 e14 e15 e16 e17 e18
  funext (x : (S3 8 15 5).Idx)
  refine Eq.trans ?_ (kernel_value m ρ c X hi.params Y hi.support hi.query x).symm
  have ex : x = ix3 (x 0) (x 1) (x 2) := eq_ix3 x
  refine (congrArg _ ex).trans ((Cert.ReferenceIdeal.Read.reference_value _ _ hi.params X Y hi.support hi.query (x 0) (x 1) (x 2)).trans ?_)
  exact (zero_sub _).symm

/-- The value claim: from finite arguments both programs end, with the same result and their arguments kept. -/
theorem algebraic : algebraic_KernelIdeal_ReferenceIdeal_pre_finite := by
  intro m g m' g' h hargs
  have agree (c : Dev nD) : Cert.ReferenceIdeal.Read.result m' c = W22 m g c (Proc.devRef .tc main_v43) := by
    obtain ⟨e0, _, e2, e3, e4, e5, e6, e7, e8, e9, e10, e11, e12, e13, e14, e15, e16, e17, e18⟩ := hargs c
    exact values_agree m g c h _ _ _ _ _ _ _ _ _ _ _ _ _ _ _ _ _ _ e0 e2 e3 e4 e5 e6 e7 e8 e9 e10 e11 e12 e13 e14 e15 e16 e17 e18
  exact ⟨fun c => W22 m g c (Proc.devRef .tc main_v43), kernel_run m g,
    (θ_run _ _ _).mono (fun _ hr c => ⟨(hr c).1.trans (agree c), (hr c).2⟩) (Cert.ReferenceIdeal.Read.reference_run m' g')⟩

end Cert.Agree
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Agree

@[expose] public section

noncomputable section

namespace Cert.Proof

open Idealize.ShloMosaic Idealize.SL.Sem

/-- Every run of the idealized reference ends with its arguments as they were and, as it has no semaphore, every counter zero. -/
theorem reference_frame : Cert.quiescent_ReferenceIdeal := fun m ρ _ =>
  (θ_run _ _ _).mono (fun r h => ⟨fun c => (h c).2, sem_eq_zero_of_no_sems (by decide) r.2⟩)
    (Cert.ReferenceIdeal.Read.reference_run m ρ)

/-- Everything the certificate states. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, Cert.Agree.algebraic⟩

end Cert.Proof

end
